-- ==== Defs.lean ====
def Pre_Diff (m : (ℓ : Loc Cert.Diff.nD Cert.Diff.τ Cert.Diff.sig) → Buf (Elt Bits) ℓ) : Prop :=
  True

def Pre_DiffIdeal (m : (ℓ : Loc Cert.DiffIdeal.nD Cert.DiffIdeal.τ Cert.DiffIdeal.sig) → Buf (Elt Ideal) ℓ) : Prop :=
  True

def Pre_DiffIdeal_diff_finite [hPre_diff_finite : Cert.Pre_diff_finite.Facts] (m : (ℓ : Loc Cert.DiffIdeal.nD Cert.DiffIdeal.τ Cert.DiffIdeal.sig) → Buf (Elt Ideal) ℓ) : Prop :=
  ∀ c : Dev Cert.DiffIdeal.nD,
    (Cert.Pre_diff_finite.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3)) (m ((c.tc : Thread Cert.DiffIdeal.nD Cert.DiffIdeal.τ).loc Cert.DiffIdeal.main_arg4)) (m ((c.tc : Thread Cert.DiffIdeal.nD Cert.DiffIdeal.τ).loc Cert.DiffIdeal.main_arg5)) (m ((c.tc : Thread Cert.DiffIdeal.nD Cert.DiffIdeal.τ).loc Cert.DiffIdeal.main_arg6)) (m ((c.tc : Thread Cert.DiffIdeal.nD Cert.DiffIdeal.τ).loc Cert.DiffIdeal.main_arg7))) = (fun _ => 1#1)

def Pre_DiffRefIdeal (m : (ℓ : Loc Cert.DiffRefIdeal.nD Cert.DiffRefIdeal.τ Cert.DiffRefIdeal.sig) → Buf (Elt Ideal) ℓ) : Prop :=
  True

def Pre_DiffRefIdeal_diff_finite [hPre_diff_finite : Cert.Pre_diff_finite.Facts] (m : (ℓ : Loc Cert.DiffRefIdeal.nD Cert.DiffRefIdeal.τ Cert.DiffRefIdeal.sig) → Buf (Elt Ideal) ℓ) : Prop :=
  ∀ c : Dev Cert.DiffRefIdeal.nD,
    (Cert.Pre_diff_finite.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5)) (m ((c.tc : Thread Cert.DiffRefIdeal.nD Cert.DiffRefIdeal.τ).loc Cert.DiffRefIdeal.main_arg6)) (m ((c.tc : Thread Cert.DiffRefIdeal.nD Cert.DiffRefIdeal.τ).loc Cert.DiffRefIdeal.main_arg7))) = (fun _ => 1#1)

def Pre_Gqa (m : (ℓ : Loc Cert.Gqa.nD Cert.Gqa.τ Cert.Gqa.sig) → Buf (Elt Bits) ℓ) : Prop :=
  True

def Pre_GqaIdeal (m : (ℓ : Loc Cert.GqaIdeal.nD Cert.GqaIdeal.τ Cert.GqaIdeal.sig) → Buf (Elt Ideal) ℓ) : Prop :=
  True

def Pre_GqaIdeal_gqa_finite [hPre_gqa_finite : Cert.Pre_gqa_finite.Facts] (m : (ℓ : Loc Cert.GqaIdeal.nD Cert.GqaIdeal.τ Cert.GqaIdeal.sig) → Buf (Elt Ideal) ℓ) : Prop :=
  ∀ c : Dev Cert.GqaIdeal.nD,
    (Cert.Pre_gqa_finite.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2))) = (fun _ => 1#1)

def Pre_GqaRefIdeal (m : (ℓ : Loc Cert.GqaRefIdeal.nD Cert.GqaRefIdeal.τ Cert.GqaRefIdeal.sig) → Buf (Elt Ideal) ℓ) : Prop :=
  True

def Pre_GqaRefIdeal_gqa_finite [hPre_gqa_finite : Cert.Pre_gqa_finite.Facts] (m : (ℓ : Loc Cert.GqaRefIdeal.nD Cert.GqaRefIdeal.τ Cert.GqaRefIdeal.sig) → Buf (Elt Ideal) ℓ) : Prop :=
  ∀ c : Dev Cert.GqaRefIdeal.nD,
    (Cert.Pre_gqa_finite.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2))) = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Lat (m : (ℓ : Loc Cert.Lat.nD Cert.Lat.τ Cert.Lat.sig) → Buf (Elt Bits) ℓ) : Prop :=
  True

def Pre_LatIdeal (m : (ℓ : Loc Cert.LatIdeal.nD Cert.LatIdeal.τ Cert.LatIdeal.sig) → Buf (Elt Ideal) ℓ) : Prop :=
  True

def Pre_LatRefIdeal (m : (ℓ : Loc Cert.LatRefIdeal.nD Cert.LatRefIdeal.τ Cert.LatRefIdeal.sig) → Buf (Elt Ideal) ℓ) : Prop :=
  True

def Pre_Inp (m : (ℓ : Loc Cert.Inp.nD Cert.Inp.τ Cert.Inp.sig) → Buf (Elt Bits) ℓ) : Prop :=
  True

def Pre_InpIdeal (m : (ℓ : Loc Cert.InpIdeal.nD Cert.InpIdeal.τ Cert.InpIdeal.sig) → Buf (Elt Ideal) ℓ) : Prop :=
  True

def Pre_InpRefIdeal (m : (ℓ : Loc Cert.InpRefIdeal.nD Cert.InpRefIdeal.τ Cert.InpRefIdeal.sig) → Buf (Elt Ideal) ℓ) : Prop :=
  True

def Pre_Fin (m : (ℓ : Loc Cert.Fin.nD Cert.Fin.τ Cert.Fin.sig) → Buf (Elt Bits) ℓ) : Prop :=
  True

def Pre_FinIdeal (m : (ℓ : Loc Cert.FinIdeal.nD Cert.FinIdeal.τ Cert.FinIdeal.sig) → Buf (Elt Ideal) ℓ) : Prop :=
  True

def Pre_FinRefIdeal (m : (ℓ : Loc Cert.FinRefIdeal.nD Cert.FinRefIdeal.τ Cert.FinRefIdeal.sig) → Buf (Elt Ideal) ℓ) : Prop :=
  True

def quiescent_Diff [hDiff : Cert.Diff.Facts] : Prop :=
  ∀ (m : (ℓ : Loc Cert.Diff.nD Cert.Diff.τ Cert.Diff.sig) → Buf (Elt Bits) ℓ) (g : Dev Cert.Diff.nD → PrngReg), Pre_Diff m →
    θ_run (Cert.Diff.defs (F := Bits)) (onTc (τ := Cert.Diff.τ) (Cert.Diff.main (F := Bits))) ⟨m, fun _ => 0, g⟩ (fun r => (∀ c : Dev Cert.Diff.nD,
      r.2.mem ((c.tc : Thread Cert.Diff.nD Cert.Diff.τ).loc Cert.Diff.main_arg0) = m ((c.tc : Thread Cert.Diff.nD Cert.Diff.τ).loc Cert.Diff.main_arg0)
      ∧ r.2.mem ((c.tc : Thread Cert.Diff.nD Cert.Diff.τ).loc Cert.Diff.main_arg1) = m ((c.tc : Thread Cert.Diff.nD Cert.Diff.τ).loc Cert.Diff.main_arg1)
      ∧ r.2.mem ((c.tc : Thread Cert.Diff.nD Cert.Diff.τ).loc Cert.Diff.main_arg2) = m ((c.tc : Thread Cert.Diff.nD Cert.Diff.τ).loc Cert.Diff.main_arg2)
      ∧ r.2.mem ((c.tc : Thread Cert.Diff.nD Cert.Diff.τ).loc Cert.Diff.main_arg3) = m ((c.tc : Thread Cert.Diff.nD Cert.Diff.τ).loc Cert.Diff.main_arg3)
      ∧ r.2.mem ((c.tc : Thread Cert.Diff.nD Cert.Diff.τ).loc Cert.Diff.main_arg4) = m ((c.tc : Thread Cert.Diff.nD Cert.Diff.τ).loc Cert.Diff.main_arg4)
      ∧ r.2.mem ((c.tc : Thread Cert.Diff.nD Cert.Diff.τ).loc Cert.Diff.main_arg5) = m ((c.tc : Thread Cert.Diff.nD Cert.Diff.τ).loc Cert.Diff.main_arg5)
      ∧ r.2.mem ((c.tc : Thread Cert.Diff.nD Cert.Diff.τ).loc Cert.Diff.main_arg6) = m ((c.tc : Thread Cert.Diff.nD Cert.Diff.τ).loc Cert.Diff.main_arg6)
      ∧ r.2.mem ((c.tc : Thread Cert.Diff.nD Cert.Diff.τ).loc Cert.Diff.main_arg7) = m ((c.tc : Thread Cert.Diff.nD Cert.Diff.τ).loc Cert.Diff.main_arg7))
      ∧ r.2.sem = fun _ => 0)

def quiescent_DiffIdeal [hDiffIdeal : Cert.DiffIdeal.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
      ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5)
      ∧ r.2.mem ((c.tc : Thread Cert.DiffIdeal.nD Cert.DiffIdeal.τ).loc Cert.DiffIdeal.main_arg6) = m ((c.tc : Thread Cert.DiffIdeal.nD Cert.DiffIdeal.τ).loc Cert.DiffIdeal.main_arg6)
      ∧ r.2.mem ((c.tc : Thread Cert.DiffIdeal.nD Cert.DiffIdeal.τ).loc Cert.DiffIdeal.main_arg7) = m ((c.tc : Thread Cert.DiffIdeal.nD Cert.DiffIdeal.τ).loc Cert.DiffIdeal.main_arg7))
      ∧ r.2.sem = fun _ => 0)

def quiescent_DiffIdeal_pre_diff_finite [hDiffIdeal : Cert.DiffIdeal.Facts] [hPre_diff_finite : Cert.Pre_diff_finite.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal_diff_finite m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
      ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
      ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5)
      ∧ r.2.mem ((c.tc : Thread Cert.DiffIdeal.nD Cert.DiffIdeal.τ).loc Cert.DiffIdeal.main_arg6) = m ((c.tc : Thread Cert.DiffIdeal.nD Cert.DiffIdeal.τ).loc Cert.DiffIdeal.main_arg6)
      ∧ r.2.mem ((c.tc : Thread Cert.DiffIdeal.nD Cert.DiffIdeal.τ).loc Cert.DiffIdeal.main_arg7) = m ((c.tc : Thread Cert.DiffIdeal.nD Cert.DiffIdeal.τ).loc Cert.DiffIdeal.main_arg7))
      ∧ r.2.sem = fun _ => 0)

def quiescent_DiffRefIdeal [hDiffRefIdeal : Cert.DiffRefIdeal.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4)
      ∧ r.2.mem ((c.tc : Thread Cert.DiffRefIdeal.nD Cert.DiffRefIdeal.τ).loc Cert.DiffRefIdeal.main_arg5) = m ((c.tc : Thread Cert.DiffRefIdeal.nD Cert.DiffRefIdeal.τ).loc Cert.DiffRefIdeal.main_arg5)
      ∧ r.2.mem ((c.tc : Thread Cert.DiffRefIdeal.nD Cert.DiffRefIdeal.τ).loc Cert.DiffRefIdeal.main_arg6) = m ((c.tc : Thread Cert.DiffRefIdeal.nD Cert.DiffRefIdeal.τ).loc Cert.DiffRefIdeal.main_arg6)
      ∧ r.2.mem ((c.tc : Thread Cert.DiffRefIdeal.nD Cert.DiffRefIdeal.τ).loc Cert.DiffRefIdeal.main_arg7) = m ((c.tc : Thread Cert.DiffRefIdeal.nD Cert.DiffRefIdeal.τ).loc Cert.DiffRefIdeal.main_arg7))
      ∧ r.2.sem = fun _ => 0)

def quiescent_DiffRefIdeal_pre_diff_finite [hDiffRefIdeal : Cert.DiffRefIdeal.Facts] [hPre_diff_finite : Cert.Pre_diff_finite.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal_diff_finite m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4)
      ∧ r.2.mem ((c.tc : Thread Cert.DiffRefIdeal.nD Cert.DiffRefIdeal.τ).loc Cert.DiffRefIdeal.main_arg5) = m ((c.tc : Thread Cert.DiffRefIdeal.nD Cert.DiffRefIdeal.τ).loc Cert.DiffRefIdeal.main_arg5)
      ∧ r.2.mem ((c.tc : Thread Cert.DiffRefIdeal.nD Cert.DiffRefIdeal.τ).loc Cert.DiffRefIdeal.main_arg6) = m ((c.tc : Thread Cert.DiffRefIdeal.nD Cert.DiffRefIdeal.τ).loc Cert.DiffRefIdeal.main_arg6)
      ∧ r.2.mem ((c.tc : Thread Cert.DiffRefIdeal.nD Cert.DiffRefIdeal.τ).loc Cert.DiffRefIdeal.main_arg7) = m ((c.tc : Thread Cert.DiffRefIdeal.nD Cert.DiffRefIdeal.τ).loc Cert.DiffRefIdeal.main_arg7))
      ∧ r.2.sem = fun _ => 0)

def quiescent_Gqa [hGqa : Cert.Gqa.Facts] : Prop :=
  ∀ (m : (ℓ : Loc Cert.Gqa.nD Cert.Gqa.τ Cert.Gqa.sig) → Buf (Elt Bits) ℓ) (g : Dev Cert.Gqa.nD → PrngReg), Pre_Gqa m →
    θ_run (Cert.Gqa.defs (F := Bits)) (onTc (τ := Cert.Gqa.τ) (Cert.Gqa.main (F := Bits))) ⟨m, fun _ => 0, g⟩ (fun r => (∀ c : Dev Cert.Gqa.nD,
      r.2.mem ((c.tc : Thread Cert.Gqa.nD Cert.Gqa.τ).loc Cert.Gqa.main_arg0) = m ((c.tc : Thread Cert.Gqa.nD Cert.Gqa.τ).loc Cert.Gqa.main_arg0)
      ∧ r.2.mem ((c.tc : Thread Cert.Gqa.nD Cert.Gqa.τ).loc Cert.Gqa.main_arg1) = m ((c.tc : Thread Cert.Gqa.nD Cert.Gqa.τ).loc Cert.Gqa.main_arg1)
      ∧ r.2.mem ((c.tc : Thread Cert.Gqa.nD Cert.Gqa.τ).loc Cert.Gqa.main_arg2) = m ((c.tc : Thread Cert.Gqa.nD Cert.Gqa.τ).loc Cert.Gqa.main_arg2))
      ∧ r.2.sem = fun _ => 0)

def quiescent_GqaIdeal [hGqaIdeal : Cert.GqaIdeal.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2))
      ∧ r.2.sem = fun _ => 0)

def quiescent_GqaIdeal_pre_gqa_finite [hGqaIdeal : Cert.GqaIdeal.Facts] [hPre_gqa_finite : Cert.Pre_gqa_finite.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal_gqa_finite m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2))
      ∧ r.2.sem = fun _ => 0)

def quiescent_GqaRefIdeal [hGqaRefIdeal : Cert.GqaRefIdeal.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2))
      ∧ r.2.sem = fun _ => 0)

def quiescent_GqaRefIdeal_pre_gqa_finite [hGqaRefIdeal : Cert.GqaRefIdeal.Facts] [hPre_gqa_finite : Cert.Pre_gqa_finite.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal_gqa_finite m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12)
      ∧ r.2.mem ((c.tc : Thread Cert.Mix.nD Cert.Mix.τ).loc Cert.Mix.main_arg13) = m ((c.tc : Thread Cert.Mix.nD Cert.Mix.τ).loc Cert.Mix.main_arg13)
      ∧ r.2.mem ((c.tc : Thread Cert.Mix.nD Cert.Mix.τ).loc Cert.Mix.main_arg14) = m ((c.tc : Thread Cert.Mix.nD Cert.Mix.τ).loc Cert.Mix.main_arg14))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
      ∧ r.2.mem ((c.tc : Thread Cert.MixIdeal.nD Cert.MixIdeal.τ).loc Cert.MixIdeal.main_arg14) = m ((c.tc : Thread Cert.MixIdeal.nD Cert.MixIdeal.τ).loc Cert.MixIdeal.main_arg14))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12)
      ∧ r.2.mem ((c.tc : Thread Cert.MixRefIdeal.nD Cert.MixRefIdeal.τ).loc Cert.MixRefIdeal.main_arg13) = m ((c.tc : Thread Cert.MixRefIdeal.nD Cert.MixRefIdeal.τ).loc Cert.MixRefIdeal.main_arg13)
      ∧ r.2.mem ((c.tc : Thread Cert.MixRefIdeal.nD Cert.MixRefIdeal.τ).loc Cert.MixRefIdeal.main_arg14) = m ((c.tc : Thread Cert.MixRefIdeal.nD Cert.MixRefIdeal.τ).loc Cert.MixRefIdeal.main_arg14))
      ∧ r.2.sem = fun _ => 0)

def quiescent_Lat [hLat : Cert.Lat.Facts] : Prop :=
  ∀ (m : (ℓ : Loc Cert.Lat.nD Cert.Lat.τ Cert.Lat.sig) → Buf (Elt Bits) ℓ) (g : Dev Cert.Lat.nD → PrngReg), Pre_Lat m →
    θ_run (Cert.Lat.defs (F := Bits)) (onTc (τ := Cert.Lat.τ) (Cert.Lat.main (F := Bits))) ⟨m, fun _ => 0, g⟩ (fun r => (∀ c : Dev Cert.Lat.nD,
      r.2.mem ((c.tc : Thread Cert.Lat.nD Cert.Lat.τ).loc Cert.Lat.main_arg0) = m ((c.tc : Thread Cert.Lat.nD Cert.Lat.τ).loc Cert.Lat.main_arg0)
      ∧ r.2.mem ((c.tc : Thread Cert.Lat.nD Cert.Lat.τ).loc Cert.Lat.main_arg1) = m ((c.tc : Thread Cert.Lat.nD Cert.Lat.τ).loc Cert.Lat.main_arg1)
      ∧ r.2.mem ((c.tc : Thread Cert.Lat.nD Cert.Lat.τ).loc Cert.Lat.main_arg2) = m ((c.tc : Thread Cert.Lat.nD Cert.Lat.τ).loc Cert.Lat.main_arg2)
      ∧ r.2.mem ((c.tc : Thread Cert.Lat.nD Cert.Lat.τ).loc Cert.Lat.main_arg3) = m ((c.tc : Thread Cert.Lat.nD Cert.Lat.τ).loc Cert.Lat.main_arg3)
      ∧ r.2.mem ((c.tc : Thread Cert.Lat.nD Cert.Lat.τ).loc Cert.Lat.main_arg4) = m ((c.tc : Thread Cert.Lat.nD Cert.Lat.τ).loc Cert.Lat.main_arg4)
      ∧ r.2.mem ((c.tc : Thread Cert.Lat.nD Cert.Lat.τ).loc Cert.Lat.main_arg5) = m ((c.tc : Thread Cert.Lat.nD Cert.Lat.τ).loc Cert.Lat.main_arg5)
      ∧ r.2.mem ((c.tc : Thread Cert.Lat.nD Cert.Lat.τ).loc Cert.Lat.main_arg6) = m ((c.tc : Thread Cert.Lat.nD Cert.Lat.τ).loc Cert.Lat.main_arg6)
      ∧ r.2.mem ((c.tc : Thread Cert.Lat.nD Cert.Lat.τ).loc Cert.Lat.main_arg7) = m ((c.tc : Thread Cert.Lat.nD Cert.Lat.τ).loc Cert.Lat.main_arg7)
      ∧ r.2.mem ((c.tc : Thread Cert.Lat.nD Cert.Lat.τ).loc Cert.Lat.main_arg8) = m ((c.tc : Thread Cert.Lat.nD Cert.Lat.τ).loc Cert.Lat.main_arg8)
      ∧ r.2.mem ((c.tc : Thread Cert.Lat.nD Cert.Lat.τ).loc Cert.Lat.main_arg9) = m ((c.tc : Thread Cert.Lat.nD Cert.Lat.τ).loc Cert.Lat.main_arg9)
      ∧ r.2.mem ((c.tc : Thread Cert.Lat.nD Cert.Lat.τ).loc Cert.Lat.main_arg10) = m ((c.tc : Thread Cert.Lat.nD Cert.Lat.τ).loc Cert.Lat.main_arg10)
      ∧ r.2.mem ((c.tc : Thread Cert.Lat.nD Cert.Lat.τ).loc Cert.Lat.main_arg11) = m ((c.tc : Thread Cert.Lat.nD Cert.Lat.τ).loc Cert.Lat.main_arg11)
      ∧ r.2.mem ((c.tc : Thread Cert.Lat.nD Cert.Lat.τ).loc Cert.Lat.main_arg12) = m ((c.tc : Thread Cert.Lat.nD Cert.Lat.τ).loc Cert.Lat.main_arg12))
      ∧ r.2.sem = fun _ => 0)

def quiescent_LatIdeal [hLatIdeal : Cert.LatIdeal.Facts] : Prop :=
  ∀ (m : (ℓ : Loc Cert.LatIdeal.nD Cert.LatIdeal.τ Cert.LatIdeal.sig) → Buf (Elt Ideal) ℓ) (g : Dev Cert.LatIdeal.nD → PrngReg), Pre_LatIdeal m →
    θ_run (Cert.LatIdeal.defs (F := Ideal)) (onTc (τ := Cert.LatIdeal.τ) (Cert.LatIdeal.main (F := Ideal))) ⟨m, fun _ => 0, g⟩ (fun r => (∀ c : Dev Cert.LatIdeal.nD,
      r.2.mem ((c.tc : Thread Cert.LatIdeal.nD Cert.LatIdeal.τ).loc Cert.LatIdeal.main_arg0) = m ((c.tc : Thread Cert.LatIdeal.nD Cert.LatIdeal.τ).loc Cert.LatIdeal.main_arg0)
      ∧ r.2.mem ((c.tc : Thread Cert.LatIdeal.nD Cert.LatIdeal.τ).loc Cert.LatIdeal.main_arg1) = m ((c.tc : Thread Cert.LatIdeal.nD Cert.LatIdeal.τ).loc Cert.LatIdeal.main_arg1)
      ∧ r.2.mem ((c.tc : Thread Cert.LatIdeal.nD Cert.LatIdeal.τ).loc Cert.LatIdeal.main_arg2) = m ((c.tc : Thread Cert.LatIdeal.nD Cert.LatIdeal.τ).loc Cert.LatIdeal.main_arg2)
      ∧ r.2.mem ((c.tc : Thread Cert.LatIdeal.nD Cert.LatIdeal.τ).loc Cert.LatIdeal.main_arg3) = m ((c.tc : Thread Cert.LatIdeal.nD Cert.LatIdeal.τ).loc Cert.LatIdeal.main_arg3)
      ∧ r.2.mem ((c.tc : Thread Cert.LatIdeal.nD Cert.LatIdeal.τ).loc Cert.LatIdeal.main_arg4) = m ((c.tc : Thread Cert.LatIdeal.nD Cert.LatIdeal.τ).loc Cert.LatIdeal.main_arg4)
      ∧ r.2.mem ((c.tc : Thread Cert.LatIdeal.nD Cert.LatIdeal.τ).loc Cert.LatIdeal.main_arg5) = m ((c.tc : Thread Cert.LatIdeal.nD Cert.LatIdeal.τ).loc Cert.LatIdeal.main_arg5)
      ∧ r.2.mem ((c.tc : Thread Cert.LatIdeal.nD Cert.LatIdeal.τ).loc Cert.LatIdeal.main_arg6) = m ((c.tc : Thread Cert.LatIdeal.nD Cert.LatIdeal.τ).loc Cert.LatIdeal.main_arg6)
      ∧ r.2.mem ((c.tc : Thread Cert.LatIdeal.nD Cert.LatIdeal.τ).loc Cert.LatIdeal.main_arg7) = m ((c.tc : Thread Cert.LatIdeal.nD Cert.LatIdeal.τ).loc Cert.LatIdeal.main_arg7)
      ∧ r.2.mem ((c.tc : Thread Cert.LatIdeal.nD Cert.LatIdeal.τ).loc Cert.LatIdeal.main_arg8) = m ((c.tc : Thread Cert.LatIdeal.nD Cert.LatIdeal.τ).loc Cert.LatIdeal.main_arg8)
      ∧ r.2.mem ((c.tc : Thread Cert.LatIdeal.nD Cert.LatIdeal.τ).loc Cert.LatIdeal.main_arg9) = m ((c.tc : Thread Cert.LatIdeal.nD Cert.LatIdeal.τ).loc Cert.LatIdeal.main_arg9)
      ∧ r.2.mem ((c.tc : Thread Cert.LatIdeal.nD Cert.LatIdeal.τ).loc Cert.LatIdeal.main_arg10) = m ((c.tc : Thread Cert.LatIdeal.nD Cert.LatIdeal.τ).loc Cert.LatIdeal.main_arg10)
      ∧ r.2.mem ((c.tc : Thread Cert.LatIdeal.nD Cert.LatIdeal.τ).loc Cert.LatIdeal.main_arg11) = m ((c.tc : Thread Cert.LatIdeal.nD Cert.LatIdeal.τ).loc Cert.LatIdeal.main_arg11)
      ∧ r.2.mem ((c.tc : Thread Cert.LatIdeal.nD Cert.LatIdeal.τ).loc Cert.LatIdeal.main_arg12) = m ((c.tc : Thread Cert.LatIdeal.nD Cert.LatIdeal.τ).loc Cert.LatIdeal.main_arg12))
      ∧ r.2.sem = fun _ => 0)

def quiescent_LatRefIdeal [hLatRefIdeal : Cert.LatRefIdeal.Facts] : Prop :=
  ∀ (m : (ℓ : Loc Cert.LatRefIdeal.nD Cert.LatRefIdeal.τ Cert.LatRefIdeal.sig) → Buf (Elt Ideal) ℓ) (g : Dev Cert.LatRefIdeal.nD → PrngReg), Pre_LatRefIdeal m →
    θ_run (Cert.LatRefIdeal.defs (F := Ideal)) (onTc (τ := Cert.LatRefIdeal.τ) (Cert.LatRefIdeal.main (F := Ideal))) ⟨m, fun _ => 0, g⟩ (fun r => (∀ c : Dev Cert.LatRefIdeal.nD,
      r.2.mem ((c.tc : Thread Cert.LatRefIdeal.nD Cert.LatRefIdeal.τ).loc Cert.LatRefIdeal.main_arg0) = m ((c.tc : Thread Cert.LatRefIdeal.nD Cert.LatRefIdeal.τ).loc Cert.LatRefIdeal.main_arg0)
      ∧ r.2.mem ((c.tc : Thread Cert.LatRefIdeal.nD Cert.LatRefIdeal.τ).loc Cert.LatRefIdeal.main_arg1) = m ((c.tc : Thread Cert.LatRefIdeal.nD Cert.LatRefIdeal.τ).loc Cert.LatRefIdeal.main_arg1)
      ∧ r.2.mem ((c.tc : Thread Cert.LatRefIdeal.nD Cert.LatRefIdeal.τ).loc Cert.LatRefIdeal.main_arg2) = m ((c.tc : Thread Cert.LatRefIdeal.nD Cert.LatRefIdeal.τ).loc Cert.LatRefIdeal.main_arg2)
      ∧ r.2.mem ((c.tc : Thread Cert.LatRefIdeal.nD Cert.LatRefIdeal.τ).loc Cert.LatRefIdeal.main_arg3) = m ((c.tc : Thread Cert.LatRefIdeal.nD Cert.LatRefIdeal.τ).loc Cert.LatRefIdeal.main_arg3)
      ∧ r.2.mem ((c.tc : Thread Cert.LatRefIdeal.nD Cert.LatRefIdeal.τ).loc Cert.LatRefIdeal.main_arg4) = m ((c.tc : Thread Cert.LatRefIdeal.nD Cert.LatRefIdeal.τ).loc Cert.LatRefIdeal.main_arg4)
      ∧ r.2.mem ((c.tc : Thread Cert.LatRefIdeal.nD Cert.LatRefIdeal.τ).loc Cert.LatRefIdeal.main_arg5) = m ((c.tc : Thread Cert.LatRefIdeal.nD Cert.LatRefIdeal.τ).loc Cert.LatRefIdeal.main_arg5)
      ∧ r.2.mem ((c.tc : Thread Cert.LatRefIdeal.nD Cert.LatRefIdeal.τ).loc Cert.LatRefIdeal.main_arg6) = m ((c.tc : Thread Cert.LatRefIdeal.nD Cert.LatRefIdeal.τ).loc Cert.LatRefIdeal.main_arg6)
      ∧ r.2.mem ((c.tc : Thread Cert.LatRefIdeal.nD Cert.LatRefIdeal.τ).loc Cert.LatRefIdeal.main_arg7) = m ((c.tc : Thread Cert.LatRefIdeal.nD Cert.LatRefIdeal.τ).loc Cert.LatRefIdeal.main_arg7)
      ∧ r.2.mem ((c.tc : Thread Cert.LatRefIdeal.nD Cert.LatRefIdeal.τ).loc Cert.LatRefIdeal.main_arg8) = m ((c.tc : Thread Cert.LatRefIdeal.nD Cert.LatRefIdeal.τ).loc Cert.LatRefIdeal.main_arg8)
      ∧ r.2.mem ((c.tc : Thread Cert.LatRefIdeal.nD Cert.LatRefIdeal.τ).loc Cert.LatRefIdeal.main_arg9) = m ((c.tc : Thread Cert.LatRefIdeal.nD Cert.LatRefIdeal.τ).loc Cert.LatRefIdeal.main_arg9)
      ∧ r.2.mem ((c.tc : Thread Cert.LatRefIdeal.nD Cert.LatRefIdeal.τ).loc Cert.LatRefIdeal.main_arg10) = m ((c.tc : Thread Cert.LatRefIdeal.nD Cert.LatRefIdeal.τ).loc Cert.LatRefIdeal.main_arg10)
      ∧ r.2.mem ((c.tc : Thread Cert.LatRefIdeal.nD Cert.LatRefIdeal.τ).loc Cert.LatRefIdeal.main_arg11) = m ((c.tc : Thread Cert.LatRefIdeal.nD Cert.LatRefIdeal.τ).loc Cert.LatRefIdeal.main_arg11)
      ∧ r.2.mem ((c.tc : Thread Cert.LatRefIdeal.nD Cert.LatRefIdeal.τ).loc Cert.LatRefIdeal.main_arg12) = m ((c.tc : Thread Cert.LatRefIdeal.nD Cert.LatRefIdeal.τ).loc Cert.LatRefIdeal.main_arg12))
      ∧ r.2.sem = fun _ => 0)

def quiescent_Inp [hInp : Cert.Inp.Facts] : Prop :=
  ∀ (m : (ℓ : Loc Cert.Inp.nD Cert.Inp.τ Cert.Inp.sig) → Buf (Elt Bits) ℓ) (g : Dev Cert.Inp.nD → PrngReg), Pre_Inp m →
    θ_run (Cert.Inp.defs (F := Bits)) (onTc (τ := Cert.Inp.τ) (Cert.Inp.main (F := Bits))) ⟨m, fun _ => 0, g⟩ (fun r => (∀ c : Dev Cert.Inp.nD,
      r.2.mem ((c.tc : Thread Cert.Inp.nD Cert.Inp.τ).loc Cert.Inp.main_arg0) = m ((c.tc : Thread Cert.Inp.nD Cert.Inp.τ).loc Cert.Inp.main_arg0)
      ∧ r.2.mem ((c.tc : Thread Cert.Inp.nD Cert.Inp.τ).loc Cert.Inp.main_arg1) = m ((c.tc : Thread Cert.Inp.nD Cert.Inp.τ).loc Cert.Inp.main_arg1)
      ∧ r.2.mem ((c.tc : Thread Cert.Inp.nD Cert.Inp.τ).loc Cert.Inp.main_arg2) = m ((c.tc : Thread Cert.Inp.nD Cert.Inp.τ).loc Cert.Inp.main_arg2)
      ∧ r.2.mem ((c.tc : Thread Cert.Inp.nD Cert.Inp.τ).loc Cert.Inp.main_arg3) = m ((c.tc : Thread Cert.Inp.nD Cert.Inp.τ).loc Cert.Inp.main_arg3)
      ∧ r.2.mem ((c.tc : Thread Cert.Inp.nD Cert.Inp.τ).loc Cert.Inp.main_arg4) = m ((c.tc : Thread Cert.Inp.nD Cert.Inp.τ).loc Cert.Inp.main_arg4)
      ∧ r.2.mem ((c.tc : Thread Cert.Inp.nD Cert.Inp.τ).loc Cert.Inp.main_arg5) = m ((c.tc : Thread Cert.Inp.nD Cert.Inp.τ).loc Cert.Inp.main_arg5)
      ∧ r.2.mem ((c.tc : Thread Cert.Inp.nD Cert.Inp.τ).loc Cert.Inp.main_arg6) = m ((c.tc : Thread Cert.Inp.nD Cert.Inp.τ).loc Cert.Inp.main_arg6))
      ∧ r.2.sem = fun _ => 0)

def quiescent_InpIdeal [hInpIdeal : Cert.InpIdeal.Facts] : Prop :=
  ∀ (m : (ℓ : Loc Cert.InpIdeal.nD Cert.InpIdeal.τ Cert.InpIdeal.sig) → Buf (Elt Ideal) ℓ) (g : Dev Cert.InpIdeal.nD → PrngReg), Pre_InpIdeal m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
      ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
      ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
      ∧ r.2.mem ((c.tc : Thread Cert.InpIdeal.nD Cert.InpIdeal.τ).loc Cert.InpIdeal.main_arg4) = m ((c.tc : Thread Cert.InpIdeal.nD Cert.InpIdeal.τ).loc Cert.InpIdeal.main_arg4)
      ∧ r.2.mem ((c.tc : Thread Cert.InpIdeal.nD Cert.InpIdeal.τ).loc Cert.InpIdeal.main_arg5) = m ((c.tc : Thread Cert.InpIdeal.nD Cert.InpIdeal.τ).loc Cert.InpIdeal.main_arg5)
      ∧ r.2.mem ((c.tc : Thread Cert.InpIdeal.nD Cert.InpIdeal.τ).loc Cert.InpIdeal.main_arg6) = m ((c.tc : Thread Cert.InpIdeal.nD Cert.InpIdeal.τ).loc Cert.InpIdeal.main_arg6))
      ∧ r.2.sem = fun _ => 0)

def quiescent_InpRefIdeal [hInpRefIdeal : Cert.InpRefIdeal.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1)
      ∧ r.2.mem ((c.tc : Thread Cert.InpRefIdeal.nD Cert.InpRefIdeal.τ).loc Cert.InpRefIdeal.main_arg2) = m ((c.tc : Thread Cert.InpRefIdeal.nD Cert.InpRefIdeal.τ).loc Cert.InpRefIdeal.main_arg2)
      ∧ r.2.mem ((c.tc : Thread Cert.InpRefIdeal.nD Cert.InpRefIdeal.τ).loc Cert.InpRefIdeal.main_arg3) = m ((c.tc : Thread Cert.InpRefIdeal.nD Cert.InpRefIdeal.τ).loc Cert.InpRefIdeal.main_arg3)
      ∧ r.2.mem ((c.tc : Thread Cert.InpRefIdeal.nD Cert.InpRefIdeal.τ).loc Cert.InpRefIdeal.main_arg4) = m ((c.tc : Thread Cert.InpRefIdeal.nD Cert.InpRefIdeal.τ).loc Cert.InpRefIdeal.main_arg4)
      ∧ r.2.mem ((c.tc : Thread Cert.InpRefIdeal.nD Cert.InpRefIdeal.τ).loc Cert.InpRefIdeal.main_arg5) = m ((c.tc : Thread Cert.InpRefIdeal.nD Cert.InpRefIdeal.τ).loc Cert.InpRefIdeal.main_arg5)
      ∧ r.2.mem ((c.tc : Thread Cert.InpRefIdeal.nD Cert.InpRefIdeal.τ).loc Cert.InpRefIdeal.main_arg6) = m ((c.tc : Thread Cert.InpRefIdeal.nD Cert.InpRefIdeal.τ).loc Cert.InpRefIdeal.main_arg6))
      ∧ r.2.sem = fun _ => 0)

def quiescent_Fin [hFin : Cert.Fin.Facts] : Prop :=
  ∀ (m : (ℓ : Loc Cert.Fin.nD Cert.Fin.τ Cert.Fin.sig) → Buf (Elt Bits) ℓ) (g : Dev Cert.Fin.nD → PrngReg), Pre_Fin m →
    θ_run (Cert.Fin.defs (F := Bits)) (onTc (τ := Cert.Fin.τ) (Cert.Fin.main (F := Bits))) ⟨m, fun _ => 0, g⟩ (fun r => (∀ c : Dev Cert.Fin.nD,
      r.2.mem ((c.tc : Thread Cert.Fin.nD Cert.Fin.τ).loc Cert.Fin.main_arg0) = m ((c.tc : Thread Cert.Fin.nD Cert.Fin.τ).loc Cert.Fin.main_arg0)
      ∧ r.2.mem ((c.tc : Thread Cert.Fin.nD Cert.Fin.τ).loc Cert.Fin.main_arg1) = m ((c.tc : Thread Cert.Fin.nD Cert.Fin.τ).loc Cert.Fin.main_arg1)
      ∧ r.2.mem ((c.tc : Thread Cert.Fin.nD Cert.Fin.τ).loc Cert.Fin.main_arg2) = m ((c.tc : Thread Cert.Fin.nD Cert.Fin.τ).loc Cert.Fin.main_arg2)
      ∧ r.2.mem ((c.tc : Thread Cert.Fin.nD Cert.Fin.τ).loc Cert.Fin.main_arg3) = m ((c.tc : Thread Cert.Fin.nD Cert.Fin.τ).loc Cert.Fin.main_arg3)
      ∧ r.2.mem ((c.tc : Thread Cert.Fin.nD Cert.Fin.τ).loc Cert.Fin.main_arg4) = m ((c.tc : Thread Cert.Fin.nD Cert.Fin.τ).loc Cert.Fin.main_arg4)
      ∧ r.2.mem ((c.tc : Thread Cert.Fin.nD Cert.Fin.τ).loc Cert.Fin.main_arg5) = m ((c.tc : Thread Cert.Fin.nD Cert.Fin.τ).loc Cert.Fin.main_arg5)
      ∧ r.2.mem ((c.tc : Thread Cert.Fin.nD Cert.Fin.τ).loc Cert.Fin.main_arg6) = m ((c.tc : Thread Cert.Fin.nD Cert.Fin.τ).loc Cert.Fin.main_arg6)
      ∧ r.2.mem ((c.tc : Thread Cert.Fin.nD Cert.Fin.τ).loc Cert.Fin.main_arg7) = m ((c.tc : Thread Cert.Fin.nD Cert.Fin.τ).loc Cert.Fin.main_arg7)
      ∧ r.2.mem ((c.tc : Thread Cert.Fin.nD Cert.Fin.τ).loc Cert.Fin.main_arg8) = m ((c.tc : Thread Cert.Fin.nD Cert.Fin.τ).loc Cert.Fin.main_arg8))
      ∧ r.2.sem = fun _ => 0)

def quiescent_FinIdeal [hFinIdeal : Cert.FinIdeal.Facts] : Prop :=
  ∀ (m : (ℓ : Loc Cert.FinIdeal.nD Cert.FinIdeal.τ Cert.FinIdeal.sig) → Buf (Elt Ideal) ℓ) (g : Dev Cert.FinIdeal.nD → PrngReg), Pre_FinIdeal m →
    θ_run (Cert.FinIdeal.defs (F := Ideal)) (onTc (τ := Cert.FinIdeal.τ) (Cert.FinIdeal.main (F := Ideal))) ⟨m, fun _ => 0, g⟩ (fun r => (∀ c : Dev Cert.FinIdeal.nD,
      r.2.mem ((c.tc : Thread Cert.FinIdeal.nD Cert.FinIdeal.τ).loc Cert.FinIdeal.main_arg0) = m ((c.tc : Thread Cert.FinIdeal.nD Cert.FinIdeal.τ).loc Cert.FinIdeal.main_arg0)
      ∧ r.2.mem ((c.tc : Thread Cert.FinIdeal.nD Cert.FinIdeal.τ).loc Cert.FinIdeal.main_arg1) = m ((c.tc : Thread Cert.FinIdeal.nD Cert.FinIdeal.τ).loc Cert.FinIdeal.main_arg1)
      ∧ r.2.mem ((c.tc : Thread Cert.FinIdeal.nD Cert.FinIdeal.τ).loc Cert.FinIdeal.main_arg2) = m ((c.tc : Thread Cert.FinIdeal.nD Cert.FinIdeal.τ).loc Cert.FinIdeal.main_arg2)
      ∧ r.2.mem ((c.tc : Thread Cert.FinIdeal.nD Cert.FinIdeal.τ).loc Cert.FinIdeal.main_arg3) = m ((c.tc : Thread Cert.FinIdeal.nD Cert.FinIdeal.τ).loc Cert.FinIdeal.main_arg3)
      ∧ r.2.mem ((c.tc : Thread Cert.FinIdeal.nD Cert.FinIdeal.τ).loc Cert.FinIdeal.main_arg4) = m ((c.tc : Thread Cert.FinIdeal.nD Cert.FinIdeal.τ).loc Cert.FinIdeal.main_arg4)
      ∧ r.2.mem ((c.tc : Thread Cert.FinIdeal.nD Cert.FinIdeal.τ).loc Cert.FinIdeal.main_arg5) = m ((c.tc : Thread Cert.FinIdeal.nD Cert.FinIdeal.τ).loc Cert.FinIdeal.main_arg5)
      ∧ r.2.mem ((c.tc : Thread Cert.FinIdeal.nD Cert.FinIdeal.τ).loc Cert.FinIdeal.main_arg6) = m ((c.tc : Thread Cert.FinIdeal.nD Cert.FinIdeal.τ).loc Cert.FinIdeal.main_arg6)
      ∧ r.2.mem ((c.tc : Thread Cert.FinIdeal.nD Cert.FinIdeal.τ).loc Cert.FinIdeal.main_arg7) = m ((c.tc : Thread Cert.FinIdeal.nD Cert.FinIdeal.τ).loc Cert.FinIdeal.main_arg7)
      ∧ r.2.mem ((c.tc : Thread Cert.FinIdeal.nD Cert.FinIdeal.τ).loc Cert.FinIdeal.main_arg8) = m ((c.tc : Thread Cert.FinIdeal.nD Cert.FinIdeal.τ).loc Cert.FinIdeal.main_arg8))
      ∧ r.2.sem = fun _ => 0)

def quiescent_FinRefIdeal [hFinRefIdeal : Cert.FinRefIdeal.Facts] : Prop :=
  ∀ (m : (ℓ : Loc Cert.FinRefIdeal.nD Cert.FinRefIdeal.τ Cert.FinRefIdeal.sig) → Buf (Elt Ideal) ℓ) (g : Dev Cert.FinRefIdeal.nD → PrngReg), Pre_FinRefIdeal m →
    θ_run (Cert.FinRefIdeal.defs (F := Ideal)) (onTc (τ := Cert.FinRefIdeal.τ) (Cert.FinRefIdeal.main (F := Ideal))) ⟨m, fun _ => 0, g⟩ (fun r => (∀ c : Dev Cert.FinRefIdeal.nD,
      r.2.mem ((c.tc : Thread Cert.FinRefIdeal.nD Cert.FinRefIdeal.τ).loc Cert.FinRefIdeal.main_arg0) = m ((c.tc : Thread Cert.FinRefIdeal.nD Cert.FinRefIdeal.τ).loc Cert.FinRefIdeal.main_arg0)
      ∧ r.2.mem ((c.tc : Thread Cert.FinRefIdeal.nD Cert.FinRefIdeal.τ).loc Cert.FinRefIdeal.main_arg1) = m ((c.tc : Thread Cert.FinRefIdeal.nD Cert.FinRefIdeal.τ).loc Cert.FinRefIdeal.main_arg1)
      ∧ r.2.mem ((c.tc : Thread Cert.FinRefIdeal.nD Cert.FinRefIdeal.τ).loc Cert.FinRefIdeal.main_arg2) = m ((c.tc : Thread Cert.FinRefIdeal.nD Cert.FinRefIdeal.τ).loc Cert.FinRefIdeal.main_arg2)
      ∧ r.2.mem ((c.tc : Thread Cert.FinRefIdeal.nD Cert.FinRefIdeal.τ).loc Cert.FinRefIdeal.main_arg3) = m ((c.tc : Thread Cert.FinRefIdeal.nD Cert.FinRefIdeal.τ).loc Cert.FinRefIdeal.main_arg3)
      ∧ r.2.mem ((c.tc : Thread Cert.FinRefIdeal.nD Cert.FinRefIdeal.τ).loc Cert.FinRefIdeal.main_arg4) = m ((c.tc : Thread Cert.FinRefIdeal.nD Cert.FinRefIdeal.τ).loc Cert.FinRefIdeal.main_arg4)
      ∧ r.2.mem ((c.tc : Thread Cert.FinRefIdeal.nD Cert.FinRefIdeal.τ).loc Cert.FinRefIdeal.main_arg5) = m ((c.tc : Thread Cert.FinRefIdeal.nD Cert.FinRefIdeal.τ).loc Cert.FinRefIdeal.main_arg5)
      ∧ r.2.mem ((c.tc : Thread Cert.FinRefIdeal.nD Cert.FinRefIdeal.τ).loc Cert.FinRefIdeal.main_arg6) = m ((c.tc : Thread Cert.FinRefIdeal.nD Cert.FinRefIdeal.τ).loc Cert.FinRefIdeal.main_arg6)
      ∧ r.2.mem ((c.tc : Thread Cert.FinRefIdeal.nD Cert.FinRefIdeal.τ).loc Cert.FinRefIdeal.main_arg7) = m ((c.tc : Thread Cert.FinRefIdeal.nD Cert.FinRefIdeal.τ).loc Cert.FinRefIdeal.main_arg7)
      ∧ r.2.mem ((c.tc : Thread Cert.FinRefIdeal.nD Cert.FinRefIdeal.τ).loc Cert.FinRefIdeal.main_arg8) = m ((c.tc : Thread Cert.FinRefIdeal.nD Cert.FinRefIdeal.τ).loc Cert.FinRefIdeal.main_arg8))
      ∧ r.2.sem = fun _ => 0)

def preserves_Diff_DiffIdeal : Prop :=
  True

def algebraic_DiffIdeal_DiffRefIdeal_pre_diff_finite [hDiffIdeal : Cert.DiffIdeal.Facts] [hDiffRefIdeal : Cert.DiffRefIdeal.Facts] [hPre_diff_finite : Cert.Pre_diff_finite.Facts] : Prop :=
  ∀ (m : (ℓ : Loc Cert.DiffIdeal.nD Cert.DiffIdeal.τ Cert.DiffIdeal.sig) → Buf (Elt Ideal) ℓ) (g : Dev Cert.DiffIdeal.nD → PrngReg)
    (m' : (ℓ : Loc Cert.DiffRefIdeal.nD Cert.DiffRefIdeal.τ Cert.DiffRefIdeal.sig) → Buf (Elt Ideal) ℓ) (g' : Dev Cert.DiffRefIdeal.nD → PrngReg), Pre_DiffIdeal_diff_finite m →
    (∀ c : Dev Cert.DiffIdeal.nD,
      m' ((c.tc : Thread Cert.DiffRefIdeal.nD Cert.DiffRefIdeal.τ).loc Cert.DiffRefIdeal.main_arg0) = m ((c.tc : Thread Cert.DiffIdeal.nD Cert.DiffIdeal.τ).loc Cert.DiffIdeal.main_arg0)
      ∧ m' ((c.tc : Thread Cert.DiffRefIdeal.nD Cert.DiffRefIdeal.τ).loc Cert.DiffRefIdeal.main_arg1) = m ((c.tc : Thread Cert.DiffIdeal.nD Cert.DiffIdeal.τ).loc Cert.DiffIdeal.main_arg1)
      ∧ m' ((c.tc : Thread Cert.DiffRefIdeal.nD Cert.DiffRefIdeal.τ).loc Cert.DiffRefIdeal.main_arg2) = m ((c.tc : Thread Cert.DiffIdeal.nD Cert.DiffIdeal.τ).loc Cert.DiffIdeal.main_arg2)
      ∧ m' ((c.tc : Thread Cert.DiffRefIdeal.nD Cert.DiffRefIdeal.τ).loc Cert.DiffRefIdeal.main_arg3) = m ((c.tc : Thread Cert.DiffIdeal.nD Cert.DiffIdeal.τ).loc Cert.DiffIdeal.main_arg3)
      ∧ m' ((c.tc : Thread Cert.DiffRefIdeal.nD Cert.DiffRefIdeal.τ).loc Cert.DiffRefIdeal.main_arg4) = m ((c.tc : Thread Cert.DiffIdeal.nD Cert.DiffIdeal.τ).loc Cert.DiffIdeal.main_arg4)
      ∧ m' ((c.tc : Thread Cert.DiffRefIdeal.nD Cert.DiffRefIdeal.τ).loc Cert.DiffRefIdeal.main_arg5) = m ((c.tc : Thread Cert.DiffIdeal.nD Cert.DiffIdeal.τ).loc Cert.DiffIdeal.main_arg5)
      ∧ m' ((c.tc : Thread Cert.DiffRefIdeal.nD Cert.DiffRefIdeal.τ).loc Cert.DiffRefIdeal.main_arg6) = m ((c.tc : Thread Cert.DiffIdeal.nD Cert.DiffIdeal.τ).loc Cert.DiffIdeal.main_arg6)
      ∧ m' ((c.tc : Thread Cert.DiffRefIdeal.nD Cert.DiffRefIdeal.τ).loc Cert.DiffRefIdeal.main_arg7) = m ((c.tc : Thread Cert.DiffIdeal.nD Cert.DiffIdeal.τ).loc Cert.DiffIdeal.main_arg7)) →
    ∃ (v0 : (c : Dev Cert.DiffIdeal.nD) → Buf (Elt Ideal) ((c.tc : Thread Cert.DiffIdeal.nD Cert.DiffIdeal.τ).loc Cert.DiffIdeal.main_v10)),
      θ_run (Cert.DiffIdeal.defs (F := Ideal)) (onTc (τ := Cert.DiffIdeal.τ) (Cert.DiffIdeal.main (F := Ideal))) ⟨m, fun _ => 0, g⟩ (fun r => ∀ c : Dev Cert.DiffIdeal.nD,
          r.2.mem ((c.tc : Thread Cert.DiffIdeal.nD Cert.DiffIdeal.τ).loc Cert.DiffIdeal.main_v10) = v0 c
          ∧ r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
          ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
          ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
          ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3)
          ∧ r.2.mem ((c.tc : Thread Cert.DiffIdeal.nD Cert.DiffIdeal.τ).loc Cert.DiffIdeal.main_arg4) = m ((c.tc : Thread Cert.DiffIdeal.nD Cert.DiffIdeal.τ).loc Cert.DiffIdeal.main_arg4)
          ∧ r.2.mem ((c.tc : Thread Cert.DiffIdeal.nD Cert.DiffIdeal.τ).loc Cert.DiffIdeal.main_arg5) = m ((c.tc : Thread Cert.DiffIdeal.nD Cert.DiffIdeal.τ).loc Cert.DiffIdeal.main_arg5)
          ∧ r.2.mem ((c.tc : Thread Cert.DiffIdeal.nD Cert.DiffIdeal.τ).loc Cert.DiffIdeal.main_arg6) = m ((c.tc : Thread Cert.DiffIdeal.nD Cert.DiffIdeal.τ).loc Cert.DiffIdeal.main_arg6)
          ∧ r.2.mem ((c.tc : Thread Cert.DiffIdeal.nD Cert.DiffIdeal.τ).loc Cert.DiffIdeal.main_arg7) = m ((c.tc : Thread Cert.DiffIdeal.nD Cert.DiffIdeal.τ).loc Cert.DiffIdeal.main_arg7))
      ∧ θ_run (Cert.DiffRefIdeal.defs (F := Ideal)) (onTc (τ := Cert.DiffRefIdeal.τ) (Cert.DiffRefIdeal.main (F := Ideal))) ⟨m', fun _ => 0, g'⟩ (fun r => ∀ c : Dev Cert.DiffRefIdeal.nD,
          r.2.mem ((c.tc : Thread Cert.DiffRefIdeal.nD Cert.DiffRefIdeal.τ).loc Cert.DiffRefIdeal.main_v74) = v0 c
          ∧ r.2.mem ((c.tc : Thread Cert.DiffRefIdeal.nD Cert.DiffRefIdeal.τ).loc Cert.DiffRefIdeal.main_arg0) = m' ((c.tc : Thread Cert.DiffRefIdeal.nD Cert.DiffRefIdeal.τ).loc Cert.DiffRefIdeal.main_arg0)
          ∧ r.2.mem ((c.tc : Thread Cert.DiffRefIdeal.nD Cert.DiffRefIdeal.τ).loc Cert.DiffRefIdeal.main_arg1) = m' ((c.tc : Thread Cert.DiffRefIdeal.nD Cert.DiffRefIdeal.τ).loc Cert.DiffRefIdeal.main_arg1)
          ∧ r.2.mem ((c.tc : Thread Cert.DiffRefIdeal.nD Cert.DiffRefIdeal.τ).loc Cert.DiffRefIdeal.main_arg2) = m' ((c.tc : Thread Cert.DiffRefIdeal.nD Cert.DiffRefIdeal.τ).loc Cert.DiffRefIdeal.main_arg2)
          ∧ r.2.mem ((c.tc : Thread Cert.DiffRefIdeal.nD Cert.DiffRefIdeal.τ).loc Cert.DiffRefIdeal.main_arg3) = m' ((c.tc : Thread Cert.DiffRefIdeal.nD Cert.DiffRefIdeal.τ).loc Cert.DiffRefIdeal.main_arg3)
          ∧ r.2.mem ((c.tc : Thread Cert.DiffRefIdeal.nD Cert.DiffRefIdeal.τ).loc Cert.DiffRefIdeal.main_arg4) = m' ((c.tc : Thread Cert.DiffRefIdeal.nD Cert.DiffRefIdeal.τ).loc Cert.DiffRefIdeal.main_arg4)
          ∧ r.2.mem ((c.tc : Thread Cert.DiffRefIdeal.nD Cert.DiffRefIdeal.τ).loc Cert.DiffRefIdeal.main_arg5) = m' ((c.tc : Thread Cert.DiffRefIdeal.nD Cert.DiffRefIdeal.τ).loc Cert.DiffRefIdeal.main_arg5)
          ∧ r.2.mem ((c.tc : Thread Cert.DiffRefIdeal.nD Cert.DiffRefIdeal.τ).loc Cert.DiffRefIdeal.main_arg6) = m' ((c.tc : Thread Cert.DiffRefIdeal.nD Cert.DiffRefIdeal.τ).loc Cert.DiffRefIdeal.main_arg6)
          ∧ r.2.mem ((c.tc : Thread Cert.DiffRefIdeal.nD Cert.DiffRefIdeal.τ).loc Cert.DiffRefIdeal.main_arg7) = m' ((c.tc : Thread Cert.DiffRefIdeal.nD Cert.DiffRefIdeal.τ).loc Cert.DiffRefIdeal.main_arg7))

def preserves_Gqa_GqaIdeal : Prop :=
  True

def algebraic_GqaIdeal_GqaRefIdeal_pre_gqa_finite [hGqaIdeal : Cert.GqaIdeal.Facts] [hGqaRefIdeal : Cert.GqaRefIdeal.Facts] [hPre_gqa_finite : Cert.Pre_gqa_finite.Facts] : Prop :=
  ∀ (m : (ℓ : Loc Cert.GqaIdeal.nD Cert.GqaIdeal.τ Cert.GqaIdeal.sig) → Buf (Elt Ideal) ℓ) (g : Dev Cert.GqaIdeal.nD → PrngReg)
    (m' : (ℓ : Loc Cert.GqaRefIdeal.nD Cert.GqaRefIdeal.τ Cert.GqaRefIdeal.sig) → Buf (Elt Ideal) ℓ) (g' : Dev Cert.GqaRefIdeal.nD → PrngReg), Pre_GqaIdeal_gqa_finite m →
    (∀ c : Dev Cert.GqaIdeal.nD,
      m' ((c.tc : Thread Cert.GqaRefIdeal.nD Cert.GqaRefIdeal.τ).loc Cert.GqaRefIdeal.main_arg0) = m ((c.tc : Thread Cert.GqaIdeal.nD Cert.GqaIdeal.τ).loc Cert.GqaIdeal.main_arg0)
      ∧ m' ((c.tc : Thread Cert.GqaRefIdeal.nD Cert.GqaRefIdeal.τ).loc Cert.GqaRefIdeal.main_arg1) = m ((c.tc : Thread Cert.GqaIdeal.nD Cert.GqaIdeal.τ).loc Cert.GqaIdeal.main_arg1)
      ∧ m' ((c.tc : Thread Cert.GqaRefIdeal.nD Cert.GqaRefIdeal.τ).loc Cert.GqaRefIdeal.main_arg2) = m ((c.tc : Thread Cert.GqaIdeal.nD Cert.GqaIdeal.τ).loc Cert.GqaIdeal.main_arg2)) →
    ∃ (v0 : (c : Dev Cert.GqaIdeal.nD) → Buf (Elt Ideal) ((c.tc : Thread Cert.GqaIdeal.nD Cert.GqaIdeal.τ).loc Cert.GqaIdeal.main_v0)),
      θ_run (Cert.GqaIdeal.defs (F := Ideal)) (onTc (τ := Cert.GqaIdeal.τ) (Cert.GqaIdeal.main (F := Ideal))) ⟨m, fun _ => 0, g⟩ (fun r => ∀ c : Dev Cert.GqaIdeal.nD,
          r.2.mem ((c.tc : Thread Cert.GqaIdeal.nD Cert.GqaIdeal.τ).loc Cert.GqaIdeal.main_v0) = v0 c
          ∧ r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
          ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
          ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2))
      ∧ θ_run (Cert.GqaRefIdeal.defs (F := Ideal)) (onTc (τ := Cert.GqaRefIdeal.τ) (Cert.GqaRefIdeal.main (F := Ideal))) ⟨m', fun _ => 0, g'⟩ (fun r => ∀ c : Dev Cert.GqaRefIdeal.nD,
          r.2.mem ((c.tc : Thread Cert.GqaRefIdeal.nD Cert.GqaRefIdeal.τ).loc Cert.GqaRefIdeal.main_v31) = v0 c
          ∧ r.2.mem ((c.tc : Thread Cert.GqaRefIdeal.nD Cert.GqaRefIdeal.τ).loc Cert.GqaRefIdeal.main_arg0) = m' ((c.tc : Thread Cert.GqaRefIdeal.nD Cert.GqaRefIdeal.τ).loc Cert.GqaRefIdeal.main_arg0)
          ∧ r.2.mem ((c.tc : Thread Cert.GqaRefIdeal.nD Cert.GqaRefIdeal.τ).loc Cert.GqaRefIdeal.main_arg1) = m' ((c.tc : Thread Cert.GqaRefIdeal.nD Cert.GqaRefIdeal.τ).loc Cert.GqaRefIdeal.main_arg1)
          ∧ r.2.mem ((c.tc : Thread Cert.GqaRefIdeal.nD Cert.GqaRefIdeal.τ).loc Cert.GqaRefIdeal.main_arg2) = m' ((c.tc : Thread Cert.GqaRefIdeal.nD Cert.GqaRefIdeal.τ).loc Cert.GqaRefIdeal.main_arg2))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)
      ∧ m' ((c.tc : Thread Cert.MixRefIdeal.nD Cert.MixRefIdeal.τ).loc Cert.MixRefIdeal.main_arg11) = m ((c.tc : Thread Cert.MixIdeal.nD Cert.MixIdeal.τ).loc Cert.MixIdeal.main_arg11)
      ∧ m' ((c.tc : Thread Cert.MixRefIdeal.nD Cert.MixRefIdeal.τ).loc Cert.MixRefIdeal.main_arg12) = m ((c.tc : Thread Cert.MixIdeal.nD Cert.MixIdeal.τ).loc Cert.MixIdeal.main_arg12)
      ∧ m' ((c.tc : Thread Cert.MixRefIdeal.nD Cert.MixRefIdeal.τ).loc Cert.MixRefIdeal.main_arg13) = m ((c.tc : Thread Cert.MixIdeal.nD Cert.MixIdeal.τ).loc Cert.MixIdeal.main_arg13)
      ∧ m' ((c.tc : Thread Cert.MixRefIdeal.nD Cert.MixRefIdeal.τ).loc Cert.MixRefIdeal.main_arg14) = m ((c.tc : Thread Cert.MixIdeal.nD Cert.MixIdeal.τ).loc Cert.MixIdeal.main_arg14)) →
    ∃ (v0 : (c : Dev Cert.MixIdeal.nD) → Buf (Elt Ideal) ((c.tc : Thread Cert.MixIdeal.nD Cert.MixIdeal.τ).loc Cert.MixIdeal.main_v0_0)) (v1 : (c : Dev Cert.MixIdeal.nD) → Buf (Elt Ideal) ((c.tc : Thread Cert.MixIdeal.nD Cert.MixIdeal.τ).loc Cert.MixIdeal.main_v0_1)) (v2 : (c : Dev Cert.MixIdeal.nD) → Buf (Elt Ideal) ((c.tc : Thread Cert.MixIdeal.nD Cert.MixIdeal.τ).loc Cert.MixIdeal.main_v0_2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0_0) = v0 c
          ∧ r.2.mem ((c.tc : Thread Cert.MixIdeal.nD Cert.MixIdeal.τ).loc Cert.MixIdeal.main_v0_1) = v1 c
          ∧ r.2.mem ((c.tc : Thread Cert.MixIdeal.nD Cert.MixIdeal.τ).loc Cert.MixIdeal.main_v0_2) = v2 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
          ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
          ∧ r.2.mem ((c.tc : Thread Cert.MixIdeal.nD Cert.MixIdeal.τ).loc Cert.MixIdeal.main_arg14) = m ((c.tc : Thread Cert.MixIdeal.nD Cert.MixIdeal.τ).loc Cert.MixIdeal.main_arg14))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v121) = v0 c
          ∧ r.2.mem ((c.tc : Thread Cert.MixRefIdeal.nD Cert.MixRefIdeal.τ).loc Cert.MixRefIdeal.main_v165) = v1 c
          ∧ r.2.mem ((c.tc : Thread Cert.MixRefIdeal.nD Cert.MixRefIdeal.τ).loc Cert.MixRefIdeal.main_v163) = v2 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10)
          ∧ r.2.mem ((c.tc : Thread Cert.MixRefIdeal.nD Cert.MixRefIdeal.τ).loc Cert.MixRefIdeal.main_arg11) = m' ((c.tc : Thread Cert.MixRefIdeal.nD Cert.MixRefIdeal.τ).loc Cert.MixRefIdeal.main_arg11)
          ∧ r.2.mem ((c.tc : Thread Cert.MixRefIdeal.nD Cert.MixRefIdeal.τ).loc Cert.MixRefIdeal.main_arg12) = m' ((c.tc : Thread Cert.MixRefIdeal.nD Cert.MixRefIdeal.τ).loc Cert.MixRefIdeal.main_arg12)
          ∧ r.2.mem ((c.tc : Thread Cert.MixRefIdeal.nD Cert.MixRefIdeal.τ).loc Cert.MixRefIdeal.main_arg13) = m' ((c.tc : Thread Cert.MixRefIdeal.nD Cert.MixRefIdeal.τ).loc Cert.MixRefIdeal.main_arg13)
          ∧ r.2.mem ((c.tc : Thread Cert.MixRefIdeal.nD Cert.MixRefIdeal.τ).loc Cert.MixRefIdeal.main_arg14) = m' ((c.tc : Thread Cert.MixRefIdeal.nD Cert.MixRefIdeal.τ).loc Cert.MixRefIdeal.main_arg14))

def preserves_Lat_LatIdeal : Prop :=
  True

def algebraic_LatIdeal_LatRefIdeal [hLatIdeal : Cert.LatIdeal.Facts] [hLatRefIdeal : Cert.LatRefIdeal.Facts] : Prop :=
  ∀ (m : (ℓ : Loc Cert.LatIdeal.nD Cert.LatIdeal.τ Cert.LatIdeal.sig) → Buf (Elt Ideal) ℓ) (g : Dev Cert.LatIdeal.nD → PrngReg)
    (m' : (ℓ : Loc Cert.LatRefIdeal.nD Cert.LatRefIdeal.τ Cert.LatRefIdeal.sig) → Buf (Elt Ideal) ℓ) (g' : Dev Cert.LatRefIdeal.nD → PrngReg), Pre_LatIdeal m →
    (∀ c : Dev Cert.LatIdeal.nD,
      m' ((c.tc : Thread Cert.LatRefIdeal.nD Cert.LatRefIdeal.τ).loc Cert.LatRefIdeal.main_arg0) = m ((c.tc : Thread Cert.LatIdeal.nD Cert.LatIdeal.τ).loc Cert.LatIdeal.main_arg0)
      ∧ m' ((c.tc : Thread Cert.LatRefIdeal.nD Cert.LatRefIdeal.τ).loc Cert.LatRefIdeal.main_arg1) = m ((c.tc : Thread Cert.LatIdeal.nD Cert.LatIdeal.τ).loc Cert.LatIdeal.main_arg1)
      ∧ m' ((c.tc : Thread Cert.LatRefIdeal.nD Cert.LatRefIdeal.τ).loc Cert.LatRefIdeal.main_arg2) = m ((c.tc : Thread Cert.LatIdeal.nD Cert.LatIdeal.τ).loc Cert.LatIdeal.main_arg2)
      ∧ m' ((c.tc : Thread Cert.LatRefIdeal.nD Cert.LatRefIdeal.τ).loc Cert.LatRefIdeal.main_arg3) = m ((c.tc : Thread Cert.LatIdeal.nD Cert.LatIdeal.τ).loc Cert.LatIdeal.main_arg3)
      ∧ m' ((c.tc : Thread Cert.LatRefIdeal.nD Cert.LatRefIdeal.τ).loc Cert.LatRefIdeal.main_arg4) = m ((c.tc : Thread Cert.LatIdeal.nD Cert.LatIdeal.τ).loc Cert.LatIdeal.main_arg4)
      ∧ m' ((c.tc : Thread Cert.LatRefIdeal.nD Cert.LatRefIdeal.τ).loc Cert.LatRefIdeal.main_arg5) = m ((c.tc : Thread Cert.LatIdeal.nD Cert.LatIdeal.τ).loc Cert.LatIdeal.main_arg5)
      ∧ m' ((c.tc : Thread Cert.LatRefIdeal.nD Cert.LatRefIdeal.τ).loc Cert.LatRefIdeal.main_arg6) = m ((c.tc : Thread Cert.LatIdeal.nD Cert.LatIdeal.τ).loc Cert.LatIdeal.main_arg6)
      ∧ m' ((c.tc : Thread Cert.LatRefIdeal.nD Cert.LatRefIdeal.τ).loc Cert.LatRefIdeal.main_arg7) = m ((c.tc : Thread Cert.LatIdeal.nD Cert.LatIdeal.τ).loc Cert.LatIdeal.main_arg7)
      ∧ m' ((c.tc : Thread Cert.LatRefIdeal.nD Cert.LatRefIdeal.τ).loc Cert.LatRefIdeal.main_arg8) = m ((c.tc : Thread Cert.LatIdeal.nD Cert.LatIdeal.τ).loc Cert.LatIdeal.main_arg8)
      ∧ m' ((c.tc : Thread Cert.LatRefIdeal.nD Cert.LatRefIdeal.τ).loc Cert.LatRefIdeal.main_arg9) = m ((c.tc : Thread Cert.LatIdeal.nD Cert.LatIdeal.τ).loc Cert.LatIdeal.main_arg9)
      ∧ m' ((c.tc : Thread Cert.LatRefIdeal.nD Cert.LatRefIdeal.τ).loc Cert.LatRefIdeal.main_arg10) = m ((c.tc : Thread Cert.LatIdeal.nD Cert.LatIdeal.τ).loc Cert.LatIdeal.main_arg10)
      ∧ m' ((c.tc : Thread Cert.LatRefIdeal.nD Cert.LatRefIdeal.τ).loc Cert.LatRefIdeal.main_arg11) = m ((c.tc : Thread Cert.LatIdeal.nD Cert.LatIdeal.τ).loc Cert.LatIdeal.main_arg11)
      ∧ m' ((c.tc : Thread Cert.LatRefIdeal.nD Cert.LatRefIdeal.τ).loc Cert.LatRefIdeal.main_arg12) = m ((c.tc : Thread Cert.LatIdeal.nD Cert.LatIdeal.τ).loc Cert.LatIdeal.main_arg12)) →
    ∃ (v0 : (c : Dev Cert.LatIdeal.nD) → Buf (Elt Ideal) ((c.tc : Thread Cert.LatIdeal.nD Cert.LatIdeal.τ).loc Cert.LatIdeal.main_v0_0)) (v1 : (c : Dev Cert.LatIdeal.nD) → Buf (Elt Ideal) ((c.tc : Thread Cert.LatIdeal.nD Cert.LatIdeal.τ).loc Cert.LatIdeal.main_v0_1)) (v2 : (c : Dev Cert.LatIdeal.nD) → Buf (Elt Ideal) ((c.tc : Thread Cert.LatIdeal.nD Cert.LatIdeal.τ).loc Cert.LatIdeal.main_v0_2)),
      θ_run (Cert.LatIdeal.defs (F := Ideal)) (onTc (τ := Cert.LatIdeal.τ) (Cert.LatIdeal.main (F := Ideal))) ⟨m, fun _ => 0, g⟩ (fun r => ∀ c : Dev Cert.LatIdeal.nD,
          r.2.mem ((c.tc : Thread Cert.LatIdeal.nD Cert.LatIdeal.τ).loc Cert.LatIdeal.main_v0_0) = v0 c
          ∧ r.2.mem ((c.tc : Thread Cert.LatIdeal.nD Cert.LatIdeal.τ).loc Cert.LatIdeal.main_v0_1) = v1 c
          ∧ r.2.mem ((c.tc : Thread Cert.LatIdeal.nD Cert.LatIdeal.τ).loc Cert.LatIdeal.main_v0_2) = v2 c
          ∧ r.2.mem ((c.tc : Thread Cert.LatIdeal.nD Cert.LatIdeal.τ).loc Cert.LatIdeal.main_arg0) = m ((c.tc : Thread Cert.LatIdeal.nD Cert.LatIdeal.τ).loc Cert.LatIdeal.main_arg0)
          ∧ r.2.mem ((c.tc : Thread Cert.LatIdeal.nD Cert.LatIdeal.τ).loc Cert.LatIdeal.main_arg1) = m ((c.tc : Thread Cert.LatIdeal.nD Cert.LatIdeal.τ).loc Cert.LatIdeal.main_arg1)
          ∧ r.2.mem ((c.tc : Thread Cert.LatIdeal.nD Cert.LatIdeal.τ).loc Cert.LatIdeal.main_arg2) = m ((c.tc : Thread Cert.LatIdeal.nD Cert.LatIdeal.τ).loc Cert.LatIdeal.main_arg2)
          ∧ r.2.mem ((c.tc : Thread Cert.LatIdeal.nD Cert.LatIdeal.τ).loc Cert.LatIdeal.main_arg3) = m ((c.tc : Thread Cert.LatIdeal.nD Cert.LatIdeal.τ).loc Cert.LatIdeal.main_arg3)
          ∧ r.2.mem ((c.tc : Thread Cert.LatIdeal.nD Cert.LatIdeal.τ).loc Cert.LatIdeal.main_arg4) = m ((c.tc : Thread Cert.LatIdeal.nD Cert.LatIdeal.τ).loc Cert.LatIdeal.main_arg4)
          ∧ r.2.mem ((c.tc : Thread Cert.LatIdeal.nD Cert.LatIdeal.τ).loc Cert.LatIdeal.main_arg5) = m ((c.tc : Thread Cert.LatIdeal.nD Cert.LatIdeal.τ).loc Cert.LatIdeal.main_arg5)
          ∧ r.2.mem ((c.tc : Thread Cert.LatIdeal.nD Cert.LatIdeal.τ).loc Cert.LatIdeal.main_arg6) = m ((c.tc : Thread Cert.LatIdeal.nD Cert.LatIdeal.τ).loc Cert.LatIdeal.main_arg6)
          ∧ r.2.mem ((c.tc : Thread Cert.LatIdeal.nD Cert.LatIdeal.τ).loc Cert.LatIdeal.main_arg7) = m ((c.tc : Thread Cert.LatIdeal.nD Cert.LatIdeal.τ).loc Cert.LatIdeal.main_arg7)
          ∧ r.2.mem ((c.tc : Thread Cert.LatIdeal.nD Cert.LatIdeal.τ).loc Cert.LatIdeal.main_arg8) = m ((c.tc : Thread Cert.LatIdeal.nD Cert.LatIdeal.τ).loc Cert.LatIdeal.main_arg8)
          ∧ r.2.mem ((c.tc : Thread Cert.LatIdeal.nD Cert.LatIdeal.τ).loc Cert.LatIdeal.main_arg9) = m ((c.tc : Thread Cert.LatIdeal.nD Cert.LatIdeal.τ).loc Cert.LatIdeal.main_arg9)
          ∧ r.2.mem ((c.tc : Thread Cert.LatIdeal.nD Cert.LatIdeal.τ).loc Cert.LatIdeal.main_arg10) = m ((c.tc : Thread Cert.LatIdeal.nD Cert.LatIdeal.τ).loc Cert.LatIdeal.main_arg10)
          ∧ r.2.mem ((c.tc : Thread Cert.LatIdeal.nD Cert.LatIdeal.τ).loc Cert.LatIdeal.main_arg11) = m ((c.tc : Thread Cert.LatIdeal.nD Cert.LatIdeal.τ).loc Cert.LatIdeal.main_arg11)
          ∧ r.2.mem ((c.tc : Thread Cert.LatIdeal.nD Cert.LatIdeal.τ).loc Cert.LatIdeal.main_arg12) = m ((c.tc : Thread Cert.LatIdeal.nD Cert.LatIdeal.τ).loc Cert.LatIdeal.main_arg12))
      ∧ θ_run (Cert.LatRefIdeal.defs (F := Ideal)) (onTc (τ := Cert.LatRefIdeal.τ) (Cert.LatRefIdeal.main (F := Ideal))) ⟨m', fun _ => 0, g'⟩ (fun r => ∀ c : Dev Cert.LatRefIdeal.nD,
          r.2.mem ((c.tc : Thread Cert.LatRefIdeal.nD Cert.LatRefIdeal.τ).loc Cert.LatRefIdeal.main_v104) = v0 c
          ∧ r.2.mem ((c.tc : Thread Cert.LatRefIdeal.nD Cert.LatRefIdeal.τ).loc Cert.LatRefIdeal.main_v140) = v1 c
          ∧ r.2.mem ((c.tc : Thread Cert.LatRefIdeal.nD Cert.LatRefIdeal.τ).loc Cert.LatRefIdeal.main_v138) = v2 c
          ∧ r.2.mem ((c.tc : Thread Cert.LatRefIdeal.nD Cert.LatRefIdeal.τ).loc Cert.LatRefIdeal.main_arg0) = m' ((c.tc : Thread Cert.LatRefIdeal.nD Cert.LatRefIdeal.τ).loc Cert.LatRefIdeal.main_arg0)
          ∧ r.2.mem ((c.tc : Thread Cert.LatRefIdeal.nD Cert.LatRefIdeal.τ).loc Cert.LatRefIdeal.main_arg1) = m' ((c.tc : Thread Cert.LatRefIdeal.nD Cert.LatRefIdeal.τ).loc Cert.LatRefIdeal.main_arg1)
          ∧ r.2.mem ((c.tc : Thread Cert.LatRefIdeal.nD Cert.LatRefIdeal.τ).loc Cert.LatRefIdeal.main_arg2) = m' ((c.tc : Thread Cert.LatRefIdeal.nD Cert.LatRefIdeal.τ).loc Cert.LatRefIdeal.main_arg2)
          ∧ r.2.mem ((c.tc : Thread Cert.LatRefIdeal.nD Cert.LatRefIdeal.τ).loc Cert.LatRefIdeal.main_arg3) = m' ((c.tc : Thread Cert.LatRefIdeal.nD Cert.LatRefIdeal.τ).loc Cert.LatRefIdeal.main_arg3)
          ∧ r.2.mem ((c.tc : Thread Cert.LatRefIdeal.nD Cert.LatRefIdeal.τ).loc Cert.LatRefIdeal.main_arg4) = m' ((c.tc : Thread Cert.LatRefIdeal.nD Cert.LatRefIdeal.τ).loc Cert.LatRefIdeal.main_arg4)
          ∧ r.2.mem ((c.tc : Thread Cert.LatRefIdeal.nD Cert.LatRefIdeal.τ).loc Cert.LatRefIdeal.main_arg5) = m' ((c.tc : Thread Cert.LatRefIdeal.nD Cert.LatRefIdeal.τ).loc Cert.LatRefIdeal.main_arg5)
          ∧ r.2.mem ((c.tc : Thread Cert.LatRefIdeal.nD Cert.LatRefIdeal.τ).loc Cert.LatRefIdeal.main_arg6) = m' ((c.tc : Thread Cert.LatRefIdeal.nD Cert.LatRefIdeal.τ).loc Cert.LatRefIdeal.main_arg6)
          ∧ r.2.mem ((c.tc : Thread Cert.LatRefIdeal.nD Cert.LatRefIdeal.τ).loc Cert.LatRefIdeal.main_arg7) = m' ((c.tc : Thread Cert.LatRefIdeal.nD Cert.LatRefIdeal.τ).loc Cert.LatRefIdeal.main_arg7)
          ∧ r.2.mem ((c.tc : Thread Cert.LatRefIdeal.nD Cert.LatRefIdeal.τ).loc Cert.LatRefIdeal.main_arg8) = m' ((c.tc : Thread Cert.LatRefIdeal.nD Cert.LatRefIdeal.τ).loc Cert.LatRefIdeal.main_arg8)
          ∧ r.2.mem ((c.tc : Thread Cert.LatRefIdeal.nD Cert.LatRefIdeal.τ).loc Cert.LatRefIdeal.main_arg9) = m' ((c.tc : Thread Cert.LatRefIdeal.nD Cert.LatRefIdeal.τ).loc Cert.LatRefIdeal.main_arg9)
          ∧ r.2.mem ((c.tc : Thread Cert.LatRefIdeal.nD Cert.LatRefIdeal.τ).loc Cert.LatRefIdeal.main_arg10) = m' ((c.tc : Thread Cert.LatRefIdeal.nD Cert.LatRefIdeal.τ).loc Cert.LatRefIdeal.main_arg10)
          ∧ r.2.mem ((c.tc : Thread Cert.LatRefIdeal.nD Cert.LatRefIdeal.τ).loc Cert.LatRefIdeal.main_arg11) = m' ((c.tc : Thread Cert.LatRefIdeal.nD Cert.LatRefIdeal.τ).loc Cert.LatRefIdeal.main_arg11)
          ∧ r.2.mem ((c.tc : Thread Cert.LatRefIdeal.nD Cert.LatRefIdeal.τ).loc Cert.LatRefIdeal.main_arg12) = m' ((c.tc : Thread Cert.LatRefIdeal.nD Cert.LatRefIdeal.τ).loc Cert.LatRefIdeal.main_arg12))

def preserves_Inp_InpIdeal : Prop :=
  True

def algebraic_InpIdeal_InpRefIdeal [hInpIdeal : Cert.InpIdeal.Facts] [hInpRefIdeal : Cert.InpRefIdeal.Facts] : Prop :=
  ∀ (m : (ℓ : Loc Cert.InpIdeal.nD Cert.InpIdeal.τ Cert.InpIdeal.sig) → Buf (Elt Ideal) ℓ) (g : Dev Cert.InpIdeal.nD → PrngReg)
    (m' : (ℓ : Loc Cert.InpRefIdeal.nD Cert.InpRefIdeal.τ Cert.InpRefIdeal.sig) → Buf (Elt Ideal) ℓ) (g' : Dev Cert.InpRefIdeal.nD → PrngReg), Pre_InpIdeal m →
    (∀ c : Dev Cert.InpIdeal.nD,
      m' ((c.tc : Thread Cert.InpRefIdeal.nD Cert.InpRefIdeal.τ).loc Cert.InpRefIdeal.main_arg0) = m ((c.tc : Thread Cert.InpIdeal.nD Cert.InpIdeal.τ).loc Cert.InpIdeal.main_arg0)
      ∧ m' ((c.tc : Thread Cert.InpRefIdeal.nD Cert.InpRefIdeal.τ).loc Cert.InpRefIdeal.main_arg1) = m ((c.tc : Thread Cert.InpIdeal.nD Cert.InpIdeal.τ).loc Cert.InpIdeal.main_arg1)
      ∧ m' ((c.tc : Thread Cert.InpRefIdeal.nD Cert.InpRefIdeal.τ).loc Cert.InpRefIdeal.main_arg2) = m ((c.tc : Thread Cert.InpIdeal.nD Cert.InpIdeal.τ).loc Cert.InpIdeal.main_arg2)
      ∧ m' ((c.tc : Thread Cert.InpRefIdeal.nD Cert.InpRefIdeal.τ).loc Cert.InpRefIdeal.main_arg3) = m ((c.tc : Thread Cert.InpIdeal.nD Cert.InpIdeal.τ).loc Cert.InpIdeal.main_arg3)
      ∧ m' ((c.tc : Thread Cert.InpRefIdeal.nD Cert.InpRefIdeal.τ).loc Cert.InpRefIdeal.main_arg4) = m ((c.tc : Thread Cert.InpIdeal.nD Cert.InpIdeal.τ).loc Cert.InpIdeal.main_arg4)
      ∧ m' ((c.tc : Thread Cert.InpRefIdeal.nD Cert.InpRefIdeal.τ).loc Cert.InpRefIdeal.main_arg5) = m ((c.tc : Thread Cert.InpIdeal.nD Cert.InpIdeal.τ).loc Cert.InpIdeal.main_arg5)
      ∧ m' ((c.tc : Thread Cert.InpRefIdeal.nD Cert.InpRefIdeal.τ).loc Cert.InpRefIdeal.main_arg6) = m ((c.tc : Thread Cert.InpIdeal.nD Cert.InpIdeal.τ).loc Cert.InpIdeal.main_arg6)) →
    ∃ (v0 : (c : Dev Cert.InpIdeal.nD) → Buf (Elt Ideal) ((c.tc : Thread Cert.InpIdeal.nD Cert.InpIdeal.τ).loc Cert.InpIdeal.main_v72_2)) (v1 : (c : Dev Cert.InpIdeal.nD) → Buf (Elt Ideal) ((c.tc : Thread Cert.InpIdeal.nD Cert.InpIdeal.τ).loc Cert.InpIdeal.main_v72_3)) (v2 : (c : Dev Cert.InpIdeal.nD) → Buf (Elt Ideal) ((c.tc : Thread Cert.InpIdeal.nD Cert.InpIdeal.τ).loc Cert.InpIdeal.main_v72_4)) (v3 : (c : Dev Cert.InpIdeal.nD) → Buf (Elt Ideal) ((c.tc : Thread Cert.InpIdeal.nD Cert.InpIdeal.τ).loc Cert.InpIdeal.main_v72_5)) (v4 : (c : Dev Cert.InpIdeal.nD) → Buf (Elt Ideal) ((c.tc : Thread Cert.InpIdeal.nD Cert.InpIdeal.τ).loc Cert.InpIdeal.main_v72_6)),
      θ_run (Cert.InpIdeal.defs (F := Ideal)) (onTc (τ := Cert.InpIdeal.τ) (Cert.InpIdeal.main (F := Ideal))) ⟨m, fun _ => 0, g⟩ (fun r => ∀ c : Dev Cert.InpIdeal.nD,
          r.2.mem ((c.tc : Thread Cert.InpIdeal.nD Cert.InpIdeal.τ).loc Cert.InpIdeal.main_v72_2) = v0 c
          ∧ r.2.mem ((c.tc : Thread Cert.InpIdeal.nD Cert.InpIdeal.τ).loc Cert.InpIdeal.main_v72_3) = v1 c
          ∧ r.2.mem ((c.tc : Thread Cert.InpIdeal.nD Cert.InpIdeal.τ).loc Cert.InpIdeal.main_v72_4) = v2 c
          ∧ r.2.mem ((c.tc : Thread Cert.InpIdeal.nD Cert.InpIdeal.τ).loc Cert.InpIdeal.main_v72_5) = v3 c
          ∧ r.2.mem ((c.tc : Thread Cert.InpIdeal.nD Cert.InpIdeal.τ).loc Cert.InpIdeal.main_v72_6) = v4 c
          ∧ r.2.mem ((c.tc : Thread Cert.InpIdeal.nD Cert.InpIdeal.τ).loc Cert.InpIdeal.main_arg0) = m ((c.tc : Thread Cert.InpIdeal.nD Cert.InpIdeal.τ).loc Cert.InpIdeal.main_arg0)
          ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
          ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
          ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
          ∧ r.2.mem ((c.tc : Thread Cert.InpIdeal.nD Cert.InpIdeal.τ).loc Cert.InpIdeal.main_arg4) = m ((c.tc : Thread Cert.InpIdeal.nD Cert.InpIdeal.τ).loc Cert.InpIdeal.main_arg4)
          ∧ r.2.mem ((c.tc : Thread Cert.InpIdeal.nD Cert.InpIdeal.τ).loc Cert.InpIdeal.main_arg5) = m ((c.tc : Thread Cert.InpIdeal.nD Cert.InpIdeal.τ).loc Cert.InpIdeal.main_arg5)
          ∧ r.2.mem ((c.tc : Thread Cert.InpIdeal.nD Cert.InpIdeal.τ).loc Cert.InpIdeal.main_arg6) = m ((c.tc : Thread Cert.InpIdeal.nD Cert.InpIdeal.τ).loc Cert.InpIdeal.main_arg6))
      ∧ θ_run (Cert.InpRefIdeal.defs (F := Ideal)) (onTc (τ := Cert.InpRefIdeal.τ) (Cert.InpRefIdeal.main (F := Ideal))) ⟨m', fun _ => 0, g'⟩ (fun r => ∀ c : Dev Cert.InpRefIdeal.nD,
          r.2.mem ((c.tc : Thread Cert.InpRefIdeal.nD Cert.InpRefIdeal.τ).loc Cert.InpRefIdeal.main_v96) = v0 c
          ∧ r.2.mem ((c.tc : Thread Cert.InpRefIdeal.nD Cert.InpRefIdeal.τ).loc Cert.InpRefIdeal.main_v97) = v1 c
          ∧ r.2.mem ((c.tc : Thread Cert.InpRefIdeal.nD Cert.InpRefIdeal.τ).loc Cert.InpRefIdeal.main_v98) = v2 c
          ∧ r.2.mem ((c.tc : Thread Cert.InpRefIdeal.nD Cert.InpRefIdeal.τ).loc Cert.InpRefIdeal.main_v99) = v3 c
          ∧ r.2.mem ((c.tc : Thread Cert.InpRefIdeal.nD Cert.InpRefIdeal.τ).loc Cert.InpRefIdeal.main_v100) = v4 c
          ∧ r.2.mem ((c.tc : Thread Cert.InpRefIdeal.nD Cert.InpRefIdeal.τ).loc Cert.InpRefIdeal.main_arg0) = m' ((c.tc : Thread Cert.InpRefIdeal.nD Cert.InpRefIdeal.τ).loc Cert.InpRefIdeal.main_arg0)
          ∧ r.2.mem ((c.tc : Thread Cert.InpRefIdeal.nD Cert.InpRefIdeal.τ).loc Cert.InpRefIdeal.main_arg1) = m' ((c.tc : Thread Cert.InpRefIdeal.nD Cert.InpRefIdeal.τ).loc Cert.InpRefIdeal.main_arg1)
          ∧ r.2.mem ((c.tc : Thread Cert.InpRefIdeal.nD Cert.InpRefIdeal.τ).loc Cert.InpRefIdeal.main_arg2) = m' ((c.tc : Thread Cert.InpRefIdeal.nD Cert.InpRefIdeal.τ).loc Cert.InpRefIdeal.main_arg2)
          ∧ r.2.mem ((c.tc : Thread Cert.InpRefIdeal.nD Cert.InpRefIdeal.τ).loc Cert.InpRefIdeal.main_arg3) = m' ((c.tc : Thread Cert.InpRefIdeal.nD Cert.InpRefIdeal.τ).loc Cert.InpRefIdeal.main_arg3)
          ∧ r.2.mem ((c.tc : Thread Cert.InpRefIdeal.nD Cert.InpRefIdeal.τ).loc Cert.InpRefIdeal.main_arg4) = m' ((c.tc : Thread Cert.InpRefIdeal.nD Cert.InpRefIdeal.τ).loc Cert.InpRefIdeal.main_arg4)
          ∧ r.2.mem ((c.tc : Thread Cert.InpRefIdeal.nD Cert.InpRefIdeal.τ).loc Cert.InpRefIdeal.main_arg5) = m' ((c.tc : Thread Cert.InpRefIdeal.nD Cert.InpRefIdeal.τ).loc Cert.InpRefIdeal.main_arg5)
          ∧ r.2.mem ((c.tc : Thread Cert.InpRefIdeal.nD Cert.InpRefIdeal.τ).loc Cert.InpRefIdeal.main_arg6) = m' ((c.tc : Thread Cert.InpRefIdeal.nD Cert.InpRefIdeal.τ).loc Cert.InpRefIdeal.main_arg6))

def preserves_Fin_FinIdeal : Prop :=
  True

def algebraic_FinIdeal_FinRefIdeal [hFinIdeal : Cert.FinIdeal.Facts] [hFinRefIdeal : Cert.FinRefIdeal.Facts] : Prop :=
  ∀ (m : (ℓ : Loc Cert.FinIdeal.nD Cert.FinIdeal.τ Cert.FinIdeal.sig) → Buf (Elt Ideal) ℓ) (g : Dev Cert.FinIdeal.nD → PrngReg)
    (m' : (ℓ : Loc Cert.FinRefIdeal.nD Cert.FinRefIdeal.τ Cert.FinRefIdeal.sig) → Buf (Elt Ideal) ℓ) (g' : Dev Cert.FinRefIdeal.nD → PrngReg), Pre_FinIdeal m →
    (∀ c : Dev Cert.FinIdeal.nD,
      m' ((c.tc : Thread Cert.FinRefIdeal.nD Cert.FinRefIdeal.τ).loc Cert.FinRefIdeal.main_arg0) = m ((c.tc : Thread Cert.FinIdeal.nD Cert.FinIdeal.τ).loc Cert.FinIdeal.main_arg0)
      ∧ m' ((c.tc : Thread Cert.FinRefIdeal.nD Cert.FinRefIdeal.τ).loc Cert.FinRefIdeal.main_arg1) = m ((c.tc : Thread Cert.FinIdeal.nD Cert.FinIdeal.τ).loc Cert.FinIdeal.main_arg1)
      ∧ m' ((c.tc : Thread Cert.FinRefIdeal.nD Cert.FinRefIdeal.τ).loc Cert.FinRefIdeal.main_arg2) = m ((c.tc : Thread Cert.FinIdeal.nD Cert.FinIdeal.τ).loc Cert.FinIdeal.main_arg2)
      ∧ m' ((c.tc : Thread Cert.FinRefIdeal.nD Cert.FinRefIdeal.τ).loc Cert.FinRefIdeal.main_arg3) = m ((c.tc : Thread Cert.FinIdeal.nD Cert.FinIdeal.τ).loc Cert.FinIdeal.main_arg3)
      ∧ m' ((c.tc : Thread Cert.FinRefIdeal.nD Cert.FinRefIdeal.τ).loc Cert.FinRefIdeal.main_arg4) = m ((c.tc : Thread Cert.FinIdeal.nD Cert.FinIdeal.τ).loc Cert.FinIdeal.main_arg4)
      ∧ m' ((c.tc : Thread Cert.FinRefIdeal.nD Cert.FinRefIdeal.τ).loc Cert.FinRefIdeal.main_arg5) = m ((c.tc : Thread Cert.FinIdeal.nD Cert.FinIdeal.τ).loc Cert.FinIdeal.main_arg5)
      ∧ m' ((c.tc : Thread Cert.FinRefIdeal.nD Cert.FinRefIdeal.τ).loc Cert.FinRefIdeal.main_arg6) = m ((c.tc : Thread Cert.FinIdeal.nD Cert.FinIdeal.τ).loc Cert.FinIdeal.main_arg6)
      ∧ m' ((c.tc : Thread Cert.FinRefIdeal.nD Cert.FinRefIdeal.τ).loc Cert.FinRefIdeal.main_arg7) = m ((c.tc : Thread Cert.FinIdeal.nD Cert.FinIdeal.τ).loc Cert.FinIdeal.main_arg7)
      ∧ m' ((c.tc : Thread Cert.FinRefIdeal.nD Cert.FinRefIdeal.τ).loc Cert.FinRefIdeal.main_arg8) = m ((c.tc : Thread Cert.FinIdeal.nD Cert.FinIdeal.τ).loc Cert.FinIdeal.main_arg8)) →
    ∃ (v0 : (c : Dev Cert.FinIdeal.nD) → Buf (Elt Ideal) ((c.tc : Thread Cert.FinIdeal.nD Cert.FinIdeal.τ).loc Cert.FinIdeal.main_v5)),
      θ_run (Cert.FinIdeal.defs (F := Ideal)) (onTc (τ := Cert.FinIdeal.τ) (Cert.FinIdeal.main (F := Ideal))) ⟨m, fun _ => 0, g⟩ (fun r => ∀ c : Dev Cert.FinIdeal.nD,
          r.2.mem ((c.tc : Thread Cert.FinIdeal.nD Cert.FinIdeal.τ).loc Cert.FinIdeal.main_v5) = v0 c
          ∧ r.2.mem ((c.tc : Thread Cert.FinIdeal.nD Cert.FinIdeal.τ).loc Cert.FinIdeal.main_arg0) = m ((c.tc : Thread Cert.FinIdeal.nD Cert.FinIdeal.τ).loc Cert.FinIdeal.main_arg0)
          ∧ r.2.mem ((c.tc : Thread Cert.FinIdeal.nD Cert.FinIdeal.τ).loc Cert.FinIdeal.main_arg1) = m ((c.tc : Thread Cert.FinIdeal.nD Cert.FinIdeal.τ).loc Cert.FinIdeal.main_arg1)
          ∧ r.2.mem ((c.tc : Thread Cert.FinIdeal.nD Cert.FinIdeal.τ).loc Cert.FinIdeal.main_arg2) = m ((c.tc : Thread Cert.FinIdeal.nD Cert.FinIdeal.τ).loc Cert.FinIdeal.main_arg2)
          ∧ r.2.mem ((c.tc : Thread Cert.FinIdeal.nD Cert.FinIdeal.τ).loc Cert.FinIdeal.main_arg3) = m ((c.tc : Thread Cert.FinIdeal.nD Cert.FinIdeal.τ).loc Cert.FinIdeal.main_arg3)
          ∧ r.2.mem ((c.tc : Thread Cert.FinIdeal.nD Cert.FinIdeal.τ).loc Cert.FinIdeal.main_arg4) = m ((c.tc : Thread Cert.FinIdeal.nD Cert.FinIdeal.τ).loc Cert.FinIdeal.main_arg4)
          ∧ r.2.mem ((c.tc : Thread Cert.FinIdeal.nD Cert.FinIdeal.τ).loc Cert.FinIdeal.main_arg5) = m ((c.tc : Thread Cert.FinIdeal.nD Cert.FinIdeal.τ).loc Cert.FinIdeal.main_arg5)
          ∧ r.2.mem ((c.tc : Thread Cert.FinIdeal.nD Cert.FinIdeal.τ).loc Cert.FinIdeal.main_arg6) = m ((c.tc : Thread Cert.FinIdeal.nD Cert.FinIdeal.τ).loc Cert.FinIdeal.main_arg6)
          ∧ r.2.mem ((c.tc : Thread Cert.FinIdeal.nD Cert.FinIdeal.τ).loc Cert.FinIdeal.main_arg7) = m ((c.tc : Thread Cert.FinIdeal.nD Cert.FinIdeal.τ).loc Cert.FinIdeal.main_arg7)
          ∧ r.2.mem ((c.tc : Thread Cert.FinIdeal.nD Cert.FinIdeal.τ).loc Cert.FinIdeal.main_arg8) = m ((c.tc : Thread Cert.FinIdeal.nD Cert.FinIdeal.τ).loc Cert.FinIdeal.main_arg8))
      ∧ θ_run (Cert.FinRefIdeal.defs (F := Ideal)) (onTc (τ := Cert.FinRefIdeal.τ) (Cert.FinRefIdeal.main (F := Ideal))) ⟨m', fun _ => 0, g'⟩ (fun r => ∀ c : Dev Cert.FinRefIdeal.nD,
          r.2.mem ((c.tc : Thread Cert.FinRefIdeal.nD Cert.FinRefIdeal.τ).loc Cert.FinRefIdeal.main_v81) = v0 c
          ∧ r.2.mem ((c.tc : Thread Cert.FinRefIdeal.nD Cert.FinRefIdeal.τ).loc Cert.FinRefIdeal.main_arg0) = m' ((c.tc : Thread Cert.FinRefIdeal.nD Cert.FinRefIdeal.τ).loc Cert.FinRefIdeal.main_arg0)
          ∧ r.2.mem ((c.tc : Thread Cert.FinRefIdeal.nD Cert.FinRefIdeal.τ).loc Cert.FinRefIdeal.main_arg1) = m' ((c.tc : Thread Cert.FinRefIdeal.nD Cert.FinRefIdeal.τ).loc Cert.FinRefIdeal.main_arg1)
          ∧ r.2.mem ((c.tc : Thread Cert.FinRefIdeal.nD Cert.FinRefIdeal.τ).loc Cert.FinRefIdeal.main_arg2) = m' ((c.tc : Thread Cert.FinRefIdeal.nD Cert.FinRefIdeal.τ).loc Cert.FinRefIdeal.main_arg2)
          ∧ r.2.mem ((c.tc : Thread Cert.FinRefIdeal.nD Cert.FinRefIdeal.τ).loc Cert.FinRefIdeal.main_arg3) = m' ((c.tc : Thread Cert.FinRefIdeal.nD Cert.FinRefIdeal.τ).loc Cert.FinRefIdeal.main_arg3)
          ∧ r.2.mem ((c.tc : Thread Cert.FinRefIdeal.nD Cert.FinRefIdeal.τ).loc Cert.FinRefIdeal.main_arg4) = m' ((c.tc : Thread Cert.FinRefIdeal.nD Cert.FinRefIdeal.τ).loc Cert.FinRefIdeal.main_arg4)
          ∧ r.2.mem ((c.tc : Thread Cert.FinRefIdeal.nD Cert.FinRefIdeal.τ).loc Cert.FinRefIdeal.main_arg5) = m' ((c.tc : Thread Cert.FinRefIdeal.nD Cert.FinRefIdeal.τ).loc Cert.FinRefIdeal.main_arg5)
          ∧ r.2.mem ((c.tc : Thread Cert.FinRefIdeal.nD Cert.FinRefIdeal.τ).loc Cert.FinRefIdeal.main_arg6) = m' ((c.tc : Thread Cert.FinRefIdeal.nD Cert.FinRefIdeal.τ).loc Cert.FinRefIdeal.main_arg6)
          ∧ r.2.mem ((c.tc : Thread Cert.FinRefIdeal.nD Cert.FinRefIdeal.τ).loc Cert.FinRefIdeal.main_arg7) = m' ((c.tc : Thread Cert.FinRefIdeal.nD Cert.FinRefIdeal.τ).loc Cert.FinRefIdeal.main_arg7)
          ∧ r.2.mem ((c.tc : Thread Cert.FinRefIdeal.nD Cert.FinRefIdeal.τ).loc Cert.FinRefIdeal.main_arg8) = m' ((c.tc : Thread Cert.FinRefIdeal.nD Cert.FinRefIdeal.τ).loc Cert.FinRefIdeal.main_arg8))

def Claim : Prop :=
  ∃ (hDiff : Cert.Diff.Facts) (hDiffIdeal : Cert.DiffIdeal.Facts) (hDiffRefIdeal : Cert.DiffRefIdeal.Facts) (hGqa : Cert.Gqa.Facts) (hGqaIdeal : Cert.GqaIdeal.Facts) (hGqaRefIdeal : Cert.GqaRefIdeal.Facts) (hMix : Cert.Mix.Facts) (hMixIdeal : Cert.MixIdeal.Facts) (hMixRefIdeal : Cert.MixRefIdeal.Facts) (hLat : Cert.Lat.Facts) (hLatIdeal : Cert.LatIdeal.Facts) (hLatRefIdeal : Cert.LatRefIdeal.Facts) (hInp : Cert.Inp.Facts) (hInpIdeal : Cert.InpIdeal.Facts) (hInpRefIdeal : Cert.InpRefIdeal.Facts) (hFin : Cert.Fin.Facts) (hFinIdeal : Cert.FinIdeal.Facts) (hFinRefIdeal : Cert.FinRefIdeal.Facts) (hPre_diff_finite : Cert.Pre_diff_finite.Facts) (hPre_gqa_finite : Cert.Pre_gqa_finite.Facts),
    quiescent_Diff (hDiff := hDiff)
    ∧ quiescent_DiffIdeal (hDiffIdeal := hDiffIdeal)
    ∧ quiescent_DiffIdeal_pre_diff_finite (hDiffIdeal := hDiffIdeal) (hPre_diff_finite := hPre_diff_finite)
    ∧ quiescent_DiffRefIdeal (hDiffRefIdeal := hDiffRefIdeal)
    ∧ quiescent_DiffRefIdeal_pre_diff_finite (hDiffRefIdeal := hDiffRefIdeal) (hPre_diff_finite := hPre_diff_finite)
    ∧ quiescent_Gqa (hGqa := hGqa)
    ∧ quiescent_GqaIdeal (hGqaIdeal := hGqaIdeal)
    ∧ quiescent_GqaIdeal_pre_gqa_finite (hGqaIdeal := hGqaIdeal) (hPre_gqa_finite := hPre_gqa_finite)
    ∧ quiescent_GqaRefIdeal (hGqaRefIdeal := hGqaRefIdeal)
    ∧ quiescent_GqaRefIdeal_pre_gqa_finite (hGqaRefIdeal := hGqaRefIdeal) (hPre_gqa_finite := hPre_gqa_finite)
    ∧ quiescent_Mix (hMix := hMix)
    ∧ quiescent_MixIdeal (hMixIdeal := hMixIdeal)
    ∧ quiescent_MixRefIdeal (hMixRefIdeal := hMixRefIdeal)
    ∧ quiescent_Lat (hLat := hLat)
    ∧ quiescent_LatIdeal (hLatIdeal := hLatIdeal)
    ∧ quiescent_LatRefIdeal (hLatRefIdeal := hLatRefIdeal)
    ∧ quiescent_Inp (hInp := hInp)
    ∧ quiescent_InpIdeal (hInpIdeal := hInpIdeal)
    ∧ quiescent_InpRefIdeal (hInpRefIdeal := hInpRefIdeal)
    ∧ quiescent_Fin (hFin := hFin)
    ∧ quiescent_FinIdeal (hFinIdeal := hFinIdeal)
    ∧ quiescent_FinRefIdeal (hFinRefIdeal := hFinRefIdeal)
    ∧ preserves_Diff_DiffIdeal
    ∧ algebraic_DiffIdeal_DiffRefIdeal_pre_diff_finite (hDiffIdeal := hDiffIdeal) (hDiffRefIdeal := hDiffRefIdeal) (hPre_diff_finite := hPre_diff_finite)
    ∧ preserves_Gqa_GqaIdeal
    ∧ algebraic_GqaIdeal_GqaRefIdeal_pre_gqa_finite (hGqaIdeal := hGqaIdeal) (hGqaRefIdeal := hGqaRefIdeal) (hPre_gqa_finite := hPre_gqa_finite)
    ∧ preserves_Mix_MixIdeal
    ∧ algebraic_MixIdeal_MixRefIdeal (hMixIdeal := hMixIdeal) (hMixRefIdeal := hMixRefIdeal)
    ∧ preserves_Lat_LatIdeal
    ∧ algebraic_LatIdeal_LatRefIdeal (hLatIdeal := hLatIdeal) (hLatRefIdeal := hLatRefIdeal)
    ∧ preserves_Inp_InpIdeal
    ∧ algebraic_InpIdeal_InpRefIdeal (hInpIdeal := hInpIdeal) (hInpRefIdeal := hInpRefIdeal)
    ∧ preserves_Fin_FinIdeal
    ∧ algebraic_FinIdeal_FinRefIdeal (hFinIdeal := hFinIdeal) (hFinRefIdeal := hFinRefIdeal)
-- ==== Pre_diff_finite.lean ====
abbrev S64 : Shape := ⟨1, ![64]⟩
abbrev S8x2304x512 : Shape := ⟨3, ![8, 2304, 512]⟩
abbrev S8x512x2304 : Shape := ⟨3, ![8, 512, 2304]⟩
abbrev S128 : Shape := ⟨1, ![128]⟩
abbrev S_ : Shape := ⟨0, ![]⟩

class Facts : Prop where
  reducesTo_S64_S_d0 : S64.ReducesTo [0] S_
  h_S_ : 0 < S_.numel
  bitsLt_bf16_f32 : FTy.bits .bf16 < FTy.bits .f32
  bcast_S_S8x2304x512 : S_.BroadcastsInDim S8x2304x512 (![] : Fin 0 → Fin S8x2304x512.rank)
  transposes_S8x512x2304_S8x2304x512_0_2_1 : S8x512x2304.Transposes [0, 2, 1] S8x2304x512

variable [Facts]

def fn_part1 {F : FTy → Type} [FloatOps F] (main_v7 : FVec F S_ .f32) (main_v17 : IVec S8x2304x512 1) (main_v18 : FVec F S8x2304x512 .f32) : IVec S8x2304x512 1 :=
  let main_v19 : FVec F S8x2304x512 .f32 := Host.absf main_v18
  let main_cst_4 : FVec F S_ .f32 := constant S_ .f32 0x7F800000#32
  let main_v20 : FVec F S8x2304x512 .f32 := broadcastInDim S8x2304x512 ![] bcast_S_S8x2304x512 main_cst_4
  let main_v21 : IVec S8x2304x512 1 := cmpf .olt main_v19 main_v20
  let main_v22 : IVec S8x2304x512 1 := andi main_v17 main_v21
  let main_v23 : FVec F S_ .f32 := Host.absf main_v7
  let main_cst_5 : FVec F S_ .f32 := constant S_ .f32 0x7F800000#32
  let main_v24 : IVec S_ 1 := cmpf .olt main_v23 main_cst_5
  let main_v25 : IVec S8x2304x512 1 := broadcastInDim S8x2304x512 ![] bcast_S_S8x2304x512 main_v24
  let main_v26 : IVec S8x2304x512 1 := andi main_v22 main_v25
  main_v26

def fn {F : FTy → Type} [FloatOps F] (main_arg0 : FVec F S64 .f32) (main_arg1 : FVec F S64 .f32) (main_arg2 : FVec F S64 .f32) (main_arg3 : FVec F S64 .f32) (main_arg4 : FVec F S8x2304x512 .bf16) (main_arg5 : FVec F S8x512x2304 .bf16) (main_arg6 : FVec F S8x2304x512 .bf16) (main_arg7 : FVec F S128 .f32) : IVec S8x2304x512 1 :=
  let main_v0 : FVec F S64 .f32 := mulf main_arg0 main_arg1
  let main_cst : FVec F S_ .f32 := constant S_ .f32 0x00000000#32
  let main_v1 : FVec F S_ .f32 := (fun x v => Host.reduceAdd x v reducesTo_S64_S_d0 h_S_) main_v0 main_cst
  let main_v2 : FVec F S_ .f32 := Host.exp main_v1
  let main_v3 : FVec F S64 .f32 := mulf main_arg2 main_arg3
  let main_cst_0 : FVec F S_ .f32 := constant S_ .f32 0x00000000#32
  let main_v4 : FVec F S_ .f32 := (fun x v => Host.reduceAdd x v reducesTo_S64_S_d0 h_S_) main_v3 main_cst_0
  let main_v5 : FVec F S_ .f32 := Host.exp main_v4
  let main_v6 : FVec F S_ .f32 := subf main_v2 main_v5
  let main_cst_1 : FVec F S_ .f32 := constant S_ .f32 0x3E4CCCCD#32
  let main_v7 : FVec F S_ .f32 := addf main_v6 main_cst_1
  let main_v8 : FVec F S8x2304x512 .f32 := (extf .f32 · bitsLt_bf16_f32) main_arg4
  let main_v9 : FVec F S8x2304x512 .f32 := Host.absf main_v8
  let main_cst_2 : FVec F S_ .f32 := constant S_ .f32 0x7F800000#32
  let main_v10 : FVec F S8x2304x512 .f32 := broadcastInDim S8x2304x512 ![] bcast_S_S8x2304x512 main_cst_2
  let main_v11 : IVec S8x2304x512 1 := cmpf .olt main_v9 main_v10
  let main_v12 : FVec F S8x2304x512 .bf16 := (transpose S8x2304x512 [0, 2, 1] · transposes_S8x512x2304_S8x2304x512_0_2_1) main_arg5
  let main_v13 : FVec F S8x2304x512 .f32 := (extf .f32 · bitsLt_bf16_f32) main_v12
  let main_v14 : FVec F S8x2304x512 .f32 := Host.absf main_v13
  let main_cst_3 : FVec F S_ .f32 := constant S_ .f32 0x7F800000#32
  let main_v15 : FVec F S8x2304x512 .f32 := broadcastInDim S8x2304x512 ![] bcast_S_S8x2304x512 main_cst_3
  let main_v16 : IVec S8x2304x512 1 := cmpf .olt main_v14 main_v15
  let main_v17 : IVec S8x2304x512 1 := andi main_v11 main_v16
  let main_v18 : FVec F S8x2304x512 .f32 := (extf .f32 · bitsLt_bf16_f32) main_arg6
  fn_part1 (F := F) main_v7 main_v17 main_v18
-- ==== Pre_gqa_finite.lean ====
abbrev S8x2304x512 : Shape := ⟨3, ![8, 2304, 512]⟩
abbrev S8x256x2304 : Shape := ⟨3, ![8, 256, 2304]⟩
abbrev S8x2304x256 : Shape := ⟨3, ![8, 2304, 256]⟩
abbrev S_ : Shape := ⟨0, ![]⟩

class Facts : Prop where
  bitsLt_bf16_f32 : FTy.bits .bf16 < FTy.bits .f32
  bcast_S_S8x2304x512 : S_.BroadcastsInDim S8x2304x512 (![] : Fin 0 → Fin S8x2304x512.rank)
  transposes_S8x256x2304_S8x2304x256_0_2_1 : S8x256x2304.Transposes [0, 2, 1] S8x2304x256
  concatenates_S8x2304x256_S8x2304x256_S8x2304x512_d2 : Shape.Concatenates [S8x2304x256, S8x2304x256] S8x2304x512 2

variable [Facts]

def fn {F : FTy → Type} [FloatOps F] (main_arg0 : FVec F S8x2304x512 .bf16) (main_arg1 : FVec F S8x256x2304 .bf16) (main_arg2 : FVec F S8x2304x256 .bf16) : IVec S8x2304x512 1 :=
  let main_v0 : FVec F S8x2304x512 .f32 := (extf .f32 · bitsLt_bf16_f32) main_arg0
  let main_v1 : FVec F S8x2304x512 .f32 := Host.absf main_v0
  let main_cst : FVec F S_ .f32 := constant S_ .f32 0x7F800000#32
  let main_v2 : FVec F S8x2304x512 .f32 := broadcastInDim S8x2304x512 ![] bcast_S_S8x2304x512 main_cst
  let main_v3 : IVec S8x2304x512 1 := cmpf .olt main_v1 main_v2
  let main_v4 : FVec F S8x2304x256 .bf16 := (transpose S8x2304x256 [0, 2, 1] · transposes_S8x256x2304_S8x2304x256_0_2_1) main_arg1
  let main_v5 : FVec F S8x2304x512 .bf16 := (fun a b => concatenate S8x2304x512 2 [⟨S8x2304x256, a⟩, ⟨S8x2304x256, b⟩] concatenates_S8x2304x256_S8x2304x256_S8x2304x512_d2) main_v4 main_arg2
  let main_v6 : FVec F S8x2304x512 .f32 := (extf .f32 · bitsLt_bf16_f32) main_v5
  let main_v7 : FVec F S8x2304x512 .f32 := Host.absf main_v6
  let main_cst_0 : FVec F S_ .f32 := constant S_ .f32 0x7F800000#32
  let main_v8 : FVec F S8x2304x512 .f32 := broadcastInDim S8x2304x512 ![] bcast_S_S8x2304x512 main_cst_0
  let main_v9 : IVec S8x2304x512 1 := cmpf .olt main_v7 main_v8
  let main_v10 : IVec S8x2304x512 1 := andi main_v3 main_v9
  main_v10
-- ==== Diff.lean ====
abbrev S64 : Shape := ⟨1, ![64]⟩
abbrev S8x2304x512 : Shape := ⟨3, ![8, 2304, 512]⟩
abbrev S8x512x2304 : Shape := ⟨3, ![8, 512, 2304]⟩
abbrev S128 : Shape := ⟨1, ![128]⟩
abbrev S_ : Shape := ⟨0, ![]⟩
abbrev S1x1 : Shape := ⟨2, ![1, 1]⟩
abbrev S1x128 : Shape := ⟨2, ![1, 128]⟩
abbrev S8x2048x512 : Shape := ⟨3, ![8, 2048, 512]⟩
abbrev S1x256x512 : Shape := ⟨3, ![1, 256, 512]⟩
abbrev S1x512x2304 : Shape := ⟨3, ![1, 512, 2304]⟩
abbrev S1x2304x512 : Shape := ⟨3, ![1, 2304, 512]⟩
abbrev S1x512x512 : Shape := ⟨3, ![1, 512, 512]⟩
abbrev S256x512 : Shape := ⟨2, ![256, 512]⟩
abbrev S512x512 : Shape := ⟨2, ![512, 512]⟩
abbrev S512x128 : Shape := ⟨2, ![512, 128]⟩
abbrev S1x128x2304 : Shape := ⟨3, ![1, 128, 2304]⟩
abbrev S128x2304 : Shape := ⟨2, ![128, 2304]⟩
abbrev S1x2304x128 : Shape := ⟨3, ![1, 2304, 128]⟩
abbrev S2304x128 : Shape := ⟨2, ![2304, 128]⟩
abbrev S512x2304 : Shape := ⟨2, ![512, 2304]⟩
abbrev S512 : Shape := ⟨1, ![512]⟩
abbrev S512x1 : Shape := ⟨2, ![512, 1]⟩
abbrev S1x512x128 : Shape := ⟨3, ![1, 512, 128]⟩

abbrev nBuf : Space → Nat
  | .hbm => 22
  | .vmem => 11
  | .smem => 1
  | _ => 0

abbrev bufTy : (tb : Table) → Fin (tcTables nBuf tb) → BufTy
  | .hbm, ⟨0, _⟩ => ⟨S64, .f32⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S8x2304x512, .bf16⟩
  | .hbm, ⟨5, _⟩ => ⟨S8x512x2304, .bf16⟩
  | .hbm, ⟨6, _⟩ => ⟨S8x2304x512, .bf16⟩
  | .hbm, ⟨7, _⟩ => ⟨S128, .f32⟩
  | .hbm, ⟨8, _⟩ => ⟨S64, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1x1, .f32⟩
  | .hbm, ⟨20, _⟩ => ⟨S1x128, .f32⟩
  | .hbm, ⟨21, _⟩ => ⟨S8x2048x512, .bf16⟩
  | .local _ .vmem, ⟨0, _⟩ => ⟨S1x256x512, .bf16⟩
  | .local _ .vmem, ⟨1, _⟩ => ⟨S1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S1x512x2304, .bf16⟩
  | .local _ .vmem, ⟨5, _⟩ => ⟨S1x512x2304, .bf16⟩
  | .local _ .vmem, ⟨6, _⟩ => ⟨S1x2304x512, .bf16⟩
  | .local _ .vmem, ⟨7, _⟩ => ⟨S1x2304x512, .bf16⟩
  | .local _ .vmem, ⟨8, _⟩ => ⟨S1x128, .f32⟩
  | .local _ .vmem, ⟨9, _⟩ => ⟨S1x512x512, .bf16⟩
  | .local _ .vmem, ⟨10, _⟩ => ⟨S1x512x512, .bf16⟩
  | .local _ .smem, ⟨0, _⟩ => ⟨S1x1, .f32⟩
  | _, _ => ⟨S64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi c1_i32 v0
  let c0_i32 : BitVec 32 := 0#32
  let v2 : BitVec 32 := Scalar.addi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi c1_i32 v0
  let c1_i32_0 : BitVec 32 := 1#32
  let v2 : BitVec 32 := Scalar.addi v1 c1_i32_0
  let c0_i32 : BitVec 32 := 0#32
  let c0_i32_1 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2304 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2304x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== DiffRefIdeal.lean ====
abbrev S64 : Shape := ⟨1, ![64]⟩
abbrev S8x2304x512 : Shape := ⟨3, ![8, 2304, 512]⟩
abbrev S8x512x2304 : Shape := ⟨3, ![8, 512, 2304]⟩
abbrev S128 : Shape := ⟨1, ![128]⟩
abbrev S_ : Shape := ⟨0, ![]⟩
abbrev S8x2048x512 : Shape := ⟨3, ![8, 2048, 512]⟩
abbrev S8x2048x4x2x64 : Shape := ⟨5, ![8, 2048, 4, 2, 64]⟩
abbrev S8x4x2x64x2304 : Shape := ⟨5, ![8, 4, 2, 64, 2304]⟩
abbrev S8x2304x4x128 : Shape := ⟨4, ![8, 2304, 4, 128]⟩
abbrev S8x2048x4x1x64 : Shape := ⟨5, ![8, 2048, 4, 1, 64]⟩
abbrev S8x2048x4x64 : Shape := ⟨4, ![8, 2048, 4, 64]⟩
abbrev S8x4x1x64x2304 : Shape := ⟨5, ![8, 4, 1, 64, 2304]⟩
abbrev S8x4x64x2304 : Shape := ⟨4, ![8, 4, 64, 2304]⟩
abbrev S8x4x2048x2304 : Shape := ⟨4, ![8, 4, 2048, 2304]⟩
abbrev S8x4x2048 : Shape := ⟨3, ![8, 4, 2048]⟩
abbrev S8x4x2048x1 : Shape := ⟨4, ![8, 4, 2048, 1]⟩
abbrev S8x4x128x2048 : Shape := ⟨4, ![8, 4, 128, 2048]⟩
abbrev S8x2048x4x128 : Shape := ⟨4, ![8, 2048, 4, 128]⟩
abbrev S8x2048x4 : Shape := ⟨3, ![8, 2048, 4]⟩
abbrev S8x2048x4x1 : Shape := ⟨4, ![8, 2048, 4, 1]⟩
abbrev S1x1x1x128 : Shape := ⟨4, ![1, 1, 1, 128]⟩

abbrev nBuf : Space → Nat
  | .hbm => 98
  | .vmem => 0
  | .smem => 0
  | _ => 0

abbrev bufTy : (tb : Table) → Fin (tcTables nBuf tb) → BufTy
  | .hbm, ⟨0, _⟩ => ⟨S64, .f32⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S8x2304x512, .bf16⟩
  | .hbm, ⟨5, _⟩ => ⟨S8x512x2304, .bf16⟩
  | .hbm, ⟨6, _⟩ => ⟨S8x2304x512, .bf16⟩
  | .hbm, ⟨7, _⟩ => ⟨S128, .f32⟩
  | .hbm, ⟨8, _⟩ => ⟨S64, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8x2304x512, .f32⟩
  | .hbm, ⟨20, _⟩ => ⟨S8x2048x512, .f32⟩
  | .hbm, ⟨21, _⟩ => ⟨S8x2048x4x2x64, .f32⟩
  | .hbm, ⟨22, _⟩ => ⟨S8x512x2304, .f32⟩
  | .hbm, ⟨23, _⟩ => ⟨S8x4x2x64x2304, .f32⟩
  | .hbm, ⟨24, _⟩ => ⟨S8x2304x512, .f32⟩
  | .hbm, ⟨25, _⟩ => ⟨S8x2304x4x128, .f32⟩
  | .hbm, ⟨26, _⟩ => ⟨S8x2048x4x1x64, .f32⟩
  | .hbm, ⟨27, _⟩ => ⟨S8x2048x4x64, .f32⟩
  | .hbm, ⟨28, _⟩ => ⟨S8x4x1x64x2304, .f32⟩
  | .hbm, ⟨29, _⟩ => ⟨S8x4x64x2304, .f32⟩
  | .hbm, ⟨30, _⟩ => ⟨S8x4x2048x2304, .f32⟩
  | .hbm, ⟨31, _⟩ => ⟨S_, .f32⟩
  | .hbm, ⟨32, _⟩ => ⟨S_, .f32⟩
  | .hbm, ⟨33, _⟩ => ⟨S8x4x2048x2304, .f32⟩
  | .hbm, ⟨34, _⟩ => ⟨S8x4x2048x2304, .f32⟩
  | .hbm, ⟨35, _⟩ => ⟨S_, .f32⟩
  | .hbm, ⟨36, _⟩ => ⟨S8x4x2048, .f32⟩
  | .hbm, ⟨37, _⟩ => ⟨S_, .f32⟩
  | .hbm, ⟨38, _⟩ => ⟨S8x4x2048, .f32⟩
  | .hbm, ⟨39, _⟩ => ⟨S8x4x2048, .f32⟩
  | .hbm, ⟨40, _⟩ => ⟨S8x4x2048x1, .f32⟩
  | .hbm, ⟨41, _⟩ => ⟨S8x4x2048x2304, .f32⟩
  | .hbm, ⟨42, _⟩ => ⟨S8x4x2048x2304, .f32⟩
  | .hbm, ⟨43, _⟩ => ⟨S8x4x2048x2304, .f32⟩
  | .hbm, ⟨44, _⟩ => ⟨S_, .f32⟩
  | .hbm, ⟨45, _⟩ => ⟨S8x4x2048, .f32⟩
  | .hbm, ⟨46, _⟩ => ⟨S8x4x2048x1, .f32⟩
  | .hbm, ⟨47, _⟩ => ⟨S8x4x2048x2304, .f32⟩
  | .hbm, ⟨48, _⟩ => ⟨S8x4x2048x2304, .f32⟩
  | .hbm, ⟨49, _⟩ => ⟨S8x2048x4x1x64, .f32⟩
  | .hbm, ⟨50, _⟩ => ⟨S8x2048x4x64, .f32⟩
  | .hbm, ⟨51, _⟩ => ⟨S8x4x1x64x2304, .f32⟩
  | .hbm, ⟨52, _⟩ => ⟨S8x4x64x2304, .f32⟩
  | .hbm, ⟨53, _⟩ => ⟨S8x4x2048x2304, .f32⟩
  | .hbm, ⟨54, _⟩ => ⟨S_, .f32⟩
  | .hbm, ⟨55, _⟩ => ⟨S_, .f32⟩
  | .hbm, ⟨56, _⟩ => ⟨S8x4x2048x2304, .f32⟩
  | .hbm, ⟨57, _⟩ => ⟨S8x4x2048x2304, .f32⟩
  | .hbm, ⟨58, _⟩ => ⟨S_, .f32⟩
  | .hbm, ⟨59, _⟩ => ⟨S8x4x2048, .f32⟩
  | .hbm, ⟨60, _⟩ => ⟨S_, .f32⟩
  | .hbm, ⟨61, _⟩ => ⟨S8x4x2048, .f32⟩
  | .hbm, ⟨62, _⟩ => ⟨S8x4x2048, .f32⟩
  | .hbm, ⟨63, _⟩ => ⟨S8x4x2048x1, .f32⟩
  | .hbm, ⟨64, _⟩ => ⟨S8x4x2048x2304, .f32⟩
  | .hbm, ⟨65, _⟩ => ⟨S8x4x2048x2304, .f32⟩
  | .hbm, ⟨66, _⟩ => ⟨S8x4x2048x2304, .f32⟩
  | .hbm, ⟨67, _⟩ => ⟨S_, .f32⟩
  | .hbm, ⟨68, _⟩ => ⟨S8x4x2048, .f32⟩
  | .hbm, ⟨69, _⟩ => ⟨S8x4x2048x1, .f32⟩
  | .hbm, ⟨70, _⟩ => ⟨S8x4x2048x2304, .f32⟩
  | .hbm, ⟨71, _⟩ => ⟨S8x4x2048x2304, .f32⟩
  | .hbm, ⟨72, _⟩ => ⟨S8x4x2048x2304, .f32⟩
  | .hbm, ⟨73, _⟩ => ⟨S8x4x2048x2304, .f32⟩
  | .hbm, ⟨74, _⟩ => ⟨S8x4x2048x2304, .f32⟩
  | .hbm, ⟨75, _⟩ => ⟨S8x4x128x2048, .f32⟩
  | .hbm, ⟨76, _⟩ => ⟨S8x2048x4x128, .f32⟩
  | .hbm, ⟨77, _⟩ => ⟨S8x2048x4x128, .f32⟩
  | .hbm, ⟨78, _⟩ => ⟨S_, .f32⟩
  | .hbm, ⟨79, _⟩ => ⟨S8x2048x4, .f32⟩
  | .hbm, ⟨80, _⟩ => ⟨S8x2048x4x1, .f32⟩
  | .hbm, ⟨81, _⟩ => ⟨S_, .f32⟩
  | .hbm, ⟨82, _⟩ => ⟨S8x2048x4x1, .f32⟩
  | .hbm, ⟨83, _⟩ => ⟨S8x2048x4x1, .f32⟩
  | .hbm, ⟨84, _⟩ => ⟨S_, .f32⟩
  | .hbm, ⟨85, _⟩ => ⟨S8x2048x4x1, .f32⟩
  | .hbm, ⟨86, _⟩ => ⟨S8x2048x4x1, .f32⟩
  | .hbm, ⟨87, _⟩ => ⟨S8x2048x4x1, .f32⟩
  | .hbm, ⟨88, _⟩ => ⟨S8x2048x4x128, .f32⟩
  | .hbm, ⟨89, _⟩ => ⟨S8x2048x4x128, .f32⟩
  | .hbm, ⟨90, _⟩ => ⟨S1x1x1x128, .f32⟩
  | .hbm, ⟨91, _⟩ => ⟨S8x2048x4x128, .f32⟩
  | .hbm, ⟨92, _⟩ => ⟨S8x2048x4x128, .f32⟩
  | .hbm, ⟨93, _⟩ => ⟨S_, .f32⟩
  | .hbm, ⟨94, _⟩ => ⟨S8x2048x4x128, .f32⟩
  | .hbm, ⟨95, _⟩ => ⟨S8x2048x4x128, .f32⟩
  | .hbm, ⟨96, _⟩ => ⟨S8x2048x512, .f32⟩
  | .hbm, ⟨97, _⟩ => ⟨S8x2048x512, .bf16⟩
  | _, _ => ⟨S64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_9 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_10 : Ref sig .tc := ⟨.hbm, 78, rfl⟩
abbrev main_v59 : Ref sig .tc := ⟨.hbm, 79, rfl⟩
abbrev main_v60 : Ref sig .tc := ⟨.hbm, 80, rfl⟩
abbrev main_cst_11 : Ref sig .tc := ⟨.hbm, 81, rfl⟩
abbrev main_v61 : Ref sig .tc := ⟨.hbm, 82, rfl⟩
abbrev main_v62 : Ref sig .tc := ⟨.hbm, 83, rfl⟩
abbrev main_cst_12 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_13 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩

abbrev nD : Nat := 1
abbrev τ : Topo := Topo.v7x

variable {F : FTy → Type} [FloatOps F]
-- ==== Gqa.lean ====
abbrev S8x2304x512 : Shape := ⟨3, ![8, 2304, 512]⟩
abbrev S8x256x2304 : Shape := ⟨3, ![8, 256, 2304]⟩
abbrev S8x2304x256 : Shape := ⟨3, ![8, 2304, 256]⟩
abbrev S8x2048x512 : Shape := ⟨3, ![8, 2048, 512]⟩
abbrev S1x256x512 : Shape := ⟨3, ![1, 256, 512]⟩
abbrev S1x256x2304 : Shape := ⟨3, ![1, 256, 2304]⟩
abbrev S1x2304x256 : Shape := ⟨3, ![1, 2304, 256]⟩
abbrev S1x512x512 : Shape := ⟨3, ![1, 512, 512]⟩
abbrev S256x512 : Shape := ⟨2, ![256, 512]⟩
abbrev S512x512 : Shape := ⟨2, ![512, 512]⟩
abbrev S1x128 : Shape := ⟨2, ![1, 128]⟩
abbrev S512x128 : Shape := ⟨2, ![512, 128]⟩
abbrev S1x128x2304 : Shape := ⟨3, ![1, 128, 2304]⟩
abbrev S128x2304 : Shape := ⟨2, ![128, 2304]⟩
abbrev S1x2304x128 : Shape := ⟨3, ![1, 2304, 128]⟩
abbrev S2304x128 : Shape := ⟨2, ![2304, 128]⟩
abbrev S512x2304 : Shape := ⟨2, ![512, 2304]⟩
abbrev S512 : Shape := ⟨1, ![512]⟩
abbrev S512x1 : Shape := ⟨2, ![512, 1]⟩
abbrev S1x512x128 : Shape := ⟨3, ![1, 512, 128]⟩

abbrev nBuf : Space → Nat
  | .hbm => 4
  | .vmem => 10
  | .smem => 0
  | _ => 0

abbrev bufTy : (tb : Table) → Fin (tcTables nBuf tb) → BufTy
  | .hbm, ⟨0, _⟩ => ⟨S8x2304x512, .bf16⟩
  | .hbm, ⟨1, _⟩ => ⟨S8x256x2304, .bf16⟩
  | .hbm, ⟨2, _⟩ => ⟨S8x2304x256, .bf16⟩
  | .hbm, ⟨3, _⟩ => ⟨S8x2048x512, .bf16⟩
  | .local _ .vmem, ⟨0, _⟩ => ⟨S1x256x512, .bf16⟩
  | .local _ .vmem, ⟨1, _⟩ => ⟨S1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S1x256x2304, .bf16⟩
  | .local _ .vmem, ⟨5, _⟩ => ⟨S1x256x2304, .bf16⟩
  | .local _ .vmem, ⟨6, _⟩ => ⟨S1x2304x256, .bf16⟩
  | .local _ .vmem, ⟨7, _⟩ => ⟨S1x2304x256, .bf16⟩
  | .local _ .vmem, ⟨8, _⟩ => ⟨S1x512x512, .bf16⟩
  | .local _ .vmem, ⟨9, _⟩ => ⟨S1x512x512, .bf16⟩
  | _, _ => ⟨S8x2304x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi c1_i32 v0
  let c0_i32 : BitVec 32 := 0#32
  let v2 : BitVec 32 := Scalar.addi v1 c0_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi c1_i32 v0
  let c1_i32_0 : BitVec 32 := 1#32
  let v2 : BitVec 32 := Scalar.addi v1 c1_i32_0
  let c0_i32 : BitVec 32 := 0#32
  let c0_i32_1 : BitVec 32 := 0#32
  ![arg0.toNat, v2.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2304x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== GqaRefIdeal.lean ====
abbrev S8x2304x512 : Shape := ⟨3, ![8, 2304, 512]⟩
abbrev S8x256x2304 : Shape := ⟨3, ![8, 256, 2304]⟩
abbrev S8x2304x256 : Shape := ⟨3, ![8, 2304, 256]⟩
abbrev S8x2048x512 : Shape := ⟨3, ![8, 2048, 512]⟩
abbrev S8x2048x8x64 : Shape := ⟨4, ![8, 2048, 8, 64]⟩
abbrev S8x4x64x2304 : Shape := ⟨4, ![8, 4, 64, 2304]⟩
abbrev S8x2x64x2304 : Shape := ⟨4, ![8, 2, 64, 2304]⟩
abbrev S8x8x64x2304 : Shape := ⟨4, ![8, 8, 64, 2304]⟩
abbrev S8x2304x4x64 : Shape := ⟨4, ![8, 2304, 4, 64]⟩
abbrev S8x2304x2x64 : Shape := ⟨4, ![8, 2304, 2, 64]⟩
abbrev S8x2304x8x64 : Shape := ⟨4, ![8, 2304, 8, 64]⟩
abbrev S8x8x2048x2304 : Shape := ⟨4, ![8, 8, 2048, 2304]⟩
abbrev S_ : Shape := ⟨0, ![]⟩
abbrev S8x8x2048 : Shape := ⟨3, ![8, 8, 2048]⟩
abbrev S8x8x2048x1 : Shape := ⟨4, ![8, 8, 2048, 1]⟩
abbrev S8x8x64x2048 : Shape := ⟨4, ![8, 8, 64, 2048]⟩

abbrev nBuf : Space → Nat
  | .hbm => 39
  | .vmem => 0
  | .smem => 0
  | _ => 0

abbrev bufTy : (tb : Table) → Fin (tcTables nBuf tb) → BufTy
  | .hbm, ⟨0, _⟩ => ⟨S8x2304x512, .bf16⟩
  | .hbm, ⟨1, _⟩ => ⟨S8x256x2304, .bf16⟩
  | .hbm, ⟨2, _⟩ => ⟨S8x2304x256, .bf16⟩
  | .hbm, ⟨3, _⟩ => ⟨S8x2304x512, .f32⟩
  | .hbm, ⟨4, _⟩ => ⟨S8x2048x512, .f32⟩
  | .hbm, ⟨5, _⟩ => ⟨S8x2048x8x64, .f32⟩
  | .hbm, ⟨6, _⟩ => ⟨S8x256x2304, .f32⟩
  | .hbm, ⟨7, _⟩ => ⟨S8x4x64x2304, .f32⟩
  | .hbm, ⟨8, _⟩ => ⟨S8x2x64x2304, .f32⟩
  | .hbm, ⟨9, _⟩ => ⟨S8x2x64x2304, .f32⟩
  | .hbm, ⟨10, _⟩ => ⟨S8x8x64x2304, .f32⟩
  | .hbm, ⟨11, _⟩ => ⟨S8x2304x256, .f32⟩
  | .hbm, ⟨12, _⟩ => ⟨S8x2304x4x64, .f32⟩
  | .hbm, ⟨13, _⟩ => ⟨S8x2304x2x64, .f32⟩
  | .hbm, ⟨14, _⟩ => ⟨S8x2304x2x64, .f32⟩
  | .hbm, ⟨15, _⟩ => ⟨S8x2304x8x64, .f32⟩
  | .hbm, ⟨16, _⟩ => ⟨S8x8x2048x2304, .f32⟩
  | .hbm, ⟨17, _⟩ => ⟨S_, .f32⟩
  | .hbm, ⟨18, _⟩ => ⟨S_, .f32⟩
  | .hbm, ⟨19, _⟩ => ⟨S8x8x2048x2304, .f32⟩
  | .hbm, ⟨20, _⟩ => ⟨S8x8x2048x2304, .f32⟩
  | .hbm, ⟨21, _⟩ => ⟨S_, .f32⟩
  | .hbm, ⟨22, _⟩ => ⟨S8x8x2048, .f32⟩
  | .hbm, ⟨23, _⟩ => ⟨S_, .f32⟩
  | .hbm, ⟨24, _⟩ => ⟨S8x8x2048, .f32⟩
  | .hbm, ⟨25, _⟩ => ⟨S8x8x2048, .f32⟩
  | .hbm, ⟨26, _⟩ => ⟨S8x8x2048x1, .f32⟩
  | .hbm, ⟨27, _⟩ => ⟨S8x8x2048x2304, .f32⟩
  | .hbm, ⟨28, _⟩ => ⟨S8x8x2048x2304, .f32⟩
  | .hbm, ⟨29, _⟩ => ⟨S8x8x2048x2304, .f32⟩
  | .hbm, ⟨30, _⟩ => ⟨S_, .f32⟩
  | .hbm, ⟨31, _⟩ => ⟨S8x8x2048, .f32⟩
  | .hbm, ⟨32, _⟩ => ⟨S8x8x2048x1, .f32⟩
  | .hbm, ⟨33, _⟩ => ⟨S8x8x2048x2304, .f32⟩
  | .hbm, ⟨34, _⟩ => ⟨S8x8x2048x2304, .f32⟩
  | .hbm, ⟨35, _⟩ => ⟨S8x8x64x2048, .f32⟩
  | .hbm, ⟨36, _⟩ => ⟨S8x2048x8x64, .f32⟩
  | .hbm, ⟨37, _⟩ => ⟨S8x2048x512, .f32⟩
  | .hbm, ⟨38, _⟩ => ⟨S8x2048x512, .bf16⟩
  | _, _ => ⟨S8x2304x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩

abbrev nD : Nat := 1
abbrev τ : Topo := Topo.v7x

variable {F : FTy → Type} [FloatOps F]
-- ==== Mix.lean ====
abbrev S18432x1024 : Shape := ⟨2, ![18432, 1024]⟩
abbrev S9x8x1024 : Shape := ⟨3, ![9, 8, 1024]⟩
abbrev S16384x512 : Shape := ⟨2, ![16384, 512]⟩
abbrev S2048x512 : Shape := ⟨2, ![2048, 512]⟩
abbrev S18432x512 : Shape := ⟨2, ![18432, 512]⟩
abbrev S1024x3072 : Shape := ⟨2, ![1024, 3072]⟩
abbrev S512x1024 : Shape := ⟨2, ![512, 1024]⟩
abbrev S1024x1024 : Shape := ⟨2, ![1024, 1024]⟩
abbrev S1x1024 : Shape := ⟨2, ![1, 1024]⟩
abbrev S256x1024 : Shape := ⟨2, ![256, 1024]⟩
abbrev S147456x128 : Shape := ⟨2, ![147456, 128]⟩
abbrev S256x18432 : Shape := ⟨2, ![256, 18432]⟩
abbrev S1x8x1024 : Shape := ⟨3, ![1, 8, 1024]⟩
abbrev S256x512 : Shape := ⟨2, ![256, 512]⟩
abbrev S2048x128 : Shape := ⟨2, ![2048, 128]⟩
abbrev S256x256 : Shape := ⟨2, ![256, 256]⟩
abbrev S8x1024 : Shape := ⟨2, ![8, 1024]⟩
abbrev S256 : Shape := ⟨1, ![256]⟩
abbrev S256x1 : Shape := ⟨2, ![256, 1]⟩

abbrev nBuf : Space → Nat
  | .hbm => 18
  | .vmem => 28
  | .smem => 0
  | _ => 0

abbrev bufTy : (tb : Table) → Fin (tcTables nBuf tb) → BufTy
  | .hbm, ⟨0, _⟩ => ⟨S18432x1024, .f32⟩
  | .hbm, ⟨1, _⟩ => ⟨S9x8x1024, .f32⟩
  | .hbm, ⟨2, _⟩ => ⟨S16384x512, .bf16⟩
  | .hbm, ⟨3, _⟩ => ⟨S2048x512, .bf16⟩
  | .hbm, ⟨4, _⟩ => ⟨S18432x512, .bf16⟩
  | .hbm, ⟨5, _⟩ => ⟨S16384x512, .bf16⟩
  | .hbm, ⟨6, _⟩ => ⟨S2048x512, .bf16⟩
  | .hbm, ⟨7, _⟩ => ⟨S1024x3072, .bf16⟩
  | .hbm, ⟨8, _⟩ => ⟨S512x1024, .bf16⟩
  | .hbm, ⟨9, _⟩ => ⟨S512x1024, .bf16⟩
  | .hbm, ⟨10, _⟩ => ⟨S512x1024, .bf16⟩
  | .hbm, ⟨11, _⟩ => ⟨S1024x1024, .bf16⟩
  | .hbm, ⟨12, _⟩ => ⟨S1x1024, .f32⟩
  | .hbm, ⟨13, _⟩ => ⟨S1x1024, .f32⟩
  | .hbm, ⟨14, _⟩ => ⟨S256x1024, .bf16⟩
  | .hbm, ⟨15, _⟩ => ⟨S18432x1024, .f32⟩
  | .hbm, ⟨16, _⟩ => ⟨S147456x128, .bf16⟩
  | .hbm, ⟨17, _⟩ => ⟨S256x18432, .f32⟩
  | .local _ .vmem, ⟨0, _⟩ => ⟨S256x1024, .f32⟩
  | .local _ .vmem, ⟨1, _⟩ => ⟨S256x1024, .f32⟩
  | .local _ .vmem, ⟨2, _⟩ => ⟨S1x8x1024, .f32⟩
  | .local _ .vmem, ⟨3, _⟩ => ⟨S1x8x1024, .f32⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S1024x3072, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S1024x1024, .bf16⟩
  | .local _ .vmem, ⟨19, _⟩ => ⟨S1x1024, .f32⟩
  | .local _ .vmem, ⟨20, _⟩ => ⟨S1x1024, .f32⟩
  | .local _ .vmem, ⟨21, _⟩ => ⟨S256x1024, .bf16⟩
  | .local _ .vmem, ⟨22, _⟩ => ⟨S256x1024, .f32⟩
  | .local _ .vmem, ⟨23, _⟩ => ⟨S256x1024, .f32⟩
  | .local _ .vmem, ⟨24, _⟩ => ⟨S2048x128, .bf16⟩
  | .local _ .vmem, ⟨25, _⟩ => ⟨S2048x128, .bf16⟩
  | .local _ .vmem, ⟨26, _⟩ => ⟨S256x256, .f32⟩
  | .local _ .vmem, ⟨27, _⟩ => ⟨S256x256, .f32⟩
  | _, _ => ⟨S18432x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0_0 : Ref sig .tc := ⟨.hbm, 15, rfl⟩
abbrev main_v0_1 : Ref sig .tc := ⟨.hbm, 16, rfl⟩
abbrev main_v0_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨1, ![72], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c9_i32_4 : BitVec 32 := 9#32
  let v11 : BitVec 32 := Scalar.divsi arg0 c9_i32_4
  let c0_i32_5 : BitVec 32 := 0#32
  let v12 : BitVec 1 := Scalar.cmpi .sgt arg0 c0_i32_5
  let v13 : BitVec 32 := Scalar.extui v12
  let c0_i32_6 : BitVec 32 := 0#32
  let v14 : BitVec 1 := Scalar.cmpi .slt arg0 c0_i32_6
  let v15 : BitVec 32 := Scalar.extui v14
  let v16 : BitVec 32 := Scalar.subi v13 v15
  let c0_i32_7 : BitVec 32 := 0#32
  let v17 : BitVec 1 := Scalar.cmpi .sgt c9_i32_4 c0_i32_7
  let v18 : BitVec 32 := Scalar.extui v17
  let c0_i32_8 : BitVec 32 := 0#32
  let v19 : BitVec 1 := Scalar.cmpi .slt c9_i32_4 c0_i32_8
  let v20 : BitVec 32 := Scalar.extui v19
  let v21 : BitVec 32 := Scalar.subi v18 v20
  let v22 : BitVec 1 := Scalar.cmpi .ne v16 v21
  let v23 : BitVec 32 := Scalar.remsi arg0 c9_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let c8_i32 : BitVec 32 := 8#32
  let v28 : BitVec 32 := Scalar.select v10 c8_i32 v27
  let c0_i32_11 : BitVec 32 := 0#32
  let c0_i32_12 : BitVec 32 := 0#32
  let c0_i32_13 : BitVec 32 := 0#32
  ![v28.toNat, c0_i32_11.toNat, c0_i32_12.toNat]

def cc0_transform_2 (i : grid0.Coords) : Fin 2 → Nat :=
  let arg0 : BitVec 32 := BitVec.ofNat 32 (i 0).val
  let c9_i32 : BitVec 32 := 9#32
  let v0 : BitVec 32 := Scalar.divsi arg0 c9_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg0 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.muli v16 c8_i32
  let c9_i32_4 : BitVec 32 := 9#32
  let c0_i32_5 : BitVec 32 := 0#32
  let v18 : BitVec 1 := Scalar.cmpi .eq c9_i32_4 c0_i32_5
  let c1_i32_6 : BitVec 32 := 1#32
  let v19 : BitVec 32 := Scalar.select v18 c1_i32_6 c9_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c1_i32_10 : BitVec 32 := 1#32
  let v28 : BitVec 32 := Scalar.subi v27 c1_i32_10
  let c0_i32_11 : BitVec 32 := 0#32
  let v29 : BitVec 32 := Scalar.maxsi v28 c0_i32_11
  let v30 : BitVec 32 := Scalar.addi v17 v29
  let c0_i32_12 : BitVec 32 := 0#32
  let c0_i32_13 : BitVec 32 := 0#32
  ![v30.toNat, c0_i32_12.toNat]

def cc0_transform_3 (i : grid0.Coords) : Fin 2 → Nat :=
  let arg0 : BitVec 32 := BitVec.ofNat 32 (i 0).val
  let c9_i32 : BitVec 32 := 9#32
  let v0 : BitVec 32 := Scalar.divsi arg0 c9_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg0 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c9_i32 : BitVec 32 := 9#32
  let v0 : BitVec 32 := Scalar.divsi arg0 c9_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg0 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.muli v16 c8_i32
  let c9_i32_4 : BitVec 32 := 9#32
  let c0_i32_5 : BitVec 32 := 0#32
  let v18 : BitVec 1 := Scalar.cmpi .eq c9_i32_4 c0_i32_5
  let c1_i32_6 : BitVec 32 := 1#32
  let v19 : BitVec 32 := Scalar.select v18 c1_i32_6 c9_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c1_i32_10 : BitVec 32 := 1#32
  let v28 : BitVec 32 := Scalar.subi v27 c1_i32_10
  let c0_i32_11 : BitVec 32 := 0#32
  let v29 : BitVec 32 := Scalar.maxsi v28 c0_i32_11
  let v30 : BitVec 32 := Scalar.addi v17 v29
  let c0_i32_12 : BitVec 32 := 0#32
  let c0_i32_13 : BitVec 32 := 0#32
  ![v30.toNat, c0_i32_12.toNat]

def cc0_transform_6 (i : grid0.Coords) : Fin 2 → Nat :=
  let arg0 : BitVec 32 := BitVec.ofNat 32 (i 0).val
  let c9_i32 : BitVec 32 := 9#32
  let v0 : BitVec 32 := Scalar.divsi arg0 c9_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg0 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x3072 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2048x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== MixRefIdeal.lean ====
abbrev S18432x1024 : Shape := ⟨2, ![18432, 1024]⟩
abbrev S9x8x1024 : Shape := ⟨3, ![9, 8, 1024]⟩
abbrev S16384x512 : Shape := ⟨2, ![16384, 512]⟩
abbrev S2048x512 : Shape := ⟨2, ![2048, 512]⟩
abbrev S18432x512 : Shape := ⟨2, ![18432, 512]⟩
abbrev S1024x3072 : Shape := ⟨2, ![1024, 3072]⟩
abbrev S512x1024 : Shape := ⟨2, ![512, 1024]⟩
abbrev S1024x1024 : Shape := ⟨2, ![1024, 1024]⟩
abbrev S1x1024 : Shape := ⟨2, ![1, 1024]⟩
abbrev S256x1024 : Shape := ⟨2, ![256, 1024]⟩
abbrev S1x1x1024 : Shape := ⟨3, ![1, 1, 1024]⟩
abbrev S1024 : Shape := ⟨1, ![1024]⟩
abbrev S8x256x1024 : Shape := ⟨3, ![8, 256, 1024]⟩
abbrev S8x1x1024 : Shape := ⟨3, ![8, 1, 1024]⟩
abbrev S8x1024 : Shape := ⟨2, ![8, 1024]⟩
abbrev S8x2048x1024 : Shape := ⟨3, ![8, 2048, 1024]⟩
abbrev S8x2304x1024 : Shape := ⟨3, ![8, 2304, 1024]⟩
abbrev S_ : Shape := ⟨0, ![]⟩
abbrev S18432 : Shape := ⟨1, ![18432]⟩
abbrev S18432x1 : Shape := ⟨2, ![18432, 1]⟩
abbrev S18432x3072 : Shape := ⟨2, ![18432, 3072]⟩
abbrev S8x256x512 : Shape := ⟨3, ![8, 256, 512]⟩
abbrev S8x2048x512 : Shape := ⟨3, ![8, 2048, 512]⟩
abbrev S8x2304x512 : Shape := ⟨3, ![8, 2304, 512]⟩
abbrev S256x18432 : Shape := ⟨2, ![256, 18432]⟩
abbrev S147456x128 : Shape := ⟨2, ![147456, 128]⟩

abbrev nBuf : Space → Nat
  | .hbm => 205
  | .vmem => 0
  | .smem => 0
  | _ => 0

abbrev hbmTy0_0 (i : Nat) : BufTy := match i % 128 with
  | 0 => ⟨S18432x1024, .f32⟩
  | 1 => ⟨S9x8x1024, .f32⟩
  | 2 => ⟨S16384x512, .bf16⟩
  | 3 => ⟨S2048x512, .bf16⟩
  | 4 => ⟨S18432x512, .bf16⟩
  | 5 => ⟨S16384x512, .bf16⟩
  | 6 => ⟨S2048x512, .bf16⟩
  | 7 => ⟨S1024x3072, .bf16⟩
  | 8 => ⟨S512x1024, .bf16⟩
  | 9 => ⟨S512x1024, .bf16⟩
  | 10 => ⟨S512x1024, .bf16⟩
  | 11 => ⟨S1024x1024, .bf16⟩
  | 12 => ⟨S1x1024, .f32⟩
  | 13 => ⟨S1x1024, .f32⟩
  | 14 => ⟨S256x1024, .bf16⟩
  | 15 => ⟨S1x1x1024, .f32⟩
  | 16 => ⟨S1024, .f32⟩
  | 17 => ⟨S8x256x1024, .f32⟩
  | 18 => ⟨S8x1x1024, .f32⟩
  | 19 => ⟨S8x1024, .f32⟩
  | 20 => ⟨S8x1x1024, .f32⟩
  | 21 => ⟨S8x2048x1024, .f32⟩
  | 22 => ⟨S8x2304x1024, .f32⟩
  | 23 => ⟨S18432x1024, .f32⟩
  | 24 => ⟨S1x1x1024, .f32⟩
  | 25 => ⟨S1024, .f32⟩
  | 26 => ⟨S8x256x1024, .f32⟩
  | 27 => ⟨S8x1x1024, .f32⟩
  | 28 => ⟨S8x1024, .f32⟩
  | 29 => ⟨S8x1x1024, .f32⟩
  | 30 => ⟨S8x2048x1024, .f32⟩
  | 31 => ⟨S8x2304x1024, .f32⟩
  | 32 => ⟨S18432x1024, .f32⟩
  | 33 => ⟨S_, .f32⟩
  | 34 => ⟨S18432, .f32⟩
  | 35 => ⟨S18432x1, .f32⟩
  | 36 => ⟨S_, .f32⟩
  | 37 => ⟨S18432x1, .f32⟩
  | 38 => ⟨S18432x1, .f32⟩
  | 39 => ⟨S18432x1024, .f32⟩
  | 40 => ⟨S18432x1024, .f32⟩
  | 41 => ⟨S18432x1024, .f32⟩
  | 42 => ⟨S_, .f32⟩
  | 43 => ⟨S18432, .f32⟩
  | 44 => ⟨S18432x1, .f32⟩
  | 45 => ⟨S_, .f32⟩
  | 46 => ⟨S18432x1, .f32⟩
  | 47 => ⟨S18432x1, .f32⟩
  | 48 => ⟨S18432x1024, .f32⟩
  | 49 => ⟨S18432x1024, .f32⟩
  | 50 => ⟨S_, .f32⟩
  | 51 => ⟨S18432x1, .f32⟩
  | 52 => ⟨S18432x1, .f32⟩
  | 53 => ⟨S18432x1, .f32⟩
  | 54 => ⟨S18432x1024, .f32⟩
  | 55 => ⟨S18432x1024, .f32⟩
  | 56 => ⟨S_, .f32⟩
  | 57 => ⟨S18432x1024, .f32⟩
  | 58 => ⟨S18432x1024, .f32⟩
  | 59 => ⟨S18432x1024, .f32⟩
  | 60 => ⟨S18432x1024, .f32⟩
  | 61 => ⟨S1024x3072, .f32⟩
  | 62 => ⟨S18432x3072, .f32⟩
  | 63 => ⟨S8x256x512, .bf16⟩
  | 64 => ⟨S8x2048x512, .bf16⟩
  | 65 => ⟨S8x2304x512, .bf16⟩
  | 66 => ⟨S18432x512, .bf16⟩
  | 67 => ⟨S18432x1024, .f32⟩
  | 68 => ⟨S18432x1024, .f32⟩
  | 69 => ⟨S18432x1024, .f32⟩
  | 70 => ⟨S_, .f32⟩
  | 71 => ⟨S18432x1024, .f32⟩
  | 72 => ⟨S18432x1024, .f32⟩
  | 73 => ⟨S_, .f32⟩
  | 74 => ⟨S18432x1024, .f32⟩
  | 75 => ⟨S18432x1024, .f32⟩
  | 76 => ⟨S18432x512, .f32⟩
  | 77 => ⟨S512x1024, .f32⟩
  | 78 => ⟨S18432x1024, .f32⟩
  | 79 => ⟨S18432x1024, .f32⟩
  | 80 => ⟨S18432x1024, .f32⟩
  | 81 => ⟨S18432x1024, .f32⟩
  | 82 => ⟨S18432x1024, .f32⟩
  | 83 => ⟨S_, .f32⟩
  | 84 => ⟨S18432x1024, .f32⟩
  | 85 => ⟨S18432x1024, .f32⟩
  | 86 => ⟨S_, .f32⟩
  | 87 => ⟨S18432x1024, .f32⟩
  | 88 => ⟨S18432x1024, .f32⟩
  | 89 => ⟨S18432x512, .f32⟩
  | 90 => ⟨S512x1024, .f32⟩
  | 91 => ⟨S18432x1024, .f32⟩
  | 92 => ⟨S18432x1024, .f32⟩
  | 93 => ⟨S18432x1024, .f32⟩
  | 94 => ⟨S8x256x512, .bf16⟩
  | 95 => ⟨S8x2048x512, .bf16⟩
  | 96 => ⟨S8x2304x512, .bf16⟩
  | 97 => ⟨S18432x512, .bf16⟩
  | 98 => ⟨S18432x1024, .f32⟩
  | 99 => ⟨S18432x1024, .f32⟩
  | 100 => ⟨S18432x1024, .f32⟩
  | 101 => ⟨S_, .f32⟩
  | 102 => ⟨S18432x1024, .f32⟩
  | 103 => ⟨S18432x1024, .f32⟩
  | 104 => ⟨S_, .f32⟩
  | 105 => ⟨S18432x1024, .f32⟩
  | 106 => ⟨S18432x1024, .f32⟩
  | 107 => ⟨S18432x512, .f32⟩
  | 108 => ⟨S512x1024, .f32⟩
  | 109 => ⟨S18432x1024, .f32⟩
  | 110 => ⟨S18432x1024, .f32⟩
  | 111 => ⟨S18432x1024, .f32⟩
  | 112 => ⟨S1024x1024, .f32⟩
  | 113 => ⟨S18432x1024, .f32⟩
  | 114 => ⟨S_, .f32⟩
  | 115 => ⟨S18432x1024, .f32⟩
  | 116 => ⟨S18432x1024, .f32⟩
  | 117 => ⟨S1x1x1024, .f32⟩
  | 118 => ⟨S1024, .f32⟩
  | 119 => ⟨S8x256x1024, .f32⟩
  | 120 => ⟨S8x1x1024, .f32⟩
  | 121 => ⟨S8x1024, .f32⟩
  | 122 => ⟨S8x1x1024, .f32⟩
  | 123 => ⟨S8x2048x1024, .f32⟩
  | 124 => ⟨S8x2304x1024, .f32⟩
  | 125 => ⟨S18432x1024, .f32⟩
  | 126 => ⟨S18432x1024, .f32⟩
  | 127 => ⟨S18432x1024, .f32⟩
  | _ => ⟨S18432x1024, .f32⟩

abbrev hbmTy0_1 (i : Nat) : BufTy := match i % 128 with
  | 0 => ⟨S_, .f32⟩
  | 1 => ⟨S18432, .f32⟩
  | 2 => ⟨S18432x1, .f32⟩
  | 3 => ⟨S_, .f32⟩
  | 4 => ⟨S18432x1, .f32⟩
  | 5 => ⟨S18432x1, .f32⟩
  | 6 => ⟨S18432x1024, .f32⟩
  | 7 => ⟨S18432x1024, .f32⟩
  | 8 => ⟨S18432x1024, .f32⟩
  | 9 => ⟨S_, .f32⟩
  | 10 => ⟨S18432, .f32⟩
  | 11 => ⟨S18432x1, .f32⟩
  | 12 => ⟨S_, .f32⟩
  | 13 => ⟨S18432x1, .f32⟩
  | 14 => ⟨S18432x1, .f32⟩
  | 15 => ⟨S18432x1024, .f32⟩
  | 16 => ⟨S18432x1024, .f32⟩
  | 17 => ⟨S_, .f32⟩
  | 18 => ⟨S18432x1, .f32⟩
  | 19 => ⟨S18432x1, .f32⟩
  | 20 => ⟨S18432x1, .f32⟩
  | 21 => ⟨S18432x1024, .f32⟩
  | 22 => ⟨S18432x1024, .f32⟩
  | 23 => ⟨S18432x1024, .f32⟩
  | 24 => ⟨S18432x1024, .f32⟩
  | 25 => ⟨S18432x1024, .f32⟩
  | 26 => ⟨S18432x1024, .f32⟩
  | 27 => ⟨S1x1x1024, .f32⟩
  | 28 => ⟨S1024, .f32⟩
  | 29 => ⟨S8x256x1024, .f32⟩
  | 30 => ⟨S8x1x1024, .f32⟩
  | 31 => ⟨S8x1024, .f32⟩
  | 32 => ⟨S8x1x1024, .f32⟩
  | 33 => ⟨S8x2048x1024, .f32⟩
  | 34 => ⟨S8x2304x1024, .f32⟩
  | 35 => ⟨S18432x1024, .f32⟩
  | 36 => ⟨S1x1x1024, .f32⟩
  | 37 => ⟨S1024, .f32⟩
  | 38 => ⟨S8x256x1024, .f32⟩
  | 39 => ⟨S8x1x1024, .f32⟩
  | 40 => ⟨S8x1024, .f32⟩
  | 41 => ⟨S8x1x1024, .f32⟩
  | 42 => ⟨S8x2048x1024, .f32⟩
  | 43 => ⟨S8x2304x1024, .f32⟩
  | 44 => ⟨S18432x1024, .f32⟩
  | 45 => ⟨S_, .f32⟩
  | 46 => ⟨S18432, .f32⟩
  | 47 => ⟨S18432x1, .f32⟩
  | 48 => ⟨S_, .f32⟩
  | 49 => ⟨S18432x1, .f32⟩
  | 50 => ⟨S18432x1, .f32⟩
  | 51 => ⟨S18432x1024, .f32⟩
  | 52 => ⟨S18432x1024, .f32⟩
  | 53 => ⟨S18432x1024, .f32⟩
  | 54 => ⟨S_, .f32⟩
  | 55 => ⟨S18432, .f32⟩
  | 56 => ⟨S18432x1, .f32⟩
  | 57 => ⟨S_, .f32⟩
  | 58 => ⟨S18432x1, .f32⟩
  | 59 => ⟨S18432x1, .f32⟩
  | 60 => ⟨S18432x1024, .f32⟩
  | 61 => ⟨S18432x1024, .f32⟩
  | 62 => ⟨S_, .f32⟩
  | 63 => ⟨S18432x1, .f32⟩
  | 64 => ⟨S18432x1, .f32⟩
  | 65 => ⟨S18432x1, .f32⟩
  | 66 => ⟨S18432x1024, .f32⟩
  | 67 => ⟨S18432x1024, .f32⟩
  | 68 => ⟨S_, .f32⟩
  | 69 => ⟨S18432x1024, .f32⟩
  | 70 => ⟨S18432x1024, .f32⟩
  | 71 => ⟨S18432x1024, .f32⟩
  | 72 => ⟨S18432x1024, .f32⟩
  | 73 => ⟨S256x1024, .f32⟩
  | 74 => ⟨S256x18432, .f32⟩
  | 75 => ⟨S18432x1024, .bf16⟩
  | 76 => ⟨S147456x128, .bf16⟩
  | _ => ⟨S18432x1024, .f32⟩

abbrev hbmTy (i : Nat) : BufTy := match i / 128 with
  | 0 => hbmTy0_0 i
  | 1 => hbmTy0_1 i
  | _ => ⟨S18432x1024, .f32⟩

abbrev bufTy : (tb : Table) → Fin (tcTables nBuf tb) → BufTy
  | .hbm, ⟨i, _⟩ => hbmTy i
  | _, _ => ⟨S18432x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst : Ref sig .tc := ⟨.hbm, 33, rfl⟩
abbrev main_v18 : Ref sig .tc := ⟨.hbm, 34, rfl⟩
abbrev main_v19 : Ref sig .tc := ⟨.hbm, 35, rfl⟩
abbrev main_cst_0 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_1 : Ref sig .tc := ⟨.hbm, 42, rfl⟩
abbrev main_v25 : Ref sig .tc := ⟨.hbm, 43, rfl⟩
abbrev main_v26 : Ref sig .tc := ⟨.hbm, 44, rfl⟩
abbrev main_cst_2 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_3 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_4 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_5 : Ref sig .tc := ⟨.hbm, 70, rfl⟩
abbrev main_v49 : Ref sig .tc := ⟨.hbm, 71, rfl⟩
abbrev main_v50 : Ref sig .tc := ⟨.hbm, 72, rfl⟩
abbrev main_cst_6 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_7 : Ref sig .tc := ⟨.hbm, 83, rfl⟩
abbrev main_v60 : Ref sig .tc := ⟨.hbm, 84, rfl⟩
abbrev main_v61 : Ref sig .tc := ⟨.hbm, 85, rfl⟩
abbrev main_cst_8 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_9 : Ref sig .tc := ⟨.hbm, 101, rfl⟩
abbrev main_v76 : Ref sig .tc := ⟨.hbm, 102, rfl⟩
abbrev main_v77 : Ref sig .tc := ⟨.hbm, 103, rfl⟩
abbrev main_cst_10 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_cst_11 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_cst_12 : Ref sig .tc := ⟨.hbm, 128, rfl⟩
abbrev main_v100 : Ref sig .tc := ⟨.hbm, 129, rfl⟩
abbrev main_v101 : Ref sig .tc := ⟨.hbm, 130, rfl⟩
abbrev main_cst_13 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_cst_14 : Ref sig .tc := ⟨.hbm, 137, rfl⟩
abbrev main_v107 : Ref sig .tc := ⟨.hbm, 138, rfl⟩
abbrev main_v108 : Ref sig .tc := ⟨.hbm, 139, rfl⟩
abbrev main_cst_15 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_cst_16 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_cst_17 : Ref sig .tc := ⟨.hbm, 173, rfl⟩
abbrev main_v140 : Ref sig .tc := ⟨.hbm, 174, rfl⟩
abbrev main_v141 : Ref sig .tc := ⟨.hbm, 175, rfl⟩
abbrev main_cst_18 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_cst_19 : Ref sig .tc := ⟨.hbm, 182, rfl⟩
abbrev main_v147 : Ref sig .tc := ⟨.hbm, 183, rfl⟩
abbrev main_v148 : Ref sig .tc := ⟨.hbm, 184, rfl⟩
abbrev main_cst_20 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_cst_21 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_cst_22 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩

abbrev nD : Nat := 1
abbrev τ : Topo := Topo.v7x

variable {F : FTy → Type} [FloatOps F]
-- ==== Lat.lean ====
abbrev S18432x1024 : Shape := ⟨2, ![18432, 1024]⟩
abbrev S9x8x1024 : Shape := ⟨3, ![9, 8, 1024]⟩
abbrev S16384x512 : Shape := ⟨2, ![16384, 512]⟩
abbrev S1024x3072 : Shape := ⟨2, ![1024, 3072]⟩
abbrev S512x1024 : Shape := ⟨2, ![512, 1024]⟩
abbrev S1024x1024 : Shape := ⟨2, ![1024, 1024]⟩
abbrev S1x1024 : Shape := ⟨2, ![1, 1024]⟩
abbrev S256x1024 : Shape := ⟨2, ![256, 1024]⟩
abbrev S16384x1024 : Shape := ⟨2, ![16384, 1024]⟩
abbrev S131072x128 : Shape := ⟨2, ![131072, 128]⟩
abbrev S256x16384 : Shape := ⟨2, ![256, 16384]⟩
abbrev S1x8x1024 : Shape := ⟨3, ![1, 8, 1024]⟩
abbrev S256x512 : Shape := ⟨2, ![256, 512]⟩
abbrev S2048x128 : Shape := ⟨2, ![2048, 128]⟩
abbrev S256x256 : Shape := ⟨2, ![256, 256]⟩
abbrev S8x1024 : Shape := ⟨2, ![8, 1024]⟩
abbrev S256 : Shape := ⟨1, ![256]⟩
abbrev S256x1 : Shape := ⟨2, ![256, 1]⟩

abbrev nBuf : Space → Nat
  | .hbm => 16
  | .vmem => 26
  | .smem => 0
  | _ => 0

abbrev bufTy : (tb : Table) → Fin (tcTables nBuf tb) → BufTy
  | .hbm, ⟨0, _⟩ => ⟨S18432x1024, .f32⟩
  | .hbm, ⟨1, _⟩ => ⟨S9x8x1024, .f32⟩
  | .hbm, ⟨2, _⟩ => ⟨S16384x512, .bf16⟩
  | .hbm, ⟨3, _⟩ => ⟨S16384x512, .bf16⟩
  | .hbm, ⟨4, _⟩ => ⟨S16384x512, .bf16⟩
  | .hbm, ⟨5, _⟩ => ⟨S1024x3072, .bf16⟩
  | .hbm, ⟨6, _⟩ => ⟨S512x1024, .bf16⟩
  | .hbm, ⟨7, _⟩ => ⟨S512x1024, .bf16⟩
  | .hbm, ⟨8, _⟩ => ⟨S512x1024, .bf16⟩
  | .hbm, ⟨9, _⟩ => ⟨S1024x1024, .bf16⟩
  | .hbm, ⟨10, _⟩ => ⟨S1x1024, .f32⟩
  | .hbm, ⟨11, _⟩ => ⟨S1x1024, .f32⟩
  | .hbm, ⟨12, _⟩ => ⟨S256x1024, .bf16⟩
  | .hbm, ⟨13, _⟩ => ⟨S16384x1024, .f32⟩
  | .hbm, ⟨14, _⟩ => ⟨S131072x128, .bf16⟩
  | .hbm, ⟨15, _⟩ => ⟨S256x16384, .f32⟩
  | .local _ .vmem, ⟨0, _⟩ => ⟨S256x1024, .f32⟩
  | .local _ .vmem, ⟨1, _⟩ => ⟨S256x1024, .f32⟩
  | .local _ .vmem, ⟨2, _⟩ => ⟨S1x8x1024, .f32⟩
  | .local _ .vmem, ⟨3, _⟩ => ⟨S1x8x1024, .f32⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S1024x3072, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .vmem, ⟨17, _⟩ => ⟨S1x1024, .f32⟩
  | .local _ .vmem, ⟨18, _⟩ => ⟨S1x1024, .f32⟩
  | .local _ .vmem, ⟨19, _⟩ => ⟨S256x1024, .bf16⟩
  | .local _ .vmem, ⟨20, _⟩ => ⟨S256x1024, .f32⟩
  | .local _ .vmem, ⟨21, _⟩ => ⟨S256x1024, .f32⟩
  | .local _ .vmem, ⟨22, _⟩ => ⟨S2048x128, .bf16⟩
  | .local _ .vmem, ⟨23, _⟩ => ⟨S2048x128, .bf16⟩
  | .local _ .vmem, ⟨24, _⟩ => ⟨S256x256, .f32⟩
  | .local _ .vmem, ⟨25, _⟩ => ⟨S256x256, .f32⟩
  | _, _ => ⟨S18432x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c9_i32 : BitVec 32 := 9#32
  let v17 : BitVec 32 := Scalar.muli v16 c9_i32
  let c1_i32_4 : BitVec 32 := 1#32
  let v18 : BitVec 32 := Scalar.addi v17 c1_i32_4
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi arg0 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let v29 : BitVec 32 := Scalar.addi v18 v28
  let c0_i32_11 : BitVec 32 := 0#32
  let c0_i32_12 : BitVec 32 := 0#32
  ![v29.toNat, c0_i32_11.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x3072 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2048x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== LatRefIdeal.lean ====
abbrev S18432x1024 : Shape := ⟨2, ![18432, 1024]⟩
abbrev S9x8x1024 : Shape := ⟨3, ![9, 8, 1024]⟩
abbrev S16384x512 : Shape := ⟨2, ![16384, 512]⟩
abbrev S1024x3072 : Shape := ⟨2, ![1024, 3072]⟩
abbrev S512x1024 : Shape := ⟨2, ![512, 1024]⟩
abbrev S1024x1024 : Shape := ⟨2, ![1024, 1024]⟩
abbrev S1x1024 : Shape := ⟨2, ![1, 1024]⟩
abbrev S256x1024 : Shape := ⟨2, ![256, 1024]⟩
abbrev S8x2304x1024 : Shape := ⟨3, ![8, 2304, 1024]⟩
abbrev S8x2048x1024 : Shape := ⟨3, ![8, 2048, 1024]⟩
abbrev S16384x1024 : Shape := ⟨2, ![16384, 1024]⟩
abbrev S8x1x1024 : Shape := ⟨3, ![8, 1, 1024]⟩
abbrev S8x1024 : Shape := ⟨2, ![8, 1024]⟩
abbrev S_ : Shape := ⟨0, ![]⟩
abbrev S16384 : Shape := ⟨1, ![16384]⟩
abbrev S16384x1 : Shape := ⟨2, ![16384, 1]⟩
abbrev S16384x3072 : Shape := ⟨2, ![16384, 3072]⟩
abbrev S256x16384 : Shape := ⟨2, ![256, 16384]⟩
abbrev S131072x128 : Shape := ⟨2, ![131072, 128]⟩

abbrev nBuf : Space → Nat
  | .hbm => 178
  | .vmem => 0
  | .smem => 0
  | _ => 0

abbrev hbmTy0_0 (i : Nat) : BufTy := match i % 128 with
  | 0 => ⟨S18432x1024, .f32⟩
  | 1 => ⟨S9x8x1024, .f32⟩
  | 2 => ⟨S16384x512, .bf16⟩
  | 3 => ⟨S16384x512, .bf16⟩
  | 4 => ⟨S16384x512, .bf16⟩
  | 5 => ⟨S1024x3072, .bf16⟩
  | 6 => ⟨S512x1024, .bf16⟩
  | 7 => ⟨S512x1024, .bf16⟩
  | 8 => ⟨S512x1024, .bf16⟩
  | 9 => ⟨S1024x1024, .bf16⟩
  | 10 => ⟨S1x1024, .f32⟩
  | 11 => ⟨S1x1024, .f32⟩
  | 12 => ⟨S256x1024, .bf16⟩
  | 13 => ⟨S8x2304x1024, .f32⟩
  | 14 => ⟨S8x2048x1024, .f32⟩
  | 15 => ⟨S16384x1024, .f32⟩
  | 16 => ⟨S8x1x1024, .f32⟩
  | 17 => ⟨S8x1024, .f32⟩
  | 18 => ⟨S8x1x1024, .f32⟩
  | 19 => ⟨S8x2048x1024, .f32⟩
  | 20 => ⟨S16384x1024, .f32⟩
  | 21 => ⟨S8x1x1024, .f32⟩
  | 22 => ⟨S8x1024, .f32⟩
  | 23 => ⟨S8x1x1024, .f32⟩
  | 24 => ⟨S8x2048x1024, .f32⟩
  | 25 => ⟨S16384x1024, .f32⟩
  | 26 => ⟨S_, .f32⟩
  | 27 => ⟨S16384, .f32⟩
  | 28 => ⟨S16384x1, .f32⟩
  | 29 => ⟨S_, .f32⟩
  | 30 => ⟨S16384x1, .f32⟩
  | 31 => ⟨S16384x1, .f32⟩
  | 32 => ⟨S16384x1024, .f32⟩
  | 33 => ⟨S16384x1024, .f32⟩
  | 34 => ⟨S16384x1024, .f32⟩
  | 35 => ⟨S_, .f32⟩
  | 36 => ⟨S16384, .f32⟩
  | 37 => ⟨S16384x1, .f32⟩
  | 38 => ⟨S_, .f32⟩
  | 39 => ⟨S16384x1, .f32⟩
  | 40 => ⟨S16384x1, .f32⟩
  | 41 => ⟨S16384x1024, .f32⟩
  | 42 => ⟨S16384x1024, .f32⟩
  | 43 => ⟨S_, .f32⟩
  | 44 => ⟨S16384x1, .f32⟩
  | 45 => ⟨S16384x1, .f32⟩
  | 46 => ⟨S16384x1, .f32⟩
  | 47 => ⟨S16384x1024, .f32⟩
  | 48 => ⟨S16384x1024, .f32⟩
  | 49 => ⟨S_, .f32⟩
  | 50 => ⟨S16384x1024, .f32⟩
  | 51 => ⟨S16384x1024, .f32⟩
  | 52 => ⟨S16384x1024, .f32⟩
  | 53 => ⟨S16384x1024, .f32⟩
  | 54 => ⟨S1024x3072, .f32⟩
  | 55 => ⟨S16384x3072, .f32⟩
  | 56 => ⟨S16384x1024, .f32⟩
  | 57 => ⟨S16384x1024, .f32⟩
  | 58 => ⟨S16384x1024, .f32⟩
  | 59 => ⟨S_, .f32⟩
  | 60 => ⟨S16384x1024, .f32⟩
  | 61 => ⟨S16384x1024, .f32⟩
  | 62 => ⟨S_, .f32⟩
  | 63 => ⟨S16384x1024, .f32⟩
  | 64 => ⟨S16384x1024, .f32⟩
  | 65 => ⟨S16384x512, .f32⟩
  | 66 => ⟨S512x1024, .f32⟩
  | 67 => ⟨S16384x1024, .f32⟩
  | 68 => ⟨S16384x1024, .f32⟩
  | 69 => ⟨S16384x1024, .f32⟩
  | 70 => ⟨S16384x1024, .f32⟩
  | 71 => ⟨S16384x1024, .f32⟩
  | 72 => ⟨S_, .f32⟩
  | 73 => ⟨S16384x1024, .f32⟩
  | 74 => ⟨S16384x1024, .f32⟩
  | 75 => ⟨S_, .f32⟩
  | 76 => ⟨S16384x1024, .f32⟩
  | 77 => ⟨S16384x1024, .f32⟩
  | 78 => ⟨S16384x512, .f32⟩
  | 79 => ⟨S512x1024, .f32⟩
  | 80 => ⟨S16384x1024, .f32⟩
  | 81 => ⟨S16384x1024, .f32⟩
  | 82 => ⟨S16384x1024, .f32⟩
  | 83 => ⟨S16384x1024, .f32⟩
  | 84 => ⟨S16384x1024, .f32⟩
  | 85 => ⟨S16384x1024, .f32⟩
  | 86 => ⟨S_, .f32⟩
  | 87 => ⟨S16384x1024, .f32⟩
  | 88 => ⟨S16384x1024, .f32⟩
  | 89 => ⟨S_, .f32⟩
  | 90 => ⟨S16384x1024, .f32⟩
  | 91 => ⟨S16384x1024, .f32⟩
  | 92 => ⟨S16384x512, .f32⟩
  | 93 => ⟨S512x1024, .f32⟩
  | 94 => ⟨S16384x1024, .f32⟩
  | 95 => ⟨S16384x1024, .f32⟩
  | 96 => ⟨S16384x1024, .f32⟩
  | 97 => ⟨S1024x1024, .f32⟩
  | 98 => ⟨S16384x1024, .f32⟩
  | 99 => ⟨S_, .f32⟩
  | 100 => ⟨S16384x1024, .f32⟩
  | 101 => ⟨S16384x1024, .f32⟩
  | 102 => ⟨S8x1x1024, .f32⟩
  | 103 => ⟨S8x1024, .f32⟩
  | 104 => ⟨S8x1x1024, .f32⟩
  | 105 => ⟨S8x2048x1024, .f32⟩
  | 106 => ⟨S16384x1024, .f32⟩
  | 107 => ⟨S16384x1024, .f32⟩
  | 108 => ⟨S16384x1024, .f32⟩
  | 109 => ⟨S_, .f32⟩
  | 110 => ⟨S16384, .f32⟩
  | 111 => ⟨S16384x1, .f32⟩
  | 112 => ⟨S_, .f32⟩
  | 113 => ⟨S16384x1, .f32⟩
  | 114 => ⟨S16384x1, .f32⟩
  | 115 => ⟨S16384x1024, .f32⟩
  | 116 => ⟨S16384x1024, .f32⟩
  | 117 => ⟨S16384x1024, .f32⟩
  | 118 => ⟨S_, .f32⟩
  | 119 => ⟨S16384, .f32⟩
  | 120 => ⟨S16384x1, .f32⟩
  | 121 => ⟨S_, .f32⟩
  | 122 => ⟨S16384x1, .f32⟩
  | 123 => ⟨S16384x1, .f32⟩
  | 124 => ⟨S16384x1024, .f32⟩
  | 125 => ⟨S16384x1024, .f32⟩
  | 126 => ⟨S_, .f32⟩
  | 127 => ⟨S16384x1, .f32⟩
  | _ => ⟨S18432x1024, .f32⟩

abbrev hbmTy0_1 (i : Nat) : BufTy := match i % 128 with
  | 0 => ⟨S16384x1, .f32⟩
  | 1 => ⟨S16384x1, .f32⟩
  | 2 => ⟨S16384x1024, .f32⟩
  | 3 => ⟨S16384x1024, .f32⟩
  | 4 => ⟨S16384x1024, .f32⟩
  | 5 => ⟨S16384x1024, .f32⟩
  | 6 => ⟨S16384x1024, .f32⟩
  | 7 => ⟨S16384x1024, .f32⟩
  | 8 => ⟨S8x1x1024, .f32⟩
  | 9 => ⟨S8x1024, .f32⟩
  | 10 => ⟨S8x1x1024, .f32⟩
  | 11 => ⟨S8x2048x1024, .f32⟩
  | 12 => ⟨S16384x1024, .f32⟩
  | 13 => ⟨S8x1x1024, .f32⟩
  | 14 => ⟨S8x1024, .f32⟩
  | 15 => ⟨S8x1x1024, .f32⟩
  | 16 => ⟨S8x2048x1024, .f32⟩
  | 17 => ⟨S16384x1024, .f32⟩
  | 18 => ⟨S_, .f32⟩
  | 19 => ⟨S16384, .f32⟩
  | 20 => ⟨S16384x1, .f32⟩
  | 21 => ⟨S_, .f32⟩
  | 22 => ⟨S16384x1, .f32⟩
  | 23 => ⟨S16384x1, .f32⟩
  | 24 => ⟨S16384x1024, .f32⟩
  | 25 => ⟨S16384x1024, .f32⟩
  | 26 => ⟨S16384x1024, .f32⟩
  | 27 => ⟨S_, .f32⟩
  | 28 => ⟨S16384, .f32⟩
  | 29 => ⟨S16384x1, .f32⟩
  | 30 => ⟨S_, .f32⟩
  | 31 => ⟨S16384x1, .f32⟩
  | 32 => ⟨S16384x1, .f32⟩
  | 33 => ⟨S16384x1024, .f32⟩
  | 34 => ⟨S16384x1024, .f32⟩
  | 35 => ⟨S_, .f32⟩
  | 36 => ⟨S16384x1, .f32⟩
  | 37 => ⟨S16384x1, .f32⟩
  | 38 => ⟨S16384x1, .f32⟩
  | 39 => ⟨S16384x1024, .f32⟩
  | 40 => ⟨S16384x1024, .f32⟩
  | 41 => ⟨S_, .f32⟩
  | 42 => ⟨S16384x1024, .f32⟩
  | 43 => ⟨S16384x1024, .f32⟩
  | 44 => ⟨S16384x1024, .f32⟩
  | 45 => ⟨S16384x1024, .f32⟩
  | 46 => ⟨S256x1024, .f32⟩
  | 47 => ⟨S256x16384, .f32⟩
  | 48 => ⟨S16384x1024, .bf16⟩
  | 49 => ⟨S131072x128, .bf16⟩
  | _ => ⟨S18432x1024, .f32⟩

abbrev hbmTy (i : Nat) : BufTy := match i / 128 with
  | 0 => hbmTy0_0 i
  | 1 => hbmTy0_1 i
  | _ => ⟨S18432x1024, .f32⟩

abbrev bufTy : (tb : Table) → Fin (tcTables nBuf tb) → BufTy
  | .hbm, ⟨i, _⟩ => hbmTy i
  | _, _ => ⟨S18432x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_cst_0 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_1 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_4 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_5 : Ref sig .tc := ⟨.hbm, 59, rfl⟩
abbrev main_v40 : Ref sig .tc := ⟨.hbm, 60, rfl⟩
abbrev main_v41 : Ref sig .tc := ⟨.hbm, 61, rfl⟩
abbrev main_cst_6 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_7 : Ref sig .tc := ⟨.hbm, 72, rfl⟩
abbrev main_v51 : Ref sig .tc := ⟨.hbm, 73, rfl⟩
abbrev main_v52 : Ref sig .tc := ⟨.hbm, 74, rfl⟩
abbrev main_cst_8 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_9 : Ref sig .tc := ⟨.hbm, 86, rfl⟩
abbrev main_v63 : Ref sig .tc := ⟨.hbm, 87, rfl⟩
abbrev main_v64 : Ref sig .tc := ⟨.hbm, 88, rfl⟩
abbrev main_cst_10 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_11 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_12 : Ref sig .tc := ⟨.hbm, 109, rfl⟩
abbrev main_v83 : Ref sig .tc := ⟨.hbm, 110, rfl⟩
abbrev main_v84 : Ref sig .tc := ⟨.hbm, 111, rfl⟩
abbrev main_cst_13 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_cst_14 : Ref sig .tc := ⟨.hbm, 118, rfl⟩
abbrev main_v90 : Ref sig .tc := ⟨.hbm, 119, rfl⟩
abbrev main_v91 : Ref sig .tc := ⟨.hbm, 120, rfl⟩
abbrev main_cst_15 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_cst_16 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_cst_17 : Ref sig .tc := ⟨.hbm, 146, rfl⟩
abbrev main_v115 : Ref sig .tc := ⟨.hbm, 147, rfl⟩
abbrev main_v116 : Ref sig .tc := ⟨.hbm, 148, rfl⟩
abbrev main_cst_18 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_cst_19 : Ref sig .tc := ⟨.hbm, 155, rfl⟩
abbrev main_v122 : Ref sig .tc := ⟨.hbm, 156, rfl⟩
abbrev main_v123 : Ref sig .tc := ⟨.hbm, 157, rfl⟩
abbrev main_cst_20 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_cst_21 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_cst_22 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩

abbrev nD : Nat := 1
abbrev τ : Topo := Topo.v7x

variable {F : FTy → Type} [FloatOps F]
-- ==== Inp.lean ====
abbrev S18432x1024 : Shape := ⟨2, ![18432, 1024]⟩
abbrev S9x8x1024 : Shape := ⟨3, ![9, 8, 1024]⟩
abbrev S1024x5888 : Shape := ⟨2, ![1024, 5888]⟩
abbrev S64 : Shape := ⟨1, ![64]⟩
abbrev S2048x64 : Shape := ⟨2, ![2048, 64]⟩
abbrev S_ : Shape := ⟨0, ![]⟩
abbrev S256x64 : Shape := ⟨2, ![256, 64]⟩
abbrev S2304x64 : Shape := ⟨2, ![2304, 64]⟩
abbrev S1x2304x1x64 : Shape := ⟨4, ![1, 2304, 1, 64]⟩
abbrev S1x2304x2x64 : Shape := ⟨4, ![1, 2304, 2, 64]⟩
abbrev S2304x128 : Shape := ⟨2, ![2304, 128]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1024x512 : Shape := ⟨2, ![1024, 512]⟩
abbrev S1024x128 : Shape := ⟨2, ![1024, 128]⟩
abbrev S1024x3072 : Shape := ⟨2, ![1024, 3072]⟩
abbrev S1024x64 : Shape := ⟨2, ![1024, 64]⟩
abbrev S1024x256 : Shape := ⟨2, ![1024, 256]⟩
abbrev S1x64 : Shape := ⟨2, ![1, 64]⟩
abbrev S8x64 : Shape := ⟨2, ![8, 64]⟩
abbrev S4x64 : Shape := ⟨2, ![4, 64]⟩
abbrev S18432x512 : Shape := ⟨2, ![18432, 512]⟩
abbrev S8x256x2304 : Shape := ⟨3, ![8, 256, 2304]⟩
abbrev S18432x256 : Shape := ⟨2, ![18432, 256]⟩
abbrev S8x512x2304 : Shape := ⟨3, ![8, 512, 2304]⟩
abbrev S256x1024 : Shape := ⟨2, ![256, 1024]⟩
abbrev S1x8x1024 : Shape := ⟨3, ![1, 8, 1024]⟩
abbrev S256x128 : Shape := ⟨2, ![256, 128]⟩
abbrev S256x512 : Shape := ⟨2, ![256, 512]⟩
abbrev S1x256x256 : Shape := ⟨3, ![1, 256, 256]⟩
abbrev S1x512x256 : Shape := ⟨3, ![1, 512, 256]⟩
abbrev S1x1x1024 : Shape := ⟨3, ![1, 1, 1024]⟩
abbrev S1x1024 : Shape := ⟨2, ![1, 1024]⟩
abbrev S512x256 : Shape := ⟨2, ![512, 256]⟩

abbrev nBuf : Space → Nat
  | .hbm => 179
  | .vmem => 35
  | .smem => 0
  | _ => 0

abbrev hbmTy0_0 (i : Nat) : BufTy := match i % 128 with
  | 0 => ⟨S18432x1024, .f32⟩
  | 1 => ⟨S9x8x1024, .f32⟩
  | 2 => ⟨S1024x5888, .f32⟩
  | 3 => ⟨S64, .f32⟩
  | 4 => ⟨S64, .f32⟩
  | 5 => ⟨S2048x64, .f32⟩
  | 6 => ⟨S2048x64, .f32⟩
  | 7 => ⟨S64, .i32⟩
  | 8 => ⟨S_, .i32⟩
  | 9 => ⟨S_, .i32⟩
  | 10 => ⟨S64, .i32⟩
  | 11 => ⟨S64, .i32⟩
  | 12 => ⟨S64, .i32⟩
  | 13 => ⟨S_, .i32⟩
  | 14 => ⟨S64, .i32⟩
  | 15 => ⟨S64, .i1⟩
  | 16 => ⟨S64, .i32⟩
  | 17 => ⟨S64, .i32⟩
  | 18 => ⟨S_, .i32⟩
  | 19 => ⟨S64, .i32⟩
  | 20 => ⟨S64, .i1⟩
  | 21 => ⟨S64, .i1⟩
  | 22 => ⟨S_, .i32⟩
  | 23 => ⟨S64, .i32⟩
  | 24 => ⟨S64, .i32⟩
  | 25 => ⟨S64, .i32⟩
  | 26 => ⟨S_, .i32⟩
  | 27 => ⟨S_, .i32⟩
  | 28 => ⟨S_, .i32⟩
  | 29 => ⟨S_, .i1⟩
  | 30 => ⟨S_, .i32⟩
  | 31 => ⟨S_, .i32⟩
  | 32 => ⟨S64, .i32⟩
  | 33 => ⟨S64, .i32⟩
  | 34 => ⟨S_, .i32⟩
  | 35 => ⟨S64, .i32⟩
  | 36 => ⟨S64, .i1⟩
  | 37 => ⟨S_, .i32⟩
  | 38 => ⟨S64, .i32⟩
  | 39 => ⟨S64, .i1⟩
  | 40 => ⟨S_, .i32⟩
  | 41 => ⟨S_, .i1⟩
  | 42 => ⟨S64, .i1⟩
  | 43 => ⟨S64, .i1⟩
  | 44 => ⟨S64, .i1⟩
  | 45 => ⟨S64, .i32⟩
  | 46 => ⟨S64, .i32⟩
  | 47 => ⟨S64, .i32⟩
  | 48 => ⟨S_, .i32⟩
  | 49 => ⟨S64, .i32⟩
  | 50 => ⟨S64, .i1⟩
  | 51 => ⟨S2048x64, .f32⟩
  | 52 => ⟨S_, .f32⟩
  | 53 => ⟨S_, .f32⟩
  | 54 => ⟨S2048x64, .i1⟩
  | 55 => ⟨S2048x64, .f32⟩
  | 56 => ⟨S2048x64, .f32⟩
  | 57 => ⟨S_, .i32⟩
  | 58 => ⟨S64, .i32⟩
  | 59 => ⟨S64, .i1⟩
  | 60 => ⟨S_, .f32⟩
  | 61 => ⟨S_, .f32⟩
  | 62 => ⟨S2048x64, .i1⟩
  | 63 => ⟨S2048x64, .f32⟩
  | 64 => ⟨S2048x64, .f32⟩
  | 65 => ⟨S_, .f32⟩
  | 66 => ⟨S256x64, .f32⟩
  | 67 => ⟨S2304x64, .f32⟩
  | 68 => ⟨S1x2304x1x64, .f32⟩
  | 69 => ⟨S1x2304x2x64, .f32⟩
  | 70 => ⟨S2304x128, .f32⟩
  | 71 => ⟨S_, .f32⟩
  | 72 => ⟨S256x64, .f32⟩
  | 73 => ⟨S2304x64, .f32⟩
  | 74 => ⟨S1x2304x1x64, .f32⟩
  | 75 => ⟨S1x2304x2x64, .f32⟩
  | 76 => ⟨S2304x128, .f32⟩
  | 77 => ⟨S_, .f32⟩
  | 78 => ⟨S256x64, .f32⟩
  | 79 => ⟨S2304x64, .f32⟩
  | 80 => ⟨S1x2304x1x64, .f32⟩
  | 81 => ⟨S1x2304x2x64, .f32⟩
  | 82 => ⟨S2304x128, .f32⟩
  | 83 => ⟨S512, .i32⟩
  | 84 => ⟨S_, .i32⟩
  | 85 => ⟨S_, .i32⟩
  | 86 => ⟨S512, .i32⟩
  | 87 => ⟨S512, .i32⟩
  | 88 => ⟨S512, .i32⟩
  | 89 => ⟨S_, .i32⟩
  | 90 => ⟨S512, .i32⟩
  | 91 => ⟨S512, .i1⟩
  | 92 => ⟨S512, .i32⟩
  | 93 => ⟨S512, .i32⟩
  | 94 => ⟨S_, .i32⟩
  | 95 => ⟨S512, .i32⟩
  | 96 => ⟨S512, .i1⟩
  | 97 => ⟨S512, .i1⟩
  | 98 => ⟨S_, .i32⟩
  | 99 => ⟨S512, .i32⟩
  | 100 => ⟨S512, .i32⟩
  | 101 => ⟨S512, .i32⟩
  | 102 => ⟨S512x1, .i32⟩
  | 103 => ⟨S1x512, .i32⟩
  | 104 => ⟨S512x512, .i32⟩
  | 105 => ⟨S512x512, .i32⟩
  | 106 => ⟨S512x512, .i1⟩
  | 107 => ⟨S_, .f32⟩
  | 108 => ⟨S_, .f32⟩
  | 109 => ⟨S512x512, .f32⟩
  | 110 => ⟨S512x512, .f32⟩
  | 111 => ⟨S512x512, .f32⟩
  | 112 => ⟨S512x512, .bf16⟩
  | 113 => ⟨S256, .i32⟩
  | 114 => ⟨S_, .i32⟩
  | 115 => ⟨S_, .i32⟩
  | 116 => ⟨S256, .i32⟩
  | 117 => ⟨S256, .i32⟩
  | 118 => ⟨S256, .i32⟩
  | 119 => ⟨S_, .i32⟩
  | 120 => ⟨S256, .i32⟩
  | 121 => ⟨S256, .i1⟩
  | 122 => ⟨S256, .i32⟩
  | 123 => ⟨S256, .i32⟩
  | 124 => ⟨S_, .i32⟩
  | 125 => ⟨S256, .i32⟩
  | 126 => ⟨S256, .i1⟩
  | 127 => ⟨S256, .i1⟩
  | _ => ⟨S18432x1024, .f32⟩

abbrev hbmTy0_1 (i : Nat) : BufTy := match i % 128 with
  | 0 => ⟨S_, .i32⟩
  | 1 => ⟨S256, .i32⟩
  | 2 => ⟨S256, .i32⟩
  | 3 => ⟨S256, .i32⟩
  | 4 => ⟨S256x1, .i32⟩
  | 5 => ⟨S1x256, .i32⟩
  | 6 => ⟨S256x256, .i32⟩
  | 7 => ⟨S256x256, .i32⟩
  | 8 => ⟨S256x256, .i1⟩
  | 9 => ⟨S_, .f32⟩
  | 10 => ⟨S_, .f32⟩
  | 11 => ⟨S256x256, .f32⟩
  | 12 => ⟨S256x256, .f32⟩
  | 13 => ⟨S256x256, .f32⟩
  | 14 => ⟨S256x256, .bf16⟩
  | 15 => ⟨S1024x512, .f32⟩
  | 16 => ⟨S1024x128, .f32⟩
  | 17 => ⟨S1024x128, .f32⟩
  | 18 => ⟨S1024x512, .f32⟩
  | 19 => ⟨S1024x512, .f32⟩
  | 20 => ⟨S1024x512, .f32⟩
  | 21 => ⟨S1024x512, .f32⟩
  | 22 => ⟨S1024x3072, .f32⟩
  | 23 => ⟨S1024x512, .bf16⟩
  | 24 => ⟨S1024x64, .f32⟩
  | 25 => ⟨S1024x64, .f32⟩
  | 26 => ⟨S1024x256, .f32⟩
  | 27 => ⟨S1024x256, .bf16⟩
  | 28 => ⟨S1024x64, .f32⟩
  | 29 => ⟨S1024x64, .f32⟩
  | 30 => ⟨S1024x256, .f32⟩
  | 31 => ⟨S1024x256, .bf16⟩
  | 32 => ⟨S1024x512, .bf16⟩
  | 33 => ⟨S1024x512, .bf16⟩
  | 34 => ⟨S1024x512, .bf16⟩
  | 35 => ⟨S1024x512, .bf16⟩
  | 36 => ⟨S1x64, .f32⟩
  | 37 => ⟨S8x64, .f32⟩
  | 38 => ⟨S512, .f32⟩
  | 39 => ⟨S1x512, .f32⟩
  | 40 => ⟨S1x64, .f32⟩
  | 41 => ⟨S4x64, .f32⟩
  | 42 => ⟨S256, .f32⟩
  | 43 => ⟨S1x256, .f32⟩
  | 44 => ⟨S18432x512, .bf16⟩
  | 45 => ⟨S8x256x2304, .bf16⟩
  | 46 => ⟨S18432x256, .bf16⟩
  | 47 => ⟨S18432x512, .bf16⟩
  | 48 => ⟨S18432x512, .bf16⟩
  | 49 => ⟨S8x512x2304, .bf16⟩
  | 50 => ⟨S18432x512, .bf16⟩
  | _ => ⟨S18432x1024, .f32⟩

abbrev hbmTy (i : Nat) : BufTy := match i / 128 with
  | 0 => hbmTy0_0 i
  | 1 => hbmTy0_1 i
  | _ => ⟨S18432x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S1x8x1024, .f32⟩
  | .local _ .vmem, ⟨3, _⟩ => ⟨S1x8x1024, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S1024x512, .bf16⟩
  | .local _ .vmem, ⟨11, _⟩ => ⟨S1024x256, .bf16⟩
  | .local _ .vmem, ⟨12, _⟩ => ⟨S1024x256, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1x512, .f32⟩
  | .local _ .vmem, ⟨18, _⟩ => ⟨S1x256, .f32⟩
  | .local _ .vmem, ⟨19, _⟩ => ⟨S512x512, .bf16⟩
  | .local _ .vmem, ⟨20, _⟩ => ⟨S256x256, .bf16⟩
  | .local _ .vmem, ⟨21, _⟩ => ⟨S256x512, .bf16⟩
  | .local _ .vmem, ⟨22, _⟩ => ⟨S256x512, .bf16⟩
  | .local _ .vmem, ⟨23, _⟩ => ⟨S1x256x256, .bf16⟩
  | .local _ .vmem, ⟨24, _⟩ => ⟨S1x256x256, .bf16⟩
  | .local _ .vmem, ⟨25, _⟩ => ⟨S256x256, .bf16⟩
  | .local _ .vmem, ⟨26, _⟩ => ⟨S256x256, .bf16⟩
  | .local _ .vmem, ⟨27, _⟩ => ⟨S256x512, .bf16⟩
  | .local _ .vmem, ⟨28, _⟩ => ⟨S256x512, .bf16⟩
  | .local _ .vmem, ⟨29, _⟩ => ⟨S256x512, .bf16⟩
  | .local _ .vmem, ⟨30, _⟩ => ⟨S256x512, .bf16⟩
  | .local _ .vmem, ⟨31, _⟩ => ⟨S1x512x256, .bf16⟩
  | .local _ .vmem, ⟨32, _⟩ => ⟨S1x512x256, .bf16⟩
  | .local _ .vmem, ⟨33, _⟩ => ⟨S256x512, .bf16⟩
  | .local _ .vmem, ⟨34, _⟩ => ⟨S256x512, .bf16⟩
  | _, _ => ⟨S18432x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v1 : Ref sig .tc := ⟨.hbm, 25, rfl⟩
abbrev main_c_0 : Ref sig .tc := ⟨.hbm, 26, rfl⟩
abbrev main_call1_v0 : Ref sig .tc := ⟨.hbm, 27, rfl⟩
abbrev main_call1_c : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_c_1 : Ref sig .tc := ⟨.hbm, 34, rfl⟩
abbrev main_call1_v5 : Ref sig .tc := ⟨.hbm, 35, rfl⟩
abbrev main_call1_v6 : Ref sig .tc := ⟨.hbm, 36, rfl⟩
abbrev main_call1_c_2 : Ref sig .tc := ⟨.hbm, 37, rfl⟩
abbrev main_call1_v7 : Ref sig .tc := ⟨.hbm, 38, rfl⟩
abbrev main_call1_v8 : Ref sig .tc := ⟨.hbm, 39, rfl⟩
abbrev main_call1_c_3 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_v2 : Ref sig .tc := ⟨.hbm, 47, rfl⟩
abbrev main_c_1 : Ref sig .tc := ⟨.hbm, 48, rfl⟩
abbrev main_v3 : Ref sig .tc := ⟨.hbm, 49, rfl⟩
abbrev main_v4 : Ref sig .tc := ⟨.hbm, 50, rfl⟩
abbrev main_v5 : Ref sig .tc := ⟨.hbm, 51, rfl⟩
abbrev main_cst : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_v6 : Ref sig .tc := ⟨.hbm, 56, rfl⟩
abbrev main_c_2 : Ref sig .tc := ⟨.hbm, 57, rfl⟩
abbrev main_v7 : Ref sig .tc := ⟨.hbm, 58, rfl⟩
abbrev main_v8 : Ref sig .tc := ⟨.hbm, 59, rfl⟩
abbrev main_cst_3 : Ref sig .tc := ⟨.hbm, 60, rfl⟩
abbrev main_call3_v0 : Ref sig .tc := ⟨.hbm, 61, rfl⟩
abbrev main_call3_v1 : Ref sig .tc := ⟨.hbm, 62, rfl⟩
abbrev main_call3_v2 : Ref sig .tc := ⟨.hbm, 63, rfl⟩
abbrev main_v9 : Ref sig .tc := ⟨.hbm, 64, rfl⟩
abbrev main_cst_4 : Ref sig .tc := ⟨.hbm, 65, rfl⟩
abbrev main_v10 : Ref sig .tc := ⟨.hbm, 66, rfl⟩
abbrev main_v11 : Ref sig .tc := ⟨.hbm, 67, rfl⟩
abbrev main_v12 : Ref sig .tc := ⟨.hbm, 68, rfl⟩
abbrev main_v13 : Ref sig .tc := ⟨.hbm, 69, rfl⟩
abbrev main_v14 : Ref sig .tc := ⟨.hbm, 70, rfl⟩
abbrev main_cst_5 : Ref sig .tc := ⟨.hbm, 71, rfl⟩
abbrev main_v15 : Ref sig .tc := ⟨.hbm, 72, rfl⟩
abbrev main_v16 : Ref sig .tc := ⟨.hbm, 73, rfl⟩
abbrev main_v17 : Ref sig .tc := ⟨.hbm, 74, rfl⟩
abbrev main_v18 : Ref sig .tc := ⟨.hbm, 75, rfl⟩
abbrev main_v19 : Ref sig .tc := ⟨.hbm, 76, rfl⟩
abbrev main_cst_6 : Ref sig .tc := ⟨.hbm, 77, rfl⟩
abbrev main_v20 : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_c_7 : Ref sig .tc := ⟨.hbm, 84, rfl⟩
abbrev main_call4_v0 : Ref sig .tc := ⟨.hbm, 85, rfl⟩
abbrev main_call4_v1 : Ref sig .tc := ⟨.hbm, 86, rfl⟩
abbrev main_call4_v2 : Ref sig .tc := ⟨.hbm, 87, rfl⟩
abbrev main_call4_v3 : Ref sig .tc := ⟨.hbm, 88, rfl⟩
abbrev main_call4_v4 : Ref sig .tc := ⟨.hbm, 89, rfl⟩
abbrev main_call4_v5 : Ref sig .tc := ⟨.hbm, 90, rfl⟩
abbrev main_call4_v6 : Ref sig .tc := ⟨.hbm, 91, rfl⟩
abbrev main_call4_v7 : Ref sig .tc := ⟨.hbm, 92, rfl⟩
abbrev main_call4_v8 : Ref sig .tc := ⟨.hbm, 93, rfl⟩
abbrev main_call4_c : Ref sig .tc := ⟨.hbm, 94, rfl⟩
abbrev main_call4_v9 : Ref sig .tc := ⟨.hbm, 95, rfl⟩
abbrev main_call4_v10 : Ref sig .tc := ⟨.hbm, 96, rfl⟩
abbrev main_call4_v11 : Ref sig .tc := ⟨.hbm, 97, rfl⟩
abbrev main_call4_c_0 : Ref sig .tc := ⟨.hbm, 98, rfl⟩
abbrev main_call4_v12 : Ref sig .tc := ⟨.hbm, 99, rfl⟩
abbrev main_call4_v13 : Ref sig .tc := ⟨.hbm, 100, rfl⟩
abbrev main_v26 : Ref sig .tc := ⟨.hbm, 101, rfl⟩
abbrev main_v27 : Ref sig .tc := ⟨.hbm, 102, rfl⟩
abbrev main_v28 : Ref sig .tc := ⟨.hbm, 103, rfl⟩
abbrev main_v29 : Ref sig .tc := ⟨.hbm, 104, rfl⟩
abbrev main_v30 : Ref sig .tc := ⟨.hbm, 105, rfl⟩
abbrev main_v31 : Ref sig .tc := ⟨.hbm, 106, rfl⟩
abbrev main_cst_8 : Ref sig .tc := ⟨.hbm, 107, rfl⟩
abbrev main_cst_9 : Ref sig .tc := ⟨.hbm, 108, rfl⟩
abbrev main_call5_v0 : Ref sig .tc := ⟨.hbm, 109, rfl⟩
abbrev main_call5_v1 : Ref sig .tc := ⟨.hbm, 110, rfl⟩
abbrev main_v32 : Ref sig .tc := ⟨.hbm, 111, rfl⟩
abbrev main_v33 : Ref sig .tc := ⟨.hbm, 112, rfl⟩
abbrev main_v34 : Ref sig .tc := ⟨.hbm, 113, rfl⟩
abbrev main_c_10 : Ref sig .tc := ⟨.hbm, 114, rfl⟩
abbrev main_call6_v0 : Ref sig .tc := ⟨.hbm, 115, rfl⟩
abbrev main_call6_v1 : Ref sig .tc := ⟨.hbm, 116, rfl⟩
abbrev main_call6_v2 : Ref sig .tc := ⟨.hbm, 117, rfl⟩
abbrev main_call6_v3 : Ref sig .tc := ⟨.hbm, 118, rfl⟩
abbrev main_call6_v4 : Ref sig .tc := ⟨.hbm, 119, rfl⟩
abbrev main_call6_v5 : Ref sig .tc := ⟨.hbm, 120, rfl⟩
abbrev main_call6_v6 : Ref sig .tc := ⟨.hbm, 121, rfl⟩
abbrev main_call6_v7 : Ref sig .tc := ⟨.hbm, 122, rfl⟩
abbrev main_call6_v8 : Ref sig .tc := ⟨.hbm, 123, rfl⟩
abbrev main_call6_c : Ref sig .tc := ⟨.hbm, 124, rfl⟩
abbrev main_call6_v9 : Ref sig .tc := ⟨.hbm, 125, rfl⟩
abbrev main_call6_v10 : Ref sig .tc := ⟨.hbm, 126, rfl⟩
abbrev main_call6_v11 : Ref sig .tc := ⟨.hbm, 127, rfl⟩
abbrev main_call6_c_0 : Ref sig .tc := ⟨.hbm, 128, rfl⟩
abbrev main_call6_v12 : Ref sig .tc := ⟨.hbm, 129, rfl⟩
abbrev main_call6_v13 : Ref sig .tc := ⟨.hbm, 130, rfl⟩
abbrev main_v35 : Ref sig .tc := ⟨.hbm, 131, rfl⟩
abbrev main_v36 : Ref sig .tc := ⟨.hbm, 132, rfl⟩
abbrev main_v37 : Ref sig .tc := ⟨.hbm, 133, rfl⟩
abbrev main_v38 : Ref sig .tc := ⟨.hbm, 134, rfl⟩
abbrev main_v39 : Ref sig .tc := ⟨.hbm, 135, rfl⟩
abbrev main_v40 : Ref sig .tc := ⟨.hbm, 136, rfl⟩
abbrev main_cst_11 : Ref sig .tc := ⟨.hbm, 137, rfl⟩
abbrev main_cst_12 : Ref sig .tc := ⟨.hbm, 138, rfl⟩
abbrev main_call7_v0 : Ref sig .tc := ⟨.hbm, 139, rfl⟩
abbrev main_call7_v1 : Ref sig .tc := ⟨.hbm, 140, rfl⟩
abbrev main_v41 : Ref sig .tc := ⟨.hbm, 141, rfl⟩
abbrev main_v42 : Ref sig .tc := ⟨.hbm, 142, rfl⟩
abbrev main_v43 : Ref sig .tc := ⟨.hbm, 143, rfl⟩
abbrev main_v44 : Ref sig .tc := ⟨.hbm, 144, rfl⟩
abbrev main_v45 : Ref sig .tc := ⟨.hbm, 145, rfl⟩
abbrev main_v46 : Ref sig .tc := ⟨.hbm, 146, rfl⟩
abbrev main_v47 : Ref sig .tc := ⟨.hbm, 147, rfl⟩
abbrev main_v48 : Ref sig .tc := ⟨.hbm, 148, rfl⟩
abbrev main_v49 : Ref sig .tc := ⟨.hbm, 149, rfl⟩
abbrev main_v50 : Ref sig .tc := ⟨.hbm, 150, rfl⟩
abbrev main_v51 : Ref sig .tc := ⟨.hbm, 151, rfl⟩
abbrev main_v52 : Ref sig .tc := ⟨.hbm, 152, rfl⟩
abbrev main_v53 : Ref sig .tc := ⟨.hbm, 153, rfl⟩
abbrev main_v54 : Ref sig .tc := ⟨.hbm, 154, rfl⟩
abbrev main_v55 : Ref sig .tc := ⟨.hbm, 155, rfl⟩
abbrev main_v56 : Ref sig .tc := ⟨.hbm, 156, rfl⟩
abbrev main_v57 : Ref sig .tc := ⟨.hbm, 157, rfl⟩
abbrev main_v58 : Ref sig .tc := ⟨.hbm, 158, rfl⟩
abbrev main_v59 : Ref sig .tc := ⟨.hbm, 159, rfl⟩
abbrev main_v60 : Ref sig .tc := ⟨.hbm, 160, rfl⟩
abbrev main_v61 : Ref sig .tc := ⟨.hbm, 161, rfl⟩
abbrev main_v62 : Ref sig .tc := ⟨.hbm, 162, rfl⟩
abbrev main_v63 : Ref sig .tc := ⟨.hbm, 163, rfl⟩
abbrev main_v64 : Ref sig .tc := ⟨.hbm, 164, rfl⟩
abbrev main_v65 : Ref sig .tc := ⟨.hbm, 165, rfl⟩
abbrev main_v66 : Ref sig .tc := ⟨.hbm, 166, rfl⟩
abbrev main_v67 : Ref sig .tc := ⟨.hbm, 167, rfl⟩
abbrev main_v68 : Ref sig .tc := ⟨.hbm, 168, rfl⟩
abbrev main_v69 : Ref sig .tc := ⟨.hbm, 169, rfl⟩
abbrev main_v70 : Ref sig .tc := ⟨.hbm, 170, rfl⟩
abbrev main_v71 : Ref sig .tc := ⟨.hbm, 171, rfl⟩
abbrev main_v72_0 : Ref sig .tc := ⟨.hbm, 172, rfl⟩
abbrev main_v72_1 : Ref sig .tc := ⟨.hbm, 173, rfl⟩
abbrev main_v72_2 : Ref sig .tc := ⟨.hbm, 174, rfl⟩
abbrev main_v72_3 : Ref sig .tc := ⟨.hbm, 175, rfl⟩
abbrev main_v72_4 : Ref sig .tc := ⟨.hbm, 176, rfl⟩
abbrev main_v72_5 : Ref sig .tc := ⟨.hbm, 177, rfl⟩
abbrev main_v72_6 : Ref sig .tc := ⟨.hbm, 178, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_stg21_1 : Ref sig .tc := ⟨.vmem, 32, rfl⟩
abbrev cc0_stg22_0 : Ref sig .tc := ⟨.vmem, 33, rfl⟩
abbrev cc0_stg22_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30
abbrev cc0_sem21_0 : DmaSem sig := 31
abbrev cc0_sem21_1 : DmaSem sig := 32
abbrev cc0_sem22_0 : DmaSem sig := 33
abbrev cc0_sem22_1 : DmaSem sig := 34

abbrev nD : Nat := 1
abbrev τ : Topo := Topo.v7x

variable {F : FTy → Type} [FloatOps F]

abbrev grid0 : Pipeline.Grid := ⟨1, ![72], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let c9_i32_4 : BitVec 32 := 9#32
  let v11 : BitVec 32 := Scalar.divsi arg0 c9_i32_4
  let c0_i32_5 : BitVec 32 := 0#32
  let v12 : BitVec 1 := Scalar.cmpi .sgt arg0 c0_i32_5
  let v13 : BitVec 32 := Scalar.extui v12
  let c0_i32_6 : BitVec 32 := 0#32
  let v14 : BitVec 1 := Scalar.cmpi .slt arg0 c0_i32_6
  let v15 : BitVec 32 := Scalar.extui v14
  let v16 : BitVec 32 := Scalar.subi v13 v15
  let c0_i32_7 : BitVec 32 := 0#32
  let v17 : BitVec 1 := Scalar.cmpi .sgt c9_i32_4 c0_i32_7
  let v18 : BitVec 32 := Scalar.extui v17
  let c0_i32_8 : BitVec 32 := 0#32
  let v19 : BitVec 1 := Scalar.cmpi .slt c9_i32_4 c0_i32_8
  let v20 : BitVec 32 := Scalar.extui v19
  let v21 : BitVec 32 := Scalar.subi v18 v20
  let v22 : BitVec 1 := Scalar.cmpi .ne v16 v21
  let v23 : BitVec 32 := Scalar.remsi arg0 c9_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let c8_i32 : BitVec 32 := 8#32
  let v28 : BitVec 32 := Scalar.select v10 c8_i32 v27
  let c0_i32_11 : BitVec 32 := 0#32
  let c0_i32_12 : BitVec 32 := 0#32
  let c0_i32_13 : BitVec 32 := 0#32
  ![v28.toNat, c0_i32_11.toNat, c0_i32_12.toNat]

def cc0_transform_2 (i : grid0.Coords) : Fin 2 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c9_i32 : BitVec 32 := 9#32
  let c0_i32 : BitVec 32 := 0#32
  let v0 : BitVec 1 := Scalar.cmpi .eq c9_i32 c0_i32
  let c1_i32 : BitVec 32 := 1#32
  let v1 : BitVec 32 := Scalar.select v0 c1_i32 c9_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c9_i32 : BitVec 32 := 9#32
  let v0 : BitVec 32 := Scalar.divsi arg0 c9_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg0 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c9_i32_4 : BitVec 32 := 9#32
  let c0_i32_5 : BitVec 32 := 0#32
  let v17 : BitVec 1 := Scalar.cmpi .eq c9_i32_4 c0_i32_5
  let c1_i32_6 : BitVec 32 := 1#32
  let v18 : BitVec 32 := Scalar.select v17 c1_i32_6 c9_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 3 → Nat :=
  let arg0 : BitVec 32 := BitVec.ofNat 32 (i 0).val
  let c9_i32 : BitVec 32 := 9#32
  let v0 : BitVec 32 := Scalar.divsi arg0 c9_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg0 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c9_i32_4 : BitVec 32 := 9#32
  let c0_i32_5 : BitVec 32 := 0#32
  let v17 : BitVec 1 := Scalar.cmpi .eq c9_i32_4 c0_i32_5
  let c1_i32_6 : BitVec 32 := 1#32
  let v18 : BitVec 32 := Scalar.select v17 c1_i32_6 c9_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x256x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x512x256 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x512 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== InpRefIdeal.lean ====
abbrev S18432x1024 : Shape := ⟨2, ![18432, 1024]⟩
abbrev S9x8x1024 : Shape := ⟨3, ![9, 8, 1024]⟩
abbrev S1024x5888 : Shape := ⟨2, ![1024, 5888]⟩
abbrev S64 : Shape := ⟨1, ![64]⟩
abbrev S2048x64 : Shape := ⟨2, ![2048, 64]⟩
abbrev S_ : Shape := ⟨0, ![]⟩
abbrev S18432 : Shape := ⟨1, ![18432]⟩
abbrev S18432x1 : Shape := ⟨2, ![18432, 1]⟩
abbrev S1x1x1024 : Shape := ⟨3, ![1, 1, 1024]⟩
abbrev S1024 : Shape := ⟨1, ![1024]⟩
abbrev S8x256x1024 : Shape := ⟨3, ![8, 256, 1024]⟩
abbrev S8x1x1024 : Shape := ⟨3, ![8, 1, 1024]⟩
abbrev S8x1024 : Shape := ⟨2, ![8, 1024]⟩
abbrev S8x2048x1024 : Shape := ⟨3, ![8, 2048, 1024]⟩
abbrev S8x2304x1024 : Shape := ⟨3, ![8, 2304, 1024]⟩
abbrev S18432x5888 : Shape := ⟨2, ![18432, 5888]⟩
abbrev S18432x512 : Shape := ⟨2, ![18432, 512]⟩
abbrev S18432x128 : Shape := ⟨2, ![18432, 128]⟩
abbrev S18432x3072 : Shape := ⟨2, ![18432, 3072]⟩
abbrev S18432x64 : Shape := ⟨2, ![18432, 64]⟩
abbrev S18432x256 : Shape := ⟨2, ![18432, 256]⟩
abbrev S8x2304x512 : Shape := ⟨3, ![8, 2304, 512]⟩
abbrev S8x2048x512 : Shape := ⟨3, ![8, 2048, 512]⟩
abbrev S8x2048x8x64 : Shape := ⟨4, ![8, 2048, 8, 64]⟩
abbrev S8x2048x8x16 : Shape := ⟨4, ![8, 2048, 8, 16]⟩
abbrev S1x2048x1x64 : Shape := ⟨4, ![1, 2048, 1, 64]⟩
abbrev S8x256x512 : Shape := ⟨3, ![8, 256, 512]⟩
abbrev S8x512x2304 : Shape := ⟨3, ![8, 512, 2304]⟩

abbrev nBuf : Space → Nat
  | .hbm => 115
  | .vmem => 0
  | .smem => 0
  | _ => 0

abbrev bufTy : (tb : Table) → Fin (tcTables nBuf tb) → BufTy
  | .hbm, ⟨0, _⟩ => ⟨S18432x1024, .f32⟩
  | .hbm, ⟨1, _⟩ => ⟨S9x8x1024, .f32⟩
  | .hbm, ⟨2, _⟩ => ⟨S1024x5888, .f32⟩
  | .hbm, ⟨3, _⟩ => ⟨S64, .f32⟩
  | .hbm, ⟨4, _⟩ => ⟨S64, .f32⟩
  | .hbm, ⟨5, _⟩ => ⟨S2048x64, .f32⟩
  | .hbm, ⟨6, _⟩ => ⟨S2048x64, .f32⟩
  | .hbm, ⟨7, _⟩ => ⟨S_, .f32⟩
  | .hbm, ⟨8, _⟩ => ⟨S18432, .f32⟩
  | .hbm, ⟨9, _⟩ => ⟨S18432x1, .f32⟩
  | .hbm, ⟨10, _⟩ => ⟨S_, .f32⟩
  | .hbm, ⟨11, _⟩ => ⟨S18432x1, .f32⟩
  | .hbm, ⟨12, _⟩ => ⟨S18432x1, .f32⟩
  | .hbm, ⟨13, _⟩ => ⟨S18432x1024, .f32⟩
  | .hbm, ⟨14, _⟩ => ⟨S18432x1024, .f32⟩
  | .hbm, ⟨15, _⟩ => ⟨S18432x1024, .f32⟩
  | .hbm, ⟨16, _⟩ => ⟨S_, .f32⟩
  | .hbm, ⟨17, _⟩ => ⟨S18432, .f32⟩
  | .hbm, ⟨18, _⟩ => ⟨S18432x1, .f32⟩
  | .hbm, ⟨19, _⟩ => ⟨S_, .f32⟩
  | .hbm, ⟨20, _⟩ => ⟨S18432x1, .f32⟩
  | .hbm, ⟨21, _⟩ => ⟨S18432x1, .f32⟩
  | .hbm, ⟨22, _⟩ => ⟨S18432x1024, .f32⟩
  | .hbm, ⟨23, _⟩ => ⟨S18432x1024, .f32⟩
  | .hbm, ⟨24, _⟩ => ⟨S_, .f32⟩
  | .hbm, ⟨25, _⟩ => ⟨S18432x1, .f32⟩
  | .hbm, ⟨26, _⟩ => ⟨S18432x1, .f32⟩
  | .hbm, ⟨27, _⟩ => ⟨S18432x1, .f32⟩
  | .hbm, ⟨28, _⟩ => ⟨S18432x1024, .f32⟩
  | .hbm, ⟨29, _⟩ => ⟨S18432x1024, .f32⟩
  | .hbm, ⟨30, _⟩ => ⟨S1x1x1024, .f32⟩
  | .hbm, ⟨31, _⟩ => ⟨S1024, .f32⟩
  | .hbm, ⟨32, _⟩ => ⟨S8x256x1024, .f32⟩
  | .hbm, ⟨33, _⟩ => ⟨S8x1x1024, .f32⟩
  | .hbm, ⟨34, _⟩ => ⟨S8x1024, .f32⟩
  | .hbm, ⟨35, _⟩ => ⟨S8x1x1024, .f32⟩
  | .hbm, ⟨36, _⟩ => ⟨S8x2048x1024, .f32⟩
  | .hbm, ⟨37, _⟩ => ⟨S8x2304x1024, .f32⟩
  | .hbm, ⟨38, _⟩ => ⟨S18432x1024, .f32⟩
  | .hbm, ⟨39, _⟩ => ⟨S_, .f32⟩
  | .hbm, ⟨40, _⟩ => ⟨S18432x1024, .f32⟩
  | .hbm, ⟨41, _⟩ => ⟨S18432x1024, .f32⟩
  | .hbm, ⟨42, _⟩ => ⟨S18432x1024, .f32⟩
  | .hbm, ⟨43, _⟩ => ⟨S1x1x1024, .f32⟩
  | .hbm, ⟨44, _⟩ => ⟨S1024, .f32⟩
  | .hbm, ⟨45, _⟩ => ⟨S8x256x1024, .f32⟩
  | .hbm, ⟨46, _⟩ => ⟨S8x1x1024, .f32⟩
  | .hbm, ⟨47, _⟩ => ⟨S8x1024, .f32⟩
  | .hbm, ⟨48, _⟩ => ⟨S8x1x1024, .f32⟩
  | .hbm, ⟨49, _⟩ => ⟨S8x2048x1024, .f32⟩
  | .hbm, ⟨50, _⟩ => ⟨S8x2304x1024, .f32⟩
  | .hbm, ⟨51, _⟩ => ⟨S18432x1024, .f32⟩
  | .hbm, ⟨52, _⟩ => ⟨S18432x1024, .f32⟩
  | .hbm, ⟨53, _⟩ => ⟨S18432x5888, .f32⟩
  | .hbm, ⟨54, _⟩ => ⟨S18432x512, .f32⟩
  | .hbm, ⟨55, _⟩ => ⟨S18432x128, .f32⟩
  | .hbm, ⟨56, _⟩ => ⟨S18432x128, .f32⟩
  | .hbm, ⟨57, _⟩ => ⟨S18432x512, .f32⟩
  | .hbm, ⟨58, _⟩ => ⟨S18432x512, .f32⟩
  | .hbm, ⟨59, _⟩ => ⟨S18432x512, .f32⟩
  | .hbm, ⟨60, _⟩ => ⟨S18432x512, .f32⟩
  | .hbm, ⟨61, _⟩ => ⟨S18432x3072, .f32⟩
  | .hbm, ⟨62, _⟩ => ⟨S18432x64, .f32⟩
  | .hbm, ⟨63, _⟩ => ⟨S18432x64, .f32⟩
  | .hbm, ⟨64, _⟩ => ⟨S18432x256, .f32⟩
  | .hbm, ⟨65, _⟩ => ⟨S8x2304x512, .f32⟩
  | .hbm, ⟨66, _⟩ => ⟨S8x2048x512, .f32⟩
  | .hbm, ⟨67, _⟩ => ⟨S8x2048x8x64, .f32⟩
  | .hbm, ⟨68, _⟩ => ⟨S8x2048x8x16, .f32⟩
  | .hbm, ⟨69, _⟩ => ⟨S8x2048x8x16, .f32⟩
  | .hbm, ⟨70, _⟩ => ⟨S8x2048x8x16, .f32⟩
  | .hbm, ⟨71, _⟩ => ⟨S8x2048x8x16, .f32⟩
  | .hbm, ⟨72, _⟩ => ⟨S8x2048x8x16, .f32⟩
  | .hbm, ⟨73, _⟩ => ⟨S8x2048x8x16, .f32⟩
  | .hbm, ⟨74, _⟩ => ⟨S8x2048x8x64, .f32⟩
  | .hbm, ⟨75, _⟩ => ⟨S1x2048x1x64, .f32⟩
  | .hbm, ⟨76, _⟩ => ⟨S8x2048x8x64, .f32⟩
  | .hbm, ⟨77, _⟩ => ⟨S8x2048x8x64, .f32⟩
  | .hbm, ⟨78, _⟩ => ⟨S1x2048x1x64, .f32⟩
  | .hbm, ⟨79, _⟩ => ⟨S8x2048x8x64, .f32⟩
  | .hbm, ⟨80, _⟩ => ⟨S8x2048x8x64, .f32⟩
  | .hbm, ⟨81, _⟩ => ⟨S8x2048x8x64, .f32⟩
  | .hbm, ⟨82, _⟩ => ⟨S8x256x512, .f32⟩
  | .hbm, ⟨83, _⟩ => ⟨S8x2048x512, .f32⟩
  | .hbm, ⟨84, _⟩ => ⟨S8x2304x512, .f32⟩
  | .hbm, ⟨85, _⟩ => ⟨S18432x512, .f32⟩
  | .hbm, ⟨86, _⟩ => ⟨S_, .f32⟩
  | .hbm, ⟨87, _⟩ => ⟨S18432x512, .f32⟩
  | .hbm, ⟨88, _⟩ => ⟨S18432x512, .f32⟩
  | .hbm, ⟨89, _⟩ => ⟨S8x2304x512, .f32⟩
  | .hbm, ⟨90, _⟩ => ⟨S8x2048x512, .f32⟩
  | .hbm, ⟨91, _⟩ => ⟨S8x2048x8x64, .f32⟩
  | .hbm, ⟨92, _⟩ => ⟨S8x2048x8x16, .f32⟩
  | .hbm, ⟨93, _⟩ => ⟨S8x2048x8x16, .f32⟩
  | .hbm, ⟨94, _⟩ => ⟨S8x2048x8x16, .f32⟩
  | .hbm, ⟨95, _⟩ => ⟨S8x2048x8x16, .f32⟩
  | .hbm, ⟨96, _⟩ => ⟨S8x2048x8x16, .f32⟩
  | .hbm, ⟨97, _⟩ => ⟨S8x2048x8x16, .f32⟩
  | .hbm, ⟨98, _⟩ => ⟨S8x2048x8x64, .f32⟩
  | .hbm, ⟨99, _⟩ => ⟨S1x2048x1x64, .f32⟩
  | .hbm, ⟨100, _⟩ => ⟨S8x2048x8x64, .f32⟩
  | .hbm, ⟨101, _⟩ => ⟨S8x2048x8x64, .f32⟩
  | .hbm, ⟨102, _⟩ => ⟨S1x2048x1x64, .f32⟩
  | .hbm, ⟨103, _⟩ => ⟨S8x2048x8x64, .f32⟩
  | .hbm, ⟨104, _⟩ => ⟨S8x2048x8x64, .f32⟩
  | .hbm, ⟨105, _⟩ => ⟨S8x2048x8x64, .f32⟩
  | .hbm, ⟨106, _⟩ => ⟨S8x256x512, .f32⟩
  | .hbm, ⟨107, _⟩ => ⟨S8x2048x512, .f32⟩
  | .hbm, ⟨108, _⟩ => ⟨S8x2304x512, .f32⟩
  | .hbm, ⟨109, _⟩ => ⟨S8x512x2304, .f32⟩
  | .hbm, ⟨110, _⟩ => ⟨S18432x256, .bf16⟩
  | .hbm, ⟨111, _⟩ => ⟨S18432x512, .bf16⟩
  | .hbm, ⟨112, _⟩ => ⟨S18432x512, .bf16⟩
  | .hbm, ⟨113, _⟩ => ⟨S8x512x2304, .bf16⟩
  | .hbm, ⟨114, _⟩ => ⟨S18432x512, .bf16⟩
  | _, _ => ⟨S18432x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_cst_5 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩

abbrev nD : Nat := 1
abbrev τ : Topo := Topo.v7x

variable {F : FTy → Type} [FloatOps F]
-- ==== Fin.lean ====
abbrev S16384x1024 : Shape := ⟨2, ![16384, 1024]⟩
abbrev S9x8x1024 : Shape := ⟨3, ![9, 8, 1024]⟩
abbrev S8x65792x128 : Shape := ⟨3, ![8, 65792, 128]⟩
abbrev S16384x8 : Shape := ⟨2, ![16384, 8]⟩
abbrev S1024x256 : Shape := ⟨2, ![1024, 256]⟩
abbrev S256x1024 : Shape := ⟨2, ![256, 1024]⟩
abbrev S1024 : Shape := ⟨1, ![1024]⟩
abbrev S1x1024 : Shape := ⟨2, ![1, 1024]⟩
abbrev S1x8x1024 : Shape := ⟨3, ![1, 8, 1024]⟩
abbrev S8x1024x128 : Shape := ⟨3, ![8, 1024, 128]⟩
abbrev S256x8 : Shape := ⟨2, ![256, 8]⟩
abbrev S8x1024 : Shape := ⟨2, ![8, 1024]⟩
abbrev S256 : Shape := ⟨1, ![256]⟩
abbrev S256x1 : Shape := ⟨2, ![256, 1]⟩
abbrev S256x256 : Shape := ⟨2, ![256, 256]⟩
abbrev S256x128 : Shape := ⟨2, ![256, 128]⟩
abbrev S1x1024x128 : Shape := ⟨3, ![1, 1024, 128]⟩
abbrev S1024x128 : Shape := ⟨2, ![1024, 128]⟩

abbrev nBuf : Space → Nat
  | .hbm => 15
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S9x8x1024, .f32⟩
  | .hbm, ⟨2, _⟩ => ⟨S8x65792x128, .i32⟩
  | .hbm, ⟨3, _⟩ => ⟨S16384x8, .f32⟩
  | .hbm, ⟨4, _⟩ => ⟨S1024x256, .f32⟩
  | .hbm, ⟨5, _⟩ => ⟨S1024x256, .f32⟩
  | .hbm, ⟨6, _⟩ => ⟨S256x1024, .f32⟩
  | .hbm, ⟨7, _⟩ => ⟨S1024, .f32⟩
  | .hbm, ⟨8, _⟩ => ⟨S1024, .f32⟩
  | .hbm, ⟨9, _⟩ => ⟨S1024x256, .bf16⟩
  | .hbm, ⟨10, _⟩ => ⟨S1024x256, .bf16⟩
  | .hbm, ⟨11, _⟩ => ⟨S256x1024, .bf16⟩
  | .hbm, ⟨12, _⟩ => ⟨S1x1024, .f32⟩
  | .hbm, ⟨13, _⟩ => ⟨S1x1024, .f32⟩
  | .hbm, ⟨14, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S1x8x1024, .f32⟩
  | .local _ .vmem, ⟨3, _⟩ => ⟨S1x8x1024, .f32⟩
  | .local _ .vmem, ⟨4, _⟩ => ⟨S8x1024x128, .i32⟩
  | .local _ .vmem, ⟨5, _⟩ => ⟨S8x1024x128, .i32⟩
  | .local _ .vmem, ⟨6, _⟩ => ⟨S256x8, .f32⟩
  | .local _ .vmem, ⟨7, _⟩ => ⟨S256x8, .f32⟩
  | .local _ .vmem, ⟨8, _⟩ => ⟨S1024x256, .bf16⟩
  | .local _ .vmem, ⟨9, _⟩ => ⟨S1024x256, .bf16⟩
  | .local _ .vmem, ⟨10, _⟩ => ⟨S256x1024, .bf16⟩
  | .local _ .vmem, ⟨11, _⟩ => ⟨S1x1024, .f32⟩
  | .local _ .vmem, ⟨12, _⟩ => ⟨S1x1024, .f32⟩
  | .local _ .vmem, ⟨13, _⟩ => ⟨S256x1024, .f32⟩
  | .local _ .vmem, ⟨14, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FinRefIdeal.lean ====
abbrev S16384x1024 : Shape := ⟨2, ![16384, 1024]⟩
abbrev S9x8x1024 : Shape := ⟨3, ![9, 8, 1024]⟩
abbrev S8x65792x128 : Shape := ⟨3, ![8, 65792, 128]⟩
abbrev S16384x8 : Shape := ⟨2, ![16384, 8]⟩
abbrev S1024x256 : Shape := ⟨2, ![1024, 256]⟩
abbrev S256x1024 : Shape := ⟨2, ![256, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S8x1x1024 : Shape := ⟨3, ![8, 1, 1024]⟩
abbrev S8x1024 : Shape := ⟨2, ![8, 1024]⟩
abbrev S8x2048x1024 : Shape := ⟨3, ![8, 2048, 1024]⟩
abbrev S16384x256 : Shape := ⟨2, ![16384, 256]⟩
abbrev S8x65792x128x2 : Shape := ⟨4, ![8, 65792, 128, 2]⟩
abbrev S8x16448x4x128x2 : Shape := ⟨5, ![8, 16448, 4, 128, 2]⟩
abbrev S8x16448x4x2x128 : Shape := ⟨5, ![8, 16448, 4, 2, 128]⟩
abbrev S8x16448x1024 : Shape := ⟨3, ![8, 16448, 1024]⟩
abbrev S8x16384x1024 : Shape := ⟨3, ![8, 16384, 1024]⟩
abbrev S8x16384 : Shape := ⟨2, ![8, 16384]⟩
abbrev S8x16384x1 : Shape := ⟨3, ![8, 16384, 1]⟩
abbrev S1x1024 : Shape := ⟨2, ![1, 1024]⟩

abbrev nBuf : Space → Nat
  | .hbm => 112
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S9x8x1024, .f32⟩
  | .hbm, ⟨2, _⟩ => ⟨S8x65792x128, .i32⟩
  | .hbm, ⟨3, _⟩ => ⟨S16384x8, .f32⟩
  | .hbm, ⟨4, _⟩ => ⟨S1024x256, .f32⟩
  | .hbm, ⟨5, _⟩ => ⟨S1024x256, .f32⟩
  | .hbm, ⟨6, _⟩ => ⟨S256x1024, .f32⟩
  | .hbm, ⟨7, _⟩ => ⟨S1024, .f32⟩
  | .hbm, ⟨8, _⟩ => ⟨S1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x1, .f32⟩
  | .hbm, ⟨30, _⟩ => ⟨S16384x1024, .f32⟩
  | .hbm, ⟨31, _⟩ => ⟨S16384x1024, .f32⟩
  | .hbm, ⟨32, _⟩ => ⟨S8x1x1024, .f32⟩
  | .hbm, ⟨33, _⟩ => ⟨S8x1024, .f32⟩
  | .hbm, ⟨34, _⟩ => ⟨S8x1x1024, .f32⟩
  | .hbm, ⟨35, _⟩ => ⟨S8x2048x1024, .f32⟩
  | .hbm, ⟨36, _⟩ => ⟨S16384x1024, .f32⟩
  | .hbm, ⟨37, _⟩ => ⟨S_, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S8x1x1024, .f32⟩
  | .hbm, ⟨42, _⟩ => ⟨S8x1024, .f32⟩
  | .hbm, ⟨43, _⟩ => ⟨S8x1x1024, .f32⟩
  | .hbm, ⟨44, _⟩ => ⟨S8x2048x1024, .f32⟩
  | .hbm, ⟨45, _⟩ => ⟨S16384x1024, .f32⟩
  | .hbm, ⟨46, _⟩ => ⟨S16384x1024, .f32⟩
  | .hbm, ⟨47, _⟩ => ⟨S16384x256, .f32⟩
  | .hbm, ⟨48, _⟩ => ⟨S16384x256, .f32⟩
  | .hbm, ⟨49, _⟩ => ⟨S16384x256, .f32⟩
  | .hbm, ⟨50, _⟩ => ⟨S_, .f32⟩
  | .hbm, ⟨51, _⟩ => ⟨S16384x256, .f32⟩
  | .hbm, ⟨52, _⟩ => ⟨S16384x256, .f32⟩
  | .hbm, ⟨53, _⟩ => ⟨S_, .f32⟩
  | .hbm, ⟨54, _⟩ => ⟨S16384x256, .f32⟩
  | .hbm, ⟨55, _⟩ => ⟨S16384x256, .f32⟩
  | .hbm, ⟨56, _⟩ => ⟨S16384x256, .f32⟩
  | .hbm, ⟨57, _⟩ => ⟨S16384x256, .f32⟩
  | .hbm, ⟨58, _⟩ => ⟨S16384x256, .f32⟩
  | .hbm, ⟨59, _⟩ => ⟨S16384x1024, .f32⟩
  | .hbm, ⟨60, _⟩ => ⟨S8x65792x128x2, .bf16⟩
  | .hbm, ⟨61, _⟩ => ⟨S8x65792x128x2, .f32⟩
  | .hbm, ⟨62, _⟩ => ⟨S8x16448x4x128x2, .f32⟩
  | .hbm, ⟨63, _⟩ => ⟨S8x16448x4x2x128, .f32⟩
  | .hbm, ⟨64, _⟩ => ⟨S8x16448x1024, .f32⟩
  | .hbm, ⟨65, _⟩ => ⟨S8x16384x1024, .f32⟩
  | .hbm, ⟨66, _⟩ => ⟨S8x16384, .f32⟩
  | .hbm, ⟨67, _⟩ => ⟨S8x16384x1, .f32⟩
  | .hbm, ⟨68, _⟩ => ⟨S8x16384x1024, .f32⟩
  | .hbm, ⟨69, _⟩ => ⟨S8x16384x1024, .f32⟩
  | .hbm, ⟨70, _⟩ => ⟨S_, .f32⟩
  | .hbm, ⟨71, _⟩ => ⟨S16384x1024, .f32⟩
  | .hbm, ⟨72, _⟩ => ⟨S_, .f32⟩
  | .hbm, ⟨73, _⟩ => ⟨S16384x1024, .f32⟩
  | .hbm, ⟨74, _⟩ => ⟨S16384x1024, .f32⟩
  | .hbm, ⟨75, _⟩ => ⟨S8x1x1024, .f32⟩
  | .hbm, ⟨76, _⟩ => ⟨S8x1024, .f32⟩
  | .hbm, ⟨77, _⟩ => ⟨S8x1x1024, .f32⟩
  | .hbm, ⟨78, _⟩ => ⟨S8x2048x1024, .f32⟩
  | .hbm, ⟨79, _⟩ => ⟨S16384x1024, .f32⟩
  | .hbm, ⟨80, _⟩ => ⟨S16384x1024, .f32⟩
  | .hbm, ⟨81, _⟩ => ⟨S16384x1024, .f32⟩
  | .hbm, ⟨82, _⟩ => ⟨S16384x1024, .f32⟩
  | .hbm, ⟨83, _⟩ => ⟨S_, .f32⟩
  | .hbm, ⟨84, _⟩ => ⟨S16384, .f32⟩
  | .hbm, ⟨85, _⟩ => ⟨S16384x1, .f32⟩
  | .hbm, ⟨86, _⟩ => ⟨S_, .f32⟩
  | .hbm, ⟨87, _⟩ => ⟨S16384x1, .f32⟩
  | .hbm, ⟨88, _⟩ => ⟨S16384x1, .f32⟩
  | .hbm, ⟨89, _⟩ => ⟨S16384x1024, .f32⟩
  | .hbm, ⟨90, _⟩ => ⟨S16384x1024, .f32⟩
  | .hbm, ⟨91, _⟩ => ⟨S16384x1024, .f32⟩
  | .hbm, ⟨92, _⟩ => ⟨S_, .f32⟩
  | .hbm, ⟨93, _⟩ => ⟨S16384, .f32⟩
  | .hbm, ⟨94, _⟩ => ⟨S16384x1, .f32⟩
  | .hbm, ⟨95, _⟩ => ⟨S_, .f32⟩
  | .hbm, ⟨96, _⟩ => ⟨S16384x1, .f32⟩
  | .hbm, ⟨97, _⟩ => ⟨S16384x1, .f32⟩
  | .hbm, ⟨98, _⟩ => ⟨S16384x1024, .f32⟩
  | .hbm, ⟨99, _⟩ => ⟨S16384x1024, .f32⟩
  | .hbm, ⟨100, _⟩ => ⟨S_, .f32⟩
  | .hbm, ⟨101, _⟩ => ⟨S16384x1, .f32⟩
  | .hbm, ⟨102, _⟩ => ⟨S16384x1, .f32⟩
  | .hbm, ⟨103, _⟩ => ⟨S16384x1, .f32⟩
  | .hbm, ⟨104, _⟩ => ⟨S16384x1024, .f32⟩
  | .hbm, ⟨105, _⟩ => ⟨S16384x1024, .f32⟩
  | .hbm, ⟨106, _⟩ => ⟨S1x1024, .f32⟩
  | .hbm, ⟨107, _⟩ => ⟨S16384x1024, .f32⟩
  | .hbm, ⟨108, _⟩ => ⟨S16384x1024, .f32⟩
  | .hbm, ⟨109, _⟩ => ⟨S1x1024, .f32⟩
  | .hbm, ⟨110, _⟩ => ⟨S16384x1024, .f32⟩
  | .hbm, ⟨111, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_5 : Ref sig .tc := ⟨.hbm, 70, rfl⟩
abbrev main_v47 : Ref sig .tc := ⟨.hbm, 71, rfl⟩
abbrev main_cst_6 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_7 : Ref sig .tc := ⟨.hbm, 83, rfl⟩
abbrev main_v58 : Ref sig .tc := ⟨.hbm, 84, rfl⟩
abbrev main_v59 : Ref sig .tc := ⟨.hbm, 85, rfl⟩
abbrev main_cst_8 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_9 : Ref sig .tc := ⟨.hbm, 92, rfl⟩
abbrev main_v65 : Ref sig .tc := ⟨.hbm, 93, rfl⟩
abbrev main_v66 : Ref sig .tc := ⟨.hbm, 94, rfl⟩
abbrev main_cst_10 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_11 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩

abbrev nD : Nat := 1
abbrev τ : Topo := Topo.v7x

variable {F : FTy → Type} [FloatOps F]
-- ==== Proof.Softmax.lean ====
/-
  The row of a softmax over the extended reals, for scores that are real numbers.

  A kernel keeps the numerators `2^(s k - M)` and their sum apart, multiplies the numerators into the values and
  divides last; the host divides each numerator first and takes powers of `e`. Both are the weights
  `2^(s k) / ∑ 2^(s j)`: the number `M` subtracted before the power cancels, whichever real number it is.
-/
module

public import Idealize.ShloMosaic.PureOps.Ideal
public import Idealize.ShloMosaic.Lib.Pointwise

@[expose] public section

noncomputable section

open Idealize.ShloMosaic

namespace Attn

variable {n : ℕ}

/-- A finite sum of reals, read in the extended reals. -/
theorem sum_real {ι : Type*} [Fintype ι] (f : ι → ℝ) : ∑ k, (f k : EReal) = ((∑ k, f k : ℝ) : EReal) := by
  classical
  induction (Finset.univ : Finset ι) using Finset.induction_on with
  | empty => simp
  | insert a t ha ih => rw [Finset.sum_insert ha, Finset.sum_insert ha, ih, EReal.coe_add]

/-- The weight of position `k` in the softmax in base two of a row of scores. -/
def wt (s : Fin n → ℝ) (k : Fin n) : ℝ := (2 : ℝ) ^ s k / ∑ j, (2 : ℝ) ^ s j

/-- The sum of the powers of a nonempty row is positive. -/
theorem total_pos [NeZero n] (s : Fin n → ℝ) : 0 < ∑ j, (2 : ℝ) ^ s j :=
  Finset.sum_pos (fun _ _ => Real.rpow_pos_of_pos two_pos _) ⟨0, Finset.mem_univ _⟩

/-- Subtracting one number from every score of a row divides every power by the same number. -/
theorem pow_shift (s : Fin n → ℝ) (M : ℝ) (k : Fin n) : (2 : ℝ) ^ (s k - M) = (2 : ℝ) ^ s k / (2 : ℝ) ^ M :=
  Real.rpow_sub two_pos _ _

/-- So the weights of a shifted row are the weights of the row. -/
theorem wt_shift (s : Fin n → ℝ) (M : ℝ) : wt (fun k => s k - M) = wt s := by
  have hM : ((2 : ℝ) ^ M) ≠ 0 := (Real.rpow_pos_of_pos two_pos M).ne'
  funext k
  unfold wt
  simp only [pow_shift, ← Finset.sum_div]
  field_simp

/-- The largest of a nonempty row of reals, found from `-∞` up, is a real. -/
theorem max_real (g : EReal → EReal → EReal) [Std.Commutative g] [Std.Associative g] (hg : ∀ x y, g x y = max x y)
    [NeZero n] (s : Fin n → ℝ) : ∃ M : ℝ, Finset.univ.fold g ⊥ (fun k => (s k : EReal)) = M := by
  classical
  have key : ∀ t : Finset (Fin n), t.fold g ⊥ (fun k => (s k : EReal)) = ⊥ ∧ t = ∅
      ∨ ∃ M : ℝ, t.fold g ⊥ (fun k => (s k : EReal)) = M := by
    intro t
    induction t using Finset.induction_on with
    | empty => exact .inl ⟨by simp, rfl⟩
    | insert a t ha ih =>
      refine .inr ?_
      rw [Finset.fold_insert ha, hg]
      rcases ih with ⟨h, -⟩ | ⟨M, h⟩
      · exact ⟨s a, by rw [h]; simp⟩
      · exact ⟨max (s a) M, by rw [h]; exact (EReal.coe_strictMono.monotone.map_max).symm⟩
  rcases key Finset.univ with ⟨-, h⟩ | h
  · exact absurd h (Finset.univ_nonempty (α := Fin n)).ne_empty
  · exact h

/-- Dividing last: the sum of the numerators times the values, times the quotient of `c` by the numerators' sum. -/
theorem divide_last [NeZero n] (s v : Fin n → ℝ) (M c : ℝ) :
    (∑ k, Ideal.exp2 ((s k : EReal) - M) * (v k : EReal)) * Ideal.div c (∑ k, Ideal.exp2 ((s k : EReal) - M))
      = ((c * ∑ k, wt s k * v k : ℝ) : EReal) := by
  have hM : ((2 : ℝ) ^ M) ≠ 0 := (Real.rpow_pos_of_pos two_pos M).ne'
  have hpos := (total_pos (fun k => s k - M)).ne'
  simp only [← EReal.coe_sub, Ideal.exp2_coe, Real.rpow_eq_pow, ← EReal.coe_mul, sum_real]
  rw [Ideal.div_coe hpos, ← EReal.coe_mul, ← EReal.coe_mul, ← wt_shift s M]
  congr 1
  unfold wt
  simp only [div_mul_eq_mul_div, ← Finset.sum_div]
  field_simp

/-- Dividing first, with powers of `e`: the weight of the softmax in base two. -/
theorem divide_first [NeZero n] (s : Fin n → ℝ) (M : ℝ) (k : Fin n) :
    Ideal.div (Ideal.exp ((s k : EReal) * ((Real.log 2 : ℝ) : EReal) - M))
        (∑ j, Ideal.exp ((s j : EReal) * ((Real.log 2 : ℝ) : EReal) - M))
      = ((wt s k : ℝ) : EReal) := by
  have hl : Real.log 2 ≠ 0 := (Real.log_pos one_lt_two).ne'
  have e : ∀ j, Real.exp (s j * Real.log 2 - M) = (2 : ℝ) ^ (s j - M / Real.log 2) := by
    intro j
    rw [Real.rpow_def_of_pos two_pos]
    congr 1
    field_simp
  have hpos := (total_pos (fun k => s k - M / Real.log 2)).ne'
  simp only [← EReal.coe_mul, ← EReal.coe_sub, Ideal.exp_coe, sum_real, e]
  rw [Ideal.div_coe hpos, ← EReal.coe_mul, ← wt_shift s (M / Real.log 2)]
  congr 1
  unfold wt
  field_simp

/-- The pattern a maximum starts from is `-∞`. -/
theorem ofBits_top : Ideal.ofBits .f32 0x7F800000#32 = (⊤ : EReal) := by
  simp [Ideal.ofBits, Ideal.ieee]

/-- An element whose absolute value is below infinity is a real number. -/
theorem finite_real (x : EReal) (h : BitVec.ofBool (decide (max x (-x) < Ideal.ofBits .f32 0x7F800000#32)) = 1#1) :
    x = ((x.toReal : ℝ) : EReal) := by
  rw [ofBits_top] at h
  have hlt : max x (-x) < ⊤ := by
    by_contra hn
    simp [hn] at h
  rw [max_lt_iff] at hlt
  refine (EReal.coe_toReal hlt.1.ne fun hb => ?_).symm
  rw [hb] at hlt
  simp at hlt

theorem ofBits_bot : Ideal.ofBits .f32 0xFF800000#32 = (⊥ : EReal) := by
  simp [Ideal.ofBits, Ideal.ieee]

/-- A row of the kernels' attention as they compute it: the numerators relative to the row's maximum. -/
theorem kernel_row [NeZero n] (s v : Fin n → ℝ) (c : ℝ) :
    (∑ k, FloatOps.exp2 (F := Ideal) (φ := .f32) ((s k : EReal)
        - Finset.univ.fold max (Ideal.ofBits .f32 0xFF800000#32) fun j => (s j : EReal)) * (v k : EReal))
      * Ideal.div c (∑ k, FloatOps.exp2 (F := Ideal) (φ := .f32) ((s k : EReal)
        - Finset.univ.fold max (Ideal.ofBits .f32 0xFF800000#32) fun j => (s j : EReal)))
      = ((c * ∑ k, wt s k * v k : ℝ) : EReal) := by
  obtain ⟨M, hM⟩ := max_real max (fun _ _ => rfl) s
  rw [ofBits_bot, hM]
  exact divide_last s v M c

/-- The lower lane half of a sum over 128 lanes, chosen by comparing the lane's number with 64. -/
theorem sum_low (f : Fin 128 → EReal) :
    ∑ x : Fin 128, Scalar.select (IntOp.cmpi .slt (BitVec.ofNat 32 x) 64#32) (f x) 0
      = ∑ d : Fin 64, f ⟨d, by omega⟩ := by
  have h : ∀ x : Fin 128, IntOp.cmpi .slt (BitVec.ofNat 32 x) 64#32 = if x.val < 64 then 1#1 else 0#1 := by decide
  simp only [h]
  refine (Fin.sum_univ_add (a := 64) (b := 64) _).trans ?_
  simp [Scalar.select, Fin.natAdd, Fin.castAdd, Fin.castLE]

/-- The upper lane half. -/
theorem sum_high (f : Fin 128 → EReal) :
    ∑ x : Fin 128, Scalar.select (IntOp.cmpi .slt (BitVec.ofNat 32 x) 64#32) 0 (f x)
      = ∑ d : Fin 64, f ⟨64 + d, by omega⟩ := by
  have h : ∀ x : Fin 128, IntOp.cmpi .slt (BitVec.ofNat 32 x) 64#32 = if x.val < 64 then 1#1 else 0#1 := by decide
  simp only [h]
  refine (Fin.sum_univ_add (a := 64) (b := 64) _).trans ?_
  simp [Scalar.select, Fin.natAdd, Fin.castAdd, Fin.castLE]

/-- The upper lane half again, chosen by the negated comparison. -/
theorem sum_high_not (f : Fin 128 → EReal) :
    ∑ x : Fin 128, Scalar.select (IntOp.xori (IntOp.cmpi .slt (BitVec.ofNat 32 x) 64#32) 1#1) (f x) 0
      = ∑ d : Fin 64, f ⟨64 + d, by omega⟩ := by
  rw [← sum_high]
  have h : ∀ x : Fin 128, IntOp.cmpi .slt (BitVec.ofNat 32 x) 64#32 = if x.val < 64 then 1#1 else 0#1 := by decide
  refine Finset.sum_congr rfl fun x _ => ?_
  rw [h x]
  split <;> rfl

/-- The scores of a query row against the keys, over the lower 64 of a head's 128 lanes. -/
def lower (Q : Fin 128 → ℝ) (K : Fin 128 → Fin 2304 → ℝ) (k : Fin 2304) : ℝ :=
  ∑ d : Fin 64, Q ⟨d, by omega⟩ * K ⟨d, by omega⟩ k

/-- The scores over the upper 64 lanes. -/
def upper (Q : Fin 128 → ℝ) (K : Fin 128 → Fin 2304 → ℝ) (k : Fin 2304) : ℝ :=
  ∑ d : Fin 64, Q ⟨64 + d, by omega⟩ * K ⟨64 + d, by omega⟩ k

end Attn

end
-- ==== Proof.DiffHead.lean ====
/-
  One head of the differential attention kernel at one query row and one lane, over the extended reals: the two
  softmaxes of the row's two lane halves, their weighted difference of value rows, the row's RMS norm.
-/
module

public import proofs.«01_k».proof.Proof.Softmax
public import proofs.«01_k».proof.Proof.Gen.DiffIdeal.Skeleton
public import Idealize.ShloMosaic.Lib.Pointwise
public import Idealize.ShloMosaic.Lib.Pipeline.ValueKit

@[expose] public section

set_option maxRecDepth 16384

noncomputable section

open Idealize.ShloMosaic

namespace Attn

/-- The difference of the two softmaxes' value rows, the second one weighted by `lam`. -/
def diffRow (lam : ℝ) (Q : Fin 128 → ℝ) (K : Fin 128 → Fin 2304 → ℝ) (V : Fin 2304 → Fin 128 → ℝ) (e : Fin 128) : ℝ :=
  1 * ∑ k, wt (lower Q K) k * V k e - lam * ∑ k, wt (upper Q K) k * V k e

/-- The RMS norm of a row of 128 lanes, scaled by the gain of the lane and by the layer's factor. -/
def normed (o : Fin 128 → ℝ) (g : EReal) (e : Fin 128) : EReal :=
  (o e : EReal) * Ideal.rsqrt (Ideal.div (∑ x, (o x : EReal) * (o x : EReal)) (Ideal.ofBits .f32 0x43000000#32)
    + Ideal.ofBits .f32 0x358637BD#32) * g * Ideal.ofBits .f32 0x3F4CCCCD#32

end Attn

namespace Cert.DiffIdeal.Head

open Cert.DiffIdeal Cert.DiffIdeal.Gen Attn

/-- One head's tile of the result, as the kernel computes it for its second head. -/
def tile (lam : Elt Ideal .f32) (q : FVec Ideal S512x128 .bf16) (kk : FVec Ideal S128x2304 .bf16)
    (vv : FVec Ideal S2304x128 .bf16) (g : Vec Ideal S1x128 .f32) : FVec Ideal S1x512x128 .bf16 :=
  k0_pay16 (k0_pay14 k0_pay3 lam q kk vv) (k0_pay15 k0_pay3 lam q kk vv) g

/-- The difference of the two maps' value rows at one query row and lane. -/
theorem pay14_apply (lam : ℝ) (q : FVec Ideal S512x128 .bf16) (kk : FVec Ideal S128x2304 .bf16)
    (vv : FVec Ideal S2304x128 .bf16) (Q : Fin 512 → Fin 128 → ℝ) (K : Fin 128 → Fin 2304 → ℝ)
    (V : Fin 2304 → Fin 128 → ℝ) (hq : ∀ i d, q (ix2 i d) = (Q i d : EReal)) (hk : ∀ d k, kk (ix2 d k) = (K d k : EReal))
    (hv : ∀ k e, vv (ix2 k e) = (V k e : EReal)) (i : Fin 512) (e : Fin 128) :
    k0_pay14 (F := Ideal) k0_pay3 (lam : EReal) q kk vv (ix2 i e) = (diffRow lam (Q i) K V e : EReal) := by
  pointwise [k0_pay14, k0_pay3]
  simp only [sum_low, sum_high, hq, hk, hv, ← EReal.coe_mul, sum_real]
  have h1 := kernel_row (lower (Q i) K) (fun k => V k e) 1
  have h2 := kernel_row (upper (Q i) K) (fun k => V k e) lam
  unfold lower at h1
  unfold upper at h2
  rw [EReal.coe_one] at h1
  rw [h1, h2, ← EReal.coe_sub]
  rfl

/-- One head's tile at one query row and lane. -/
theorem tile_apply (lam : ℝ) (q : FVec Ideal S512x128 .bf16) (kk : FVec Ideal S128x2304 .bf16)
    (vv : FVec Ideal S2304x128 .bf16) (g : Vec Ideal S1x128 .f32) (Q : Fin 512 → Fin 128 → ℝ)
    (K : Fin 128 → Fin 2304 → ℝ) (V : Fin 2304 → Fin 128 → ℝ) (hq : ∀ i d, q (ix2 i d) = (Q i d : EReal))
    (hk : ∀ d k, kk (ix2 d k) = (K d k : EReal)) (hv : ∀ k e, vv (ix2 k e) = (V k e : EReal)) (z : Fin 1) (i : Fin 512)
    (e : Fin 128) :
    tile (lam : EReal) q kk vv g (ix3 z i e) = normed (diffRow lam (Q i) K V) (g (ix2 0 e)) e := by
  pointwise [tile, k0_pay16, k0_pay15]
  simp only [pay14_apply lam q kk vv Q K V hq hk hv]
  rfl

end Cert.DiffIdeal.Head

end
-- ==== Proof.DiffBlock.lean ====
/-
  What the differential attention kernel leaves in a block of its result, from the blocks of its operands: 512 query
  rows by four heads of 128 lanes, every head one tile.
-/
module

public import proofs.«01_k».proof.Proof.DiffHead
public import proofs.«01_k».proof.Proof.Gen.DiffIdeal.Value

@[expose] public section

set_option maxRecDepth 16384

noncomputable section

open Idealize.ShloMosaic

namespace Attn

/-- Lane `d` of head `h` among the 512 columns of four heads. -/
def col (h : Fin 4) (d : Fin 128) : Fin 512 := ⟨128 * h + d, by omega⟩

/-- The head and the lane of a column, in either direction. -/
theorem col_eq (h : Fin 4) (d : Fin 128) (j : Fin 512) (e : j.val = 128 * h.val + d.val) : col h d = j :=
  Fin.ext e.symm

/-- Head `h` of the differential attention of one query row, at lane `e`, from the row, the keys and the values. -/
def diffOut (lam : ℝ) (Q : Fin 512 → ℝ) (K : Fin 512 → Fin 2304 → ℝ) (V : Fin 2304 → Fin 512 → ℝ) (g : Fin 128 → EReal)
    (h : Fin 4) (e : Fin 128) : EReal :=
  normed (diffRow lam (fun d => Q (col h d)) (fun d k => K (col h d) k) fun k d => V k (col h d)) (g e) e

end Attn

namespace Cert.DiffIdeal.Head

open Cert.DiffIdeal Cert.DiffIdeal.Gen Attn

/-- The two query blocks are the halves of one block of 512 rows, and a head's queries 128 of its columns. -/
theorem query_apply (x1 x2 : Vec Ideal S1x256x512 .bf16) (Q : Fin 512 → Fin 512 → ℝ)
    (h1 : ∀ (r : Fin 256) (j : Fin 512), x1 (ix3 0 r j) = (Q ⟨r, by omega⟩ j : EReal))
    (h2 : ∀ (r : Fin 256) (j : Fin 512), x2 (ix3 0 r j) = (Q ⟨256 + r, by omega⟩ j : EReal)) (h : Fin 4) (o : Fin 2 → ℕ)
    (ho : o = ![0, 128 * h.val]) (hs : S512x512.Slices o S512x128) (i : Fin 512) (d : Fin 128) :
    extractStridedSlice S512x128 o (k0_pay2 (F := Ideal) x1 x2) hs (ix2 i d) = (Q i (col h d) : EReal) := by
  subst ho
  pointwise [k0_pay2]
  split
  · exact h1 ⟨i, by assumption⟩ _
  · refine (h2 ⟨i - 256, by omega⟩ _).trans ?_
    rw [show (⟨256 + (i.val - 256), by omega⟩ : Fin 512) = i from Fin.ext (by simp only []; omega)]
    rfl

/-- A head's keys are 128 rows of the block of transposed keys. -/
theorem keys_apply (x3 : Vec Ideal S1x512x2304 .bf16) (K : Fin 512 → Fin 2304 → ℝ)
    (hk : ∀ j k, x3 (ix3 0 j k) = (K j k : EReal)) (h : Fin 4) (o : Fin 3 → ℕ) (ho : o = ![0, 128 * h.val, 0])
    (hs : ∀ a, o a + ![1, 128, 2304] a ≤ S1x512x2304.size a) (d : Fin 128) (k : Fin 2304) :
    k0_pay12 (F := Ideal) (View.ld x3 (Rect.unit (s := S1x512x2304) o ![1, 128, 2304] hs)) (ix2 d k)
      = (K (col h d) k : EReal) := by
  subst ho
  pointwise [k0_pay12]
  exact hk _ _

/-- A head's values are 128 columns of the block of values. -/
theorem values_apply (x4 : Vec Ideal S1x2304x512 .bf16) (V : Fin 2304 → Fin 512 → ℝ)
    (hv : ∀ k j, x4 (ix3 0 k j) = (V k j : EReal)) (h : Fin 4) (o : Fin 3 → ℕ) (ho : o = ![0, 0, 128 * h.val])
    (hs : ∀ a, o a + ![1, 2304, 128] a ≤ S1x2304x512.size a) (k : Fin 2304) (d : Fin 128) :
    k0_pay13 (F := Ideal) (View.ld x4 (Rect.unit (s := S1x2304x512) o ![1, 2304, 128] hs)) (ix2 k d)
      = (V k (col h d) : EReal) := by
  subst ho
  pointwise [k0_pay13]
  exact hv _ _

/-- The scalar the kernel loads. -/
theorem scalar_apply (x0 : Vec Ideal S1x1 .f32) (lam : ℝ) (h0 : x0 (ix2 0 0) = (lam : EReal))
    (hs : ∀ a, ![0, 0] a + ![1, 1] a ≤ S1x1.size a) (hn) :
    View.ld x0 (Rect.unit (s := S1x1) ![0, 0] ![1, 1] hs) (Shape.Idx.first hn) = (lam : EReal) := by
  rw [← h0]
  refine congrArg x0 (funext fun a => ?_)
  match a with
  | 0 => exact Subsingleton.elim (α := Fin 1) _ _
  | 1 => exact Subsingleton.elim (α := Fin 1) _ _

/-- One head's tile, from the blocks of the operands. -/
theorem tile_block (x0 : Vec Ideal S1x1 .f32) (x1 x2 : Vec Ideal S1x256x512 .bf16) (x3 : Vec Ideal S1x512x2304 .bf16)
    (x4 : Vec Ideal S1x2304x512 .bf16) (x5 : Vec Ideal S1x128 .f32)
    (lam : ℝ) (Q : Fin 512 → Fin 512 → ℝ) (K : Fin 512 → Fin 2304 → ℝ) (V : Fin 2304 → Fin 512 → ℝ)
    (h0 : x0 (ix2 0 0) = (lam : EReal))
    (h1 : ∀ (r : Fin 256) (j : Fin 512), x1 (ix3 0 r j) = (Q ⟨r, by omega⟩ j : EReal))
    (h2 : ∀ (r : Fin 256) (j : Fin 512), x2 (ix3 0 r j) = (Q ⟨256 + r, by omega⟩ j : EReal))
    (hk : ∀ j k, x3 (ix3 0 j k) = (K j k : EReal)) (hv : ∀ k j, x4 (ix3 0 k j) = (V k j : EReal)) (h : Fin 4)
    (o : Fin 2 → ℕ) (ho : o = ![0, 128 * h.val]) (hs : S512x512.Slices o S512x128)
    (ok : Fin 3 → ℕ) (hok : ok = ![0, 128 * h.val, 0]) (hks : ∀ a, ok a + ![1, 128, 2304] a ≤ S1x512x2304.size a)
    (ov : Fin 3 → ℕ) (hov : ov = ![0, 0, 128 * h.val]) (hvs : ∀ a, ov a + ![1, 2304, 128] a ≤ S1x2304x512.size a)
    (hss : ∀ a, ![0, 0] a + ![1, 1] a ≤ S1x1.size a) (hn) (x : S1x512x128.Idx) :
    tile (View.ld x0 (Rect.unit (s := S1x1) ![0, 0] ![1, 1] hss) (Shape.Idx.first hn))
        (extractStridedSlice S512x128 o (k0_pay2 (F := Ideal) x1 x2) hs)
        (k0_pay12 (F := Ideal) (View.ld x3 (Rect.unit (s := S1x512x2304) ok ![1, 128, 2304] hks)))
        (k0_pay13 (F := Ideal) (View.ld x4 (Rect.unit (s := S1x2304x512) ov ![1, 2304, 128] hvs))) x5 x
      = diffOut lam (Q (x 1)) K V (fun d => x5 (ix2 0 d)) h (x 2) := by
  rw [scalar_apply x0 lam h0]
  have hx : x = ix3 (x 0) (x 1) (x 2) := by
    funext a; match a with | 0 => rfl | 1 => rfl | 2 => rfl
  rw [hx]
  exact tile_apply lam _ _ _ x5 (fun i d => Q i (col h d)) (fun d k => K (col h d) k) (fun k d => V k (col h d))
    (fun i d => query_apply x1 x2 Q h1 h2 h o ho hs i d) (fun d k => keys_apply x3 K hk h ok hok hks d k)
    (fun k d => values_apply x4 V hv h ov hov hvs k d) _ _ _

/-- The block of the result, at row `i` and lane `e` of head `h`. -/
theorem block_apply (c : Dev nD) (i : grid0.Coords) (arg2 : Memref sig .tc .smem S1x1 .f32) (harg2 : arg2.IsWhole)
    (arg3 : Memref sig .tc .vmem S1x256x512 .bf16) (harg3 : arg3.IsWhole)
    (arg4 : Memref sig .tc .vmem S1x256x512 .bf16) (harg4 : arg4.IsWhole)
    (arg5 : Memref sig .tc .vmem S1x512x2304 .bf16) (harg5 : arg5.IsWhole)
    (arg6 : Memref sig .tc .vmem S1x2304x512 .bf16) (harg6 : arg6.IsWhole)
    (arg7 : Memref sig .tc .vmem S1x128 .f32) (harg7 : arg7.IsWhole)
    (arg8 : Memref sig .tc .vmem S1x512x512 .bf16) (harg8 : arg8.IsWhole)
    (x0 : Vec Ideal S1x1 .f32) (x1 x2 : Vec Ideal S1x256x512 .bf16) (x3 : Vec Ideal S1x512x2304 .bf16)
    (x4 : Vec Ideal S1x2304x512 .bf16) (x5 : Vec Ideal S1x128 .f32)
    (lam : ℝ) (Q : Fin 512 → Fin 512 → ℝ) (K : Fin 512 → Fin 2304 → ℝ) (V : Fin 2304 → Fin 512 → ℝ)
    (h0 : x0 (ix2 0 0) = (lam : EReal))
    (h1 : ∀ (r : Fin 256) (j : Fin 512), x1 (ix3 0 r j) = (Q ⟨r, by omega⟩ j : EReal))
    (h2 : ∀ (r : Fin 256) (j : Fin 512), x2 (ix3 0 r j) = (Q ⟨256 + r, by omega⟩ j : EReal))
    (hk : ∀ j k, x3 (ix3 0 j k) = (K j k : EReal)) (hv : ∀ k j, x4 (ix3 0 k j) = (V k j : EReal))
    (y : S1x512x512.Idx) (h : Fin 4) (e : Fin 128) (hy : (y 2).val = 128 * h.val + e.val) :
    out0_A_6 c i arg2 harg2 arg3 harg3 arg4 harg4 arg5 harg5 arg6 harg6 arg7 harg7 arg8 harg8 x0 x1 x2 x3 x4 x5 y
      = diffOut lam (Q (y 1)) K V (fun d => x5 (ix2 0 d)) h e := by
  unfold out0_A_6
  rw [View.read_writes_eq_canon _ _ _ (fun y => cover0_A_6 _ _ _ _ _ _ _ _ _ _ _ _ _ _ _ _ _ _ _ _ _ _ y)]
  unfold kernelRun0_A
  dsimp only
  sl_unfold_words
  simp only [View.readAt_eq_ld, harg2.read_unread, harg3.read_unread, harg4.read_unread, harg5.read_unread,
    harg6.read_unread, harg7.read_unread]
  have g1 (hb) (r : Fin 256) (j : Fin 512) :
      View.ld x1 (Rect.unit (s := S1x256x512) ![0, 0, 0] ![1, 256, 512] hb) (ix3 0 r j) = (Q ⟨r, by omega⟩ j : EReal) := by
    pointwise
    exact h1 r j
  have g2 (hb) (r : Fin 256) (j : Fin 512) :
      View.ld x2 (Rect.unit (s := S1x256x512) ![0, 0, 0] ![1, 256, 512] hb) (ix3 0 r j)
        = (Q ⟨256 + r, by omega⟩ j : EReal) := by
    pointwise
    exact h2 r j
  have g5 (hb) : (fun d => View.ld x5 (Rect.unit (s := S1x128) ![0, 0] ![1, 128] hb) (ix2 0 d))
      = fun d => x5 (ix2 0 d) := by
    funext d
    pointwise
  have last (h' : Fin 4) (x : S1x512x128.Idx) (w1 : (y 1).val = (x 1).val) (w2 : (y 2).val = 128 * h'.val + (x 2).val) :
      diffOut lam (Q (x 1)) K V (fun d => x5 (ix2 0 d)) h' (x 2) = diffOut lam (Q (y 1)) K V (fun d => x5 (ix2 0 d)) h e := by
    have l2 : (x 2).val < 128 := (x 2).isLt
    have hh : h' = h := Fin.ext (by omega)
    subst hh
    rw [show e = x 2 from Fin.ext (by omega), show y 1 = x 1 from Fin.ext w1]
  canon_tiles x w
  · refine (tile_block x0 _ _ x3 x4 _ lam Q K V h0 (g1 _) (g2 _) hk hv 3 ![0, 384] rfl (by decide) ![0, 384, 0] rfl
      (by decide) ![0, 0, 384] rfl (by decide) _ _ x).trans ?_
    rw [g5]
    exact last 3 x w1 w2
  · refine (tile_block x0 _ _ x3 x4 _ lam Q K V h0 (g1 _) (g2 _) hk hv 2 ![0, 256] rfl (by decide) ![0, 256, 0] rfl
      (by decide) ![0, 0, 256] rfl (by decide) _ _ x).trans ?_
    rw [g5]
    exact last 2 x w1 w2
  · refine (tile_block x0 _ _ x3 x4 _ lam Q K V h0 (g1 _) (g2 _) hk hv 1 ![0, 128] rfl (by decide) ![0, 128, 0] rfl
      (by decide) ![0, 0, 128] rfl (by decide) _ _ x).trans ?_
    rw [g5]
    exact last 1 x w1 w2
  · refine (tile_block x0 _ _ x3 x4 _ lam Q K V h0 (g1 _) (g2 _) hk hv 0 ![0, 0] rfl (by decide) ![0, 0, 0] rfl
      (by decide) ![0, 0, 0] rfl (by decide) _ _ x).trans ?_
    rw [g5]
    exact last 0 x w1 (by omega)

end Cert.DiffIdeal.Head

end
-- ==== Proof.DiffArray.lean ====
/-
  The whole result of the differential attention kernel, from the arguments: the grid's blocks tile the array, and each
  holds what the block's own point wrote.
-/
module

public import proofs.«01_k».proof.Proof.DiffBlock

@[expose] public section

set_option maxRecDepth 16384

noncomputable section

open Idealize.ShloMosaic Idealize.ShloMosaic.TcCoe Idealize.SL.Sem

namespace Attn

/-- The scalar that weighs the second softmax, from the four vectors it is computed of. -/
def scalarOf (a b c d : Vec Ideal ⟨1, ![64]⟩ .f32) : EReal :=
  Ideal.exp (∑ k : Fin 64, a (ix1 k) * b (ix1 k)) - Ideal.exp (∑ k : Fin 64, c (ix1 k) * d (ix1 k))
    + Ideal.ofBits .f32 0x3E4CCCCD#32

/-- The differential attention of all heads, over real queries, keys and values. -/
def diffArray (lam : ℝ) (Q : Fin 8 → Fin 2304 → Fin 512 → ℝ) (K : Fin 8 → Fin 512 → Fin 2304 → ℝ)
    (V : Fin 8 → Fin 2304 → Fin 512 → ℝ) (g : Fin 128 → EReal) (b : Fin 8) (r : Fin 2048) (h : Fin 4) (e : Fin 128) : EReal :=
  diffOut lam (Q b ⟨256 + r, by omega⟩) (K b) (V b) g h e

end Attn

namespace Cert.DiffIdeal.Head

open Cert.DiffIdeal Cert.DiffIdeal.Gen Attn

/-- Which block of its operand each window holds at a grid point. -/
theorem index_maps : ∀ t : Fin cfg0.N,
    win0_0.index t = ![0, 0] ∧ win0_1.index t = ![(grid0.coords t 0).val, 2 * (grid0.coords t 1).val + 1, 0]
      ∧ win0_2.index t = ![(grid0.coords t 0).val, 2 * (grid0.coords t 1).val + 2, 0]
      ∧ win0_3.index t = ![(grid0.coords t 0).val, 0, 0] ∧ win0_4.index t = ![(grid0.coords t 0).val, 0, 0]
      ∧ win0_5.index t = ![0, 0] ∧ win0_6.index t = ![(grid0.coords t 0).val, (grid0.coords t 1).val, 0] := by
  decide +kernel

variable (m : (ℓ : Loc nD τ sig) → Buf (Elt Ideal) ℓ) (c : Dev nD)

/-- The scalar as the kernel is given it. -/
theorem entry_scalar : V m c main_v8 (ix2 0 0) = scalarOf (m ((c : Thread nD τ).loc main_arg0))
    (m ((c : Thread nD τ).loc main_arg1)) (m ((c : Thread nD τ).loc main_arg2)) (m ((c : Thread nD τ).loc main_arg3)) := by
  entry_read
  pointwise
  rfl

/-- The norm's weights as the kernel is given them. -/
theorem entry_weights (d : Fin 128) : V m c main_v9 (ix2 0 d) = m ((c : Thread nD τ).loc main_arg7) (ix1 d) := by
  entry_read
  pointwise

/-- The array the kernel leaves. -/
theorem array (lam : ℝ) (Q : Fin 8 → Fin 2304 → Fin 512 → ℝ) (K : Fin 8 → Fin 512 → Fin 2304 → ℝ)
    (W : Fin 8 → Fin 2304 → Fin 512 → ℝ)
    (h0 : scalarOf (m ((c : Thread nD τ).loc main_arg0)) (m ((c : Thread nD τ).loc main_arg1))
      (m ((c : Thread nD τ).loc main_arg2)) (m ((c : Thread nD τ).loc main_arg3)) = (lam : EReal))
    (hq : ∀ b r j, m ((c : Thread nD τ).loc main_arg4) (ix3 b r j) = (Q b r j : EReal))
    (hk : ∀ b r j, m ((c : Thread nD τ).loc main_arg5) (ix3 b r j) = (K b r j : EReal))
    (hv : ∀ b r j, m ((c : Thread nD τ).loc main_arg6) (ix3 b r j) = (W b r j : EReal)) :
    (dats m 0 c).arrAt 6 cfg0.N = fun x : S8x2048x512.Idx =>
      diffArray lam Q K W (fun d => m ((c : Thread nD τ).loc main_arg7) (ix1 d)) (x 0) (x 1)
        ⟨(x 2).val / 128, by have : (x 2).val < 512 := (x 2).isLt; omega⟩ ⟨(x 2).val % 128, by omega⟩ := by
  refine (dats m 0 c).arrAt_eq_of_covers 6 _ (by decide +kernel) fun t hf y => ?_
  blk_simp
  rw [after0_6]
  simp only [outsAt0]
  obtain ⟨e0, e1, e2, e3, e4, e5, e6⟩ := index_maps t
  have hb : (grid0.coords t 0).val < 8 := (grid0.coords t 0).isLt
  have hj : (grid0.coords t 1).val < 4 := (grid0.coords t 1).isLt
  have y2 : (y 2).val < 512 := (y 2).isLt
  have y1 : (y 1).val < 512 := (y 1).isLt
  refine (block_apply c (grid0.coords t) _ _ _ _ _ _ _ _ _ _ _ _ _ _ _ _ _ _ _ _ lam
    (fun r j => Q ⟨(grid0.coords t 0).val, hb⟩ ⟨256 + 512 * (grid0.coords t 1).val + r, by omega⟩ j)
    (K ⟨(grid0.coords t 0).val, hb⟩) (W ⟨(grid0.coords t 0).val, hb⟩) ?_ ?_ ?_ ?_ ?_ y
    ⟨(y 2).val / 128, by omega⟩ ⟨(y 2).val % 128, by omega⟩ (by simp only []; omega)).trans ?_
  · rw [← h0, ← entry_scalar m c]
    blk_ext [iblk, e0]
  · intro r j
    rw [← hq]
    blk_ext [iblk, V, e1]
  · intro r j
    rw [← hq]
    blk_ext [iblk, V, e2]
  · intro r j
    rw [← hk]
    blk_ext [iblk, V, e3]
  · intro r j
    rw [← hv]
    blk_ext [iblk, V, e4]
  · have hg (d : Fin 128) : iblk m c 5 t (ix2 0 d) = m ((c : Thread nD τ).loc main_arg7) (ix1 d) := by
      rw [← entry_weights m c]
      blk_ext [iblk, e5]
    have a0 : ((View.whole main_v10).slice (win0_6.rect t)).emb y 0 = (⟨(grid0.coords t 0).val, hb⟩ : Fin 8) :=
      Fin.ext (by blk_simp [e6])
    have a1 : ((View.whole main_v10).slice (win0_6.rect t)).emb y 1
        = (⟨512 * (grid0.coords t 1).val + (y 1).val, by omega⟩ : Fin 2048) :=
      Fin.ext (by
        blk_simp [e6]
        show (grid0.coords t 1).val * 512 + (y 1).val = 512 * (grid0.coords t 1).val + (y 1).val
        omega)
    have a2 : win0_6.index t 2 = 0 := by rw [e6]; rfl
    rw [show (fun d => iblk m c 5 t (ix2 0 d)) = _ from funext hg, a0, a1]
    simp only [diffArray, a2, Nat.zero_mul, Nat.zero_add, Nat.add_assoc]

end Cert.DiffIdeal.Head

end
-- ==== Proof.SoftRows.lean ====
/-
  The softmax of the rows of a host array of scores, at an index: for real scores its entries are the weights of the
  softmax in base two of the scores before they are multiplied by the logarithm of two. The number of heads is free.
-/
module

public import proofs.«01_k».proof.Proof.Softmax
public import Idealize.ShloMosaic.Lib.Pipeline.ValueKit

@[expose] public section

set_option maxRecDepth 16384

noncomputable section

open Idealize.ShloMosaic

namespace Attn

/-- The logarithm the reference takes of the constant two. -/
theorem log_two : Ideal.log (Ideal.ofBits .f32 0x40000000#32) = ((Real.log 2 : ℝ) : EReal) := by
  have : Ideal.ofBits .f32 0x40000000#32 = ((2 : ℝ) : EReal) := by
    simp [Ideal.ofBits, Ideal.ieee]
    rw [← EReal.coe_mul]
    norm_num
  rw [this]
  exact if_neg (by norm_num)

/-- The larger of two arrays, at an index. -/
theorem larger_apply {S : Shape} (a b : FVec Ideal S .f32) (i : S.Idx) : maximumf a b i = max (a i) (b i) := rfl

/-- The exponential of a difference, at an index. -/
theorem exp_sub_apply {S : Shape} (a b : FVec Ideal S .f32) (i : S.Idx) :
    Host.exp (subf a b) i = Ideal.exp (a i - b i) := rfl

/-- A quotient, at an index. -/
theorem quotient_apply {S : Shape} (a b : FVec Ideal S .f32) (i : S.Idx) : Host.divf a b i = Ideal.div (a i) (b i) := rfl

namespace Rows

/-- The scores of `H` heads: 8 batches, 2048 query rows, 2304 keys. -/
abbrev Scores (H : ℕ) : Shape := ⟨4, ![8, H, 2048, 2304]⟩

/-- One number for every row of scores. -/
abbrev PerRow (H : ℕ) : Shape := ⟨3, ![8, H, 2048]⟩

/-- The same with a last axis of one. -/
abbrev PerRowCol (H : ℕ) : Shape := ⟨4, ![8, H, 2048, 1]⟩

abbrev One : Shape := ⟨0, ![]⟩

/-- How the shapes fit. -/
structure Fits (H : ℕ) : Prop where
  one : 0 < One.numel
  all : One.BroadcastsInDim (Scores H) (![] : Fin 0 → Fin (Scores H).rank)
  rows : One.BroadcastsInDim (PerRow H) (![] : Fin 0 → Fin (PerRow H).rank)
  up : (PerRow H).BroadcastsInDim (PerRowCol H) (![0, 1, 2] : Fin 3 → Fin (PerRowCol H).rank)
  spread : (PerRowCol H).BroadcastsInDim (Scores H) (![0, 1, 2, 3] : Fin 4 → Fin (Scores H).rank)
  reduces : (Scores H).ReducesTo [3] (PerRow H)

variable {H : ℕ} (w : Fits H)

/-- A row of scores in natural units. -/
def logits (s : FVec Ideal (Scores H) .f32) : FVec Ideal (Scores H) .f32 :=
  mulf s (broadcastInDim (Scores H) ![] w.all (Host.log (constant One .f32 0x40000000#32)))

/-- The rows' maxima. -/
def greatest (l : FVec Ideal (Scores H) .f32) : FVec Ideal (PerRow H) .f32 :=
  Host.reduce FloatOps.maximumf l (constant One .f32 0xFF800000#32) w.reduces w.one

/-- The least number, for every row. -/
def least : FVec Ideal (PerRow H) .f32 :=
  broadcastInDim (PerRow H) ![] w.rows (constant One .f32 0xFF800000#32)

/-- The numbers that are subtracted. -/
def top (l : FVec Ideal (Scores H) .f32) : FVec Ideal (PerRow H) .f32 := maximumf (least w) (greatest w l)

/-- A number for every row, at every entry of it. -/
def along (t : FVec Ideal (PerRow H) .f32) : FVec Ideal (Scores H) .f32 :=
  broadcastInDim (Scores H) ![0, 1, 2, 3] w.spread
    (broadcastInDim (PerRowCol H) ![0, 1, 2] w.up t)

/-- The numerators. -/
def powers (l : FVec Ideal (Scores H) .f32) : FVec Ideal (Scores H) .f32 := Host.exp (subf l (along w (top w l)))

/-- The denominators. -/
def sums (p : FVec Ideal (Scores H) .f32) : FVec Ideal (PerRow H) .f32 :=
  Host.reduceAdd p (constant One .f32 0x00000000#32) w.reduces w.one

/-- The softmax of the rows of an array of scores. -/
def soft (s : FVec Ideal (Scores H) .f32) : FVec Ideal (Scores H) .f32 :=
  Host.divf (powers w (logits w s)) (along w (sums w (powers w (logits w s))))

theorem logits_apply (s : FVec Ideal (Scores H) .f32) (b : Fin 8) (h : Fin H) (i : Fin 2048) (k : Fin 2304) :
    logits w s (ix4 b h i k) = s (ix4 b h i k) * ((Real.log 2 : ℝ) : EReal) := by
  rw [← log_two]
  pointwise [logits]

theorem greatest_apply (l : FVec Ideal (Scores H) .f32) (b : Fin 8) (h : Fin H) (i : Fin 2048) :
    greatest w l (ix3 b h i) = Finset.univ.fold max (Ideal.ofBits .f32 0xFF800000#32) fun k => l (ix4 b h i k) := by
  unfold greatest
  pointwise

theorem least_apply (i : (PerRow H).Idx) : least w i = ⊥ := by
  rw [← ofBits_bot]
  pointwise [least]

theorem top_apply (l : FVec Ideal (Scores H) .f32) (i : (PerRow H).Idx) : top w l i = greatest w l i := by
  unfold top
  rw [larger_apply, least_apply, max_eq_right bot_le]

theorem along_apply (t : FVec Ideal (PerRow H) .f32) (b : Fin 8) (h : Fin H) (i : Fin 2048) (k : Fin 2304) :
    along w t (ix4 b h i k) = t (ix3 b h i) := by
  have only (n : ℕ) (j : Fin n) : j.val = if n = 1 then 0 else j.val := by
    split
    · omega
    · rfl
  unfold along
  refine (broadcastInDim_apply _ w.spread _ _ (ix4 b h i 0) fun a => ?_).trans
    (broadcastInDim_apply _ w.up t _ (ix3 b h i) fun a => ?_)
  · match a with
    | ⟨0, _⟩ => exact only 8 b
    | ⟨1, _⟩ => exact only H h
    | ⟨2, _⟩ => exact only 2048 i
    | ⟨3, _⟩ => rfl
  · match a with
    | ⟨0, _⟩ => exact only 8 b
    | ⟨1, _⟩ => exact only H h
    | ⟨2, _⟩ => exact only 2048 i

theorem sums_apply (p : FVec Ideal (Scores H) .f32) (b : Fin 8) (h : Fin H) (i : Fin 2048) :
    sums w p (ix3 b h i) = ∑ k, p (ix4 b h i k) := by
  pointwise [sums]

/-- The softmax of a row of real scores, in base two. -/
theorem soft_apply (s : FVec Ideal (Scores H) .f32) (b : Fin 8) (h : Fin H) (i : Fin 2048) (S : Fin 2304 → ℝ)
    (hS : ∀ k, s (ix4 b h i k) = (S k : EReal)) (k : Fin 2304) : soft w s (ix4 b h i k) = ((wt S k : ℝ) : EReal) := by
  have hl (k) : logits w s (ix4 b h i k) = ((S k * Real.log 2 : ℝ) : EReal) := by
    rw [logits_apply, hS, EReal.coe_mul]
  obtain ⟨M, hM⟩ : ∃ M : ℝ, top w (logits w s) (ix3 b h i) = M := by
    obtain ⟨M, hM⟩ := max_real max (fun _ _ => rfl) fun k => S k * Real.log 2
    refine ⟨M, ?_⟩
    rw [top_apply, greatest_apply, ofBits_bot, ← hM]
    simp only [hl]
  have hp (k) : powers w (logits w s) (ix4 b h i k) = Ideal.exp ((S k : EReal) * ((Real.log 2 : ℝ) : EReal) - M) := by
    unfold powers
    rw [exp_sub_apply, along_apply, hM, hl, EReal.coe_mul]
  unfold soft
  rw [quotient_apply, along_apply, sums_apply, hp]
  simp only [hp]
  exact divide_first S M k

end Rows

end Attn

end
-- ==== Proof.DiffRef.lean ====
/-
  What the differential attention's reference leaves, at an index: its two softmaxes are the softmax of `SoftRows` at
  two arrays of scores.
-/
module

public import proofs.«01_k».proof.Proof.DiffArray
public import proofs.«01_k».proof.Proof.SoftRows
public import proofs.«01_k».proof.Proof.Gen.DiffRefIdeal.Read

@[expose] public section

set_option maxRecDepth 16384

noncomputable section

open Idealize.ShloMosaic Idealize.ShloMosaic.TcCoe Idealize.SL.Sem

namespace Cert.DiffRefIdeal.Result

open Cert.DiffRefIdeal Cert.DiffRefIdeal.Gen Cert.DiffRefIdeal.Read Attn

/-- The shapes of four heads fit. -/
theorem fits : Rows.Fits 4 :=
  ⟨h_S_, bcast_S_S8x4x2048x2304, bcast_S_S8x4x2048, bcast_S8x4x2048_S8x4x2048x1_0_1_2,
    bcast_S8x4x2048x1_S8x4x2048x2304_0_1_2_3, reducesTo_S8x4x2048x2304_S8x4x2048_d3⟩

variable (x0 x1 x2 x3 : Vec Ideal S64 .f32) (x4 x6 : Vec Ideal S8x2304x512 .bf16) (x5 : Vec Ideal S8x512x2304 .bf16)
  (x7 : Vec Ideal S128 .f32)

theorem first_softmax : val_main_v33 (F := Ideal) x4 x5 = Rows.soft fits (val_main_v19 (F := Ideal) x4 x5) := rfl

theorem second_softmax : val_main_v52 (F := Ideal) x4 x5 = Rows.soft fits (val_main_v38 (F := Ideal) x4 x5) := rfl

theorem scalar (i) : val_main_v7 (F := Ideal) x0 x1 x2 x3 i = scalarOf x0 x1 x2 x3 := by
  pointwise [val_main_v7, val_main_v6, val_main_v5, val_main_v4, val_main_v3, val_main_v2, val_main_v1, val_main_v0,
    val_main_cst, val_main_cst_0, val_main_cst_1]
  rfl

variable (lam : ℝ) (Q : Fin 8 → Fin 2304 → Fin 512 → ℝ) (K : Fin 8 → Fin 512 → Fin 2304 → ℝ)
  (W : Fin 8 → Fin 2304 → Fin 512 → ℝ)

/-- The scores over the lower lanes of a head. -/
theorem first_score (hq : ∀ b r j, x4 (ix3 b r j) = (Q b r j : EReal)) (hk : ∀ b r j, x5 (ix3 b r j) = (K b r j : EReal))
    (b : Fin 8) (h : Fin 4) (i : Fin 2048) (k : Fin 2304) :
    val_main_v19 (F := Ideal) x4 x5 (ix4 b h i k)
      = ((lower (fun d => Q b ⟨256 + i, by omega⟩ (col h d)) (fun d k => K b (col h d) k) k : ℝ) : EReal) := by
  unfold val_main_v19
  pointwise [val_main_v18, val_main_v17, val_main_v16, val_main_v15, val_main_v12, val_main_v11, val_main_v10,
    val_main_v9, val_main_v8]
  simp only [hq, hk, ← EReal.coe_mul, sum_real, lower, col, Nat.mul_comm]

/-- The scores over its upper lanes. -/
theorem second_score (hq : ∀ b r j, x4 (ix3 b r j) = (Q b r j : EReal)) (hk : ∀ b r j, x5 (ix3 b r j) = (K b r j : EReal))
    (b : Fin 8) (h : Fin 4) (i : Fin 2048) (k : Fin 2304) :
    val_main_v38 (F := Ideal) x4 x5 (ix4 b h i k)
      = ((upper (fun d => Q b ⟨256 + i, by omega⟩ (col h d)) (fun d k => K b (col h d) k) k : ℝ) : EReal) := by
  unfold val_main_v38
  pointwise [val_main_v37, val_main_v36, val_main_v35, val_main_v34, val_main_v12, val_main_v11, val_main_v10,
    val_main_v9, val_main_v8]
  simp only [hq, hk, ← EReal.coe_mul, sum_real, upper, col, Nat.mul_comm, Nat.add_assoc]

/-- The difference of the two softmaxes. -/
theorem weights (i : S8x4x2048x2304.Idx) : val_main_v55 (F := Ideal) x0 x1 x2 x3 x4 x5 i
    = Rows.soft fits (val_main_v19 (F := Ideal) x4 x5) i - scalarOf x0 x1 x2 x3 * Rows.soft fits (val_main_v38 (F := Ideal) x4 x5) i := by
  rw [val_main_v55_apply, val_main_v54_apply, val_main_v53_apply, scalar, first_softmax, second_softmax]
  rfl

/-- A head's row before the norm. -/
theorem row (h0 : scalarOf x0 x1 x2 x3 = (lam : EReal)) (hq : ∀ b r j, x4 (ix3 b r j) = (Q b r j : EReal))
    (hk : ∀ b r j, x5 (ix3 b r j) = (K b r j : EReal)) (hv : ∀ b r j, x6 (ix3 b r j) = (W b r j : EReal))
    (b : Fin 8) (h : Fin 4) (i : Fin 2048) (e : Fin 128) :
    val_main_v57 (F := Ideal) x0 x1 x2 x3 x4 x5 x6 (ix4 b i h e)
      = ((diffRow lam (fun d => Q b ⟨256 + i, by omega⟩ (col h d)) (fun d k => K b (col h d) k)
          (fun k d => W b k (col h d)) e : ℝ) : EReal) := by
  pointwise [val_main_v57, val_main_v56, val_main_v14, val_main_v13]
  simp only [weights, hv, h0, Rows.soft_apply fits _ b h i _ (first_score x4 x5 Q K hq hk b h i),
    Rows.soft_apply fits _ b h i _ (second_score x4 x5 Q K hq hk b h i), ← EReal.coe_mul, ← EReal.coe_sub, sum_real]
  congr 1
  simp only [diffRow, one_mul, Finset.mul_sum, ← Finset.sum_sub_distrib, col, Nat.mul_comm (h : ℕ) 128]
  exact Finset.sum_congr rfl fun k _ => by ring

/-- The reference's array. -/
theorem result (h0 : scalarOf x0 x1 x2 x3 = (lam : EReal)) (hq : ∀ b r j, x4 (ix3 b r j) = (Q b r j : EReal))
    (hk : ∀ b r j, x5 (ix3 b r j) = (K b r j : EReal)) (hv : ∀ b r j, x6 (ix3 b r j) = (W b r j : EReal)) :
    val_main_v74 (F := Ideal) x0 x1 x2 x3 x4 x5 x6 x7 = fun x : S8x2048x512.Idx =>
      diffArray lam Q K W (fun d => x7 (ix1 d)) (x 0) (x 1)
        ⟨(x 2).val / 128, by have : (x 2).val < 512 := (x 2).isLt; omega⟩ ⟨(x 2).val % 128, by omega⟩ := by
  funext x
  obtain ⟨b, i, j, rfl⟩ : ∃ (b : Fin 8) (i : Fin 2048) (j : Fin 512), x = ix3 b i j :=
    ⟨x 0, x 1, x 2, by funext a; match a with | 0 => rfl | 1 => rfl | 2 => rfl⟩
  pointwise [val_main_v74, val_main_v73, val_main_v72, val_main_v71, val_main_v70, val_main_v69, val_main_v68,
    val_main_v67, val_main_v66, val_main_v65, val_main_v64, val_main_v63, val_main_v62, val_main_v61, val_main_v60,
    val_main_v59, val_main_v58, val_main_cst_10, val_main_cst_11, val_main_cst_12, val_main_cst_13]
  simp only [row x0 x1 x2 x3 x4 x6 x5 lam Q K W h0 hq hk hv]
  rfl

end Cert.DiffRefIdeal.Result

end
-- ==== Proof.DiffClaim.lean ====
/-
  The claim for the differential attention: finite queries, keys, values and scalar give one array on both sides.
-/
module

public import proofs.«01_k».proof.Defs
public import proofs.«01_k».proof.Proof.DiffRef
public import proofs.«01_k».proof.Proof.Gen.Pre_diff_finite

@[expose] public section

set_option maxRecDepth 16384

noncomputable section

open Idealize.ShloMosaic Idealize.ShloMosaic.TcCoe Idealize.SL.Sem

namespace Cert.Pre_diff_finite.Decoded

open Cert.Pre_diff_finite Cert.Pre_diff_finite.Gen Attn

variable (x0 x1 x2 x3 : FVec Ideal S64 .f32) (x4 x6 : FVec Ideal S8x2304x512 .bf16) (x5 : FVec Ideal S8x512x2304 .bf16)
  (x7 : FVec Ideal S128 .f32)

/-- Where the precondition holds, the queries, the keys, the values and the scalar are real numbers. -/
theorem decode (h : fn (F := Ideal) x0 x1 x2 x3 x4 x5 x6 x7 = fun _ => 1#1) (b : Fin 8) (r : Fin 2304) (j : Fin 512) :
    x4 (ix3 b r j) = (((x4 (ix3 b r j)).toReal : ℝ) : EReal) ∧ x5 (ix3 b j r) = (((x5 (ix3 b j r)).toReal : ℝ) : EReal)
      ∧ x6 (ix3 b r j) = (((x6 (ix3 b r j)).toReal : ℝ) : EReal)
      ∧ scalarOf x0 x1 x2 x3 = (((scalarOf x0 x1 x2 x3).toReal : ℝ) : EReal) := by
  have h' := congrFun h (ix3 b r j)
  revert h'
  pointwise [fn, fn_part1]
  intro h'
  simp only [IntOp.andi_eq_one] at h'
  exact ⟨finite_real _ h'.1.1.1, finite_real _ h'.1.1.2, finite_real _ h'.1.2, finite_real _ h'.2⟩

end Cert.Pre_diff_finite.Decoded

namespace Cert.DiffClaim

open Attn

/-- The idealized kernel and the reference leave one array. -/
theorem claim : Cert.algebraic_DiffIdeal_DiffRefIdeal_pre_diff_finite := by
  intro m g m' g' hp ha
  have dec (c : Dev Cert.DiffIdeal.nD) := Cert.Pre_diff_finite.Decoded.decode _ _ _ _ _ _ _ _ (hp c)
  have hR (c : Dev Cert.DiffIdeal.nD) := Cert.DiffRefIdeal.Result.result
    (m ((c.tc : Thread Cert.DiffIdeal.nD Cert.DiffIdeal.τ).loc Cert.DiffIdeal.main_arg0))
    (m ((c.tc : Thread Cert.DiffIdeal.nD Cert.DiffIdeal.τ).loc Cert.DiffIdeal.main_arg1))
    (m ((c.tc : Thread Cert.DiffIdeal.nD Cert.DiffIdeal.τ).loc Cert.DiffIdeal.main_arg2))
    (m ((c.tc : Thread Cert.DiffIdeal.nD Cert.DiffIdeal.τ).loc Cert.DiffIdeal.main_arg3))
    (m ((c.tc : Thread Cert.DiffIdeal.nD Cert.DiffIdeal.τ).loc Cert.DiffIdeal.main_arg4))
    (m ((c.tc : Thread Cert.DiffIdeal.nD Cert.DiffIdeal.τ).loc Cert.DiffIdeal.main_arg6))
    (m ((c.tc : Thread Cert.DiffIdeal.nD Cert.DiffIdeal.τ).loc Cert.DiffIdeal.main_arg5))
    (m ((c.tc : Thread Cert.DiffIdeal.nD Cert.DiffIdeal.τ).loc Cert.DiffIdeal.main_arg7))
    _ _ _ _ (dec c 0 0 0).2.2.2 (fun b r j => (dec c b r j).1) (fun b r j => (dec c b j r).2.1)
    (fun b r j => (dec c b r j).2.2.1)
  have hK (c : Dev Cert.DiffIdeal.nD) := Cert.DiffIdeal.Head.array m c _ _ _ _ (dec c 0 0 0).2.2.2
    (fun b r j => (dec c b r j).1) (fun b r j => (dec c b j r).2.1) (fun b r j => (dec c b r j).2.2.1)
  refine ⟨fun c => (Cert.DiffIdeal.Gen.dats m 0 c).arrAt 6 Cert.DiffIdeal.cfg0.N, Cert.DiffIdeal.Value.run_blocks m g, ?_⟩
  refine (θ_run _ _ _).mono (fun r h c => ⟨(h c).1.trans ?_, (h c).2⟩) (Cert.DiffRefIdeal.Value.run m' g')
  rw [Cert.DiffRefIdeal.Read.val_main_v74_eq, (ha c).1, (ha c).2.1, (ha c).2.2.1, (ha c).2.2.2.1, (ha c).2.2.2.2.1,
    (ha c).2.2.2.2.2.1, (ha c).2.2.2.2.2.2.1, (ha c).2.2.2.2.2.2.2]
  exact (hR c).trans (hK c).symm

/-- The reference's run keeps its arguments and ends with every counter at zero. -/
theorem reference_frame : Cert.quiescent_DiffRefIdeal := fun m g _ =>
  (θ_run Cert.DiffRefIdeal.defs _ _).mono
    (fun r h => ⟨fun c => (h c).2, Idealize.ShloMosaic.sem_eq_zero_of_no_sems (by decide) r.2⟩)
    (Cert.DiffRefIdeal.Value.run (F := Ideal) m g)

theorem reference_frame_finite : Cert.quiescent_DiffRefIdeal_pre_diff_finite := fun m g _ => reference_frame m g trivial

end Cert.DiffClaim

end
-- ==== Proof.GqaHead.lean ====
/-
  One pair of heads of the grouped-query attention kernel at one query row and one lane, over the extended reals: the
  pair's 128 lanes hold two heads, and every head's softmax is taken over its own lane half.
-/
module

public import proofs.«01_k».proof.Proof.Softmax
public import proofs.«01_k».proof.Proof.Gen.GqaIdeal.Value
public import Idealize.ShloMosaic.Lib.Pipeline.ValueKit

@[expose] public section

set_option maxRecDepth 16384

noncomputable section

open Idealize.ShloMosaic

namespace Attn

/-- The value row of a pair of heads at a lane: the lower lanes hold the first head's, the upper lanes the second's. -/
def pairRow (Q : Fin 128 → ℝ) (K : Fin 128 → Fin 2304 → ℝ) (V : Fin 2304 → Fin 128 → ℝ) (e : Fin 128) : ℝ :=
  if e.val < 64 then ∑ k, wt (lower Q K) k * V k e else ∑ k, wt (upper Q K) k * V k e

end Attn

namespace Cert.GqaIdeal.Head

open Cert.GqaIdeal Cert.GqaIdeal.Gen Attn

/-- One pair's tile of the result, as the kernel computes it for its last pair. -/
def tile (q : FVec Ideal S512x128 .bf16) (kk : FVec Ideal S128x2304 .bf16) (vv : Vec Ideal S1x2304x128 .bf16) :
    FVec Ideal S1x512x128 .bf16 :=
  k0_pay1 (k0_pay26 k0_pay3 q kk vv)

/-- The two lane halves' value rows, merged, at one query row and lane. -/
theorem pay26_apply (q : FVec Ideal S512x128 .bf16) (kk : FVec Ideal S128x2304 .bf16)
    (vv : Vec Ideal S1x2304x128 .bf16) (Q : Fin 512 → Fin 128 → ℝ) (K : Fin 128 → Fin 2304 → ℝ)
    (V : Fin 2304 → Fin 128 → ℝ) (hq : ∀ i d, q (ix2 i d) = (Q i d : EReal)) (hk : ∀ d k, kk (ix2 d k) = (K d k : EReal))
    (hv : ∀ k e, vv (ix3 0 k e) = (V k e : EReal)) (i : Fin 512) (e : Fin 128) :
    k0_pay26 (F := Ideal) k0_pay3 q kk vv (ix2 i e) = (pairRow (Q i) K V e : EReal) := by
  pointwise [k0_pay26, k0_pay3]
  simp only [sum_low, sum_high_not, hq, hk, hv, ← EReal.coe_mul, sum_real]
  have h1 := kernel_row (lower (Q i) K) (fun k => V k e) 1
  have h2 := kernel_row (upper (Q i) K) (fun k => V k e) 1
  unfold lower at h1
  unfold upper at h2
  rw [EReal.coe_one] at h1 h2
  rw [h1, h2]
  have h : ∀ x : Fin 128, IntOp.cmpi .slt (BitVec.ofNat 32 x) 64#32 = if x.val < 64 then 1#1 else 0#1 := by decide
  rw [h e]
  unfold pairRow lower upper
  split <;> simp [Scalar.select]

/-- One pair's tile at one query row and lane. -/
theorem tile_apply (q : FVec Ideal S512x128 .bf16) (kk : FVec Ideal S128x2304 .bf16)
    (vv : Vec Ideal S1x2304x128 .bf16) (Q : Fin 512 → Fin 128 → ℝ)
    (K : Fin 128 → Fin 2304 → ℝ) (V : Fin 2304 → Fin 128 → ℝ) (hq : ∀ i d, q (ix2 i d) = (Q i d : EReal))
    (hk : ∀ d k, kk (ix2 d k) = (K d k : EReal)) (hv : ∀ k e, vv (ix3 0 k e) = (V k e : EReal)) (z : Fin 1) (i : Fin 512)
    (e : Fin 128) : tile q kk vv (ix3 z i e) = (pairRow (Q i) K V e : EReal) := by
  unfold tile
  pointwise [k0_pay1]
  exact pay26_apply q kk vv Q K V hq hk hv i e

end Cert.GqaIdeal.Head

end
-- ==== Proof.GqaBlock.lean ====
/-
  What the grouped-query attention kernel leaves in a block of its result, from the blocks of its operands: 512 query
  rows by four pairs of heads of 128 lanes; two pairs share 128 lanes of keys and of values.
-/
module

public import proofs.«01_k».proof.Proof.GqaHead
public import proofs.«01_k».proof.Proof.DiffBlock

@[expose] public section

set_option maxRecDepth 16384

noncomputable section

open Idealize.ShloMosaic

namespace Attn

/-- Lane `d` of the keys and values of the pair `p`, among their 256 columns. -/
def kvCol (p : Fin 4) (d : Fin 128) : Fin 256 := ⟨128 * (p.val / 2) + d, by omega⟩

/-- The pair `p` of the grouped-query attention of one query row, at lane `e`, from the row, the keys and the values. -/
def gqaOut (Q : Fin 512 → ℝ) (K : Fin 256 → Fin 2304 → ℝ) (V : Fin 2304 → Fin 256 → ℝ) (p : Fin 4) (e : Fin 128) : ℝ :=
  pairRow (fun d => Q (col p d)) (fun d k => K (kvCol p d) k) (fun k d => V k (kvCol p d)) e

end Attn

namespace Cert.GqaIdeal.Head

open Cert.GqaIdeal Cert.GqaIdeal.Gen Attn

/-- A pair's keys are 128 rows of the block of transposed keys. -/
theorem keys_apply (x2 : Vec Ideal S1x256x2304 .bf16) (K : Fin 256 → Fin 2304 → ℝ)
    (hk : ∀ j k, x2 (ix3 0 j k) = (K j k : EReal)) (p : Fin 4) (o : Fin 3 → ℕ) (ho : o = ![0, 128 * (p.val / 2), 0])
    (hs : ∀ a, o a + ![1, 128, 2304] a ≤ S1x256x2304.size a) (d : Fin 128) (k : Fin 2304) :
    k0_pay25 (F := Ideal) (View.ld x2 (Rect.unit (s := S1x256x2304) o ![1, 128, 2304] hs)) (ix2 d k)
      = (K (kvCol p d) k : EReal) := by
  subst ho
  pointwise [k0_pay25]
  exact hk _ _

/-- A pair's values are 128 columns of the block of values. -/
theorem values_apply (x3 : Vec Ideal S1x2304x256 .bf16) (V : Fin 2304 → Fin 256 → ℝ)
    (hv : ∀ k j, x3 (ix3 0 k j) = (V k j : EReal)) (p : Fin 4) (o : Fin 3 → ℕ) (ho : o = ![0, 0, 128 * (p.val / 2)])
    (hs : ∀ a, o a + ![1, 2304, 128] a ≤ S1x2304x256.size a) (k : Fin 2304) (d : Fin 128) :
    View.ld x3 (Rect.unit (s := S1x2304x256) o ![1, 2304, 128] hs) (ix3 0 k d) = (V k (kvCol p d) : EReal) := by
  subst ho
  pointwise
  exact hv _ _

/-- One pair's tile, from the blocks of the operands. -/
theorem tile_block (x0 x1 : Vec Ideal S1x256x512 .bf16) (x2 : Vec Ideal S1x256x2304 .bf16)
    (x3 : Vec Ideal S1x2304x256 .bf16) (Q : Fin 512 → Fin 512 → ℝ) (K : Fin 256 → Fin 2304 → ℝ)
    (V : Fin 2304 → Fin 256 → ℝ) (h0 : ∀ (r : Fin 256) (j : Fin 512), x0 (ix3 0 r j) = (Q ⟨r, by omega⟩ j : EReal))
    (h1 : ∀ (r : Fin 256) (j : Fin 512), x1 (ix3 0 r j) = (Q ⟨256 + r, by omega⟩ j : EReal))
    (hk : ∀ j k, x2 (ix3 0 j k) = (K j k : EReal)) (hv : ∀ k j, x3 (ix3 0 k j) = (V k j : EReal)) (p : Fin 4)
    (o : Fin 2 → ℕ) (ho : o = ![0, 128 * p.val]) (hs : S512x512.Slices o S512x128)
    (ok : Fin 3 → ℕ) (hok : ok = ![0, 128 * (p.val / 2), 0]) (hks : ∀ a, ok a + ![1, 128, 2304] a ≤ S1x256x2304.size a)
    (ov : Fin 3 → ℕ) (hov : ov = ![0, 0, 128 * (p.val / 2)]) (hvs : ∀ a, ov a + ![1, 2304, 128] a ≤ S1x2304x256.size a)
    (x : S1x512x128.Idx) :
    tile (extractStridedSlice S512x128 o (k0_pay2 (F := Ideal) x0 x1) hs)
        (k0_pay25 (F := Ideal) (View.ld x2 (Rect.unit (s := S1x256x2304) ok ![1, 128, 2304] hks)))
        (View.ld x3 (Rect.unit (s := S1x2304x256) ov ![1, 2304, 128] hvs)) x
      = (gqaOut (Q (x 1)) K V p (x 2) : EReal) := by
  have hx : x = ix3 (x 0) (x 1) (x 2) := by
    funext a; match a with | 0 => rfl | 1 => rfl | 2 => rfl
  rw [hx]
  exact tile_apply _ _ _ (fun i d => Q i (col p d)) (fun d k => K (kvCol p d) k) (fun k d => V k (kvCol p d))
    (fun i d => Cert.DiffIdeal.Head.query_apply x0 x1 Q h0 h1 p o ho hs i d)
    (fun d k => keys_apply x2 K hk p ok hok hks d k) (fun k d => values_apply x3 V hv p ov hov hvs k d) _ _ _

/-- The block of the result, at row `i` and lane `e` of pair `p`. -/
theorem block_apply (x0 x1 : Vec Ideal S1x256x512 .bf16) (x2 : Vec Ideal S1x256x2304 .bf16)
    (x3 : Vec Ideal S1x2304x256 .bf16) (Q : Fin 512 → Fin 512 → ℝ) (K : Fin 256 → Fin 2304 → ℝ)
    (V : Fin 2304 → Fin 256 → ℝ) (h0 : ∀ (r : Fin 256) (j : Fin 512), x0 (ix3 0 r j) = (Q ⟨r, by omega⟩ j : EReal))
    (h1 : ∀ (r : Fin 256) (j : Fin 512), x1 (ix3 0 r j) = (Q ⟨256 + r, by omega⟩ j : EReal))
    (hk : ∀ j k, x2 (ix3 0 j k) = (K j k : EReal)) (hv : ∀ k j, x3 (ix3 0 k j) = (V k j : EReal))
    (y : S1x512x512.Idx) (p : Fin 4) (e : Fin 128) (hy : (y 2).val = 128 * p.val + e.val) :
    out0_4 x0 x1 x2 x3 y = (gqaOut (Q (y 1)) K V p e : EReal) := by
  unfold_out out0_4
  have g0 (r : Fin 256) (j : Fin 512) : View.ld x0 r0_0 (ix3 0 r j) = (Q ⟨r, by omega⟩ j : EReal) := by
    unfold r0_0
    pointwise
    exact h0 r j
  have g1 (r : Fin 256) (j : Fin 512) : View.ld x1 r0_0 (ix3 0 r j) = (Q ⟨256 + r, by omega⟩ j : EReal) := by
    unfold r0_0
    pointwise
    exact h1 r j
  have last (p' : Fin 4) (x : S1x512x128.Idx) (w1 : (y 1).val = (x 1).val) (w2 : (y 2).val = 128 * p'.val + (x 2).val) :
      (gqaOut (Q (x 1)) K V p' (x 2) : EReal) = (gqaOut (Q (y 1)) K V p e : EReal) := by
    have l2 : (x 2).val < 128 := (x 2).isLt
    have hh : p' = p := Fin.ext (by omega)
    subst hh
    rw [show e = x 2 from Fin.ext (by omega), show y 1 = x 1 from Fin.ext w1]
  canon_tiles x w
  · exact (tile_block _ _ x2 x3 Q K V g0 g1 hk hv 3 ![0, 384] rfl (by decide) ![0, 128, 0] rfl
      (by decide) ![0, 0, 128] rfl (by decide) x).trans (last 3 x w1 w2)
  · exact (tile_block _ _ x2 x3 Q K V g0 g1 hk hv 2 ![0, 256] rfl (by decide) ![0, 128, 0] rfl
      (by decide) ![0, 0, 128] rfl (by decide) x).trans (last 2 x w1 w2)
  · exact (tile_block _ _ x2 x3 Q K V g0 g1 hk hv 1 ![0, 128] rfl (by decide) ![0, 0, 0] rfl
      (by decide) ![0, 0, 0] rfl (by decide) x).trans (last 1 x w1 w2)
  · exact (tile_block _ _ x2 x3 Q K V g0 g1 hk hv 0 ![0, 0] rfl (by decide) ![0, 0, 0] rfl
      (by decide) ![0, 0, 0] rfl (by decide) x).trans (last 0 x w1 (by omega))

end Cert.GqaIdeal.Head

end
-- ==== Proof.GqaArray.lean ====
/-
  The whole result of the grouped-query attention kernel, from the arguments: the grid's blocks tile the array, and each
  holds what the block's own point wrote.
-/
module

public import proofs.«01_k».proof.Proof.GqaBlock

@[expose] public section

set_option maxRecDepth 16384

noncomputable section

open Idealize.ShloMosaic Idealize.ShloMosaic.TcCoe Idealize.SL.Sem

namespace Attn

/-- The grouped-query attention at a column of the result, over real queries, keys and values. -/
def gqaArray (Q : Fin 8 → Fin 2304 → Fin 512 → ℝ) (K : Fin 8 → Fin 256 → Fin 2304 → ℝ)
    (V : Fin 8 → Fin 2304 → Fin 256 → ℝ) (b : Fin 8) (r : Fin 2048) (j : Fin 512) : ℝ :=
  gqaOut (Q b ⟨256 + r, by omega⟩) (K b) (V b) ⟨j.val / 128, by omega⟩ ⟨j.val % 128, by omega⟩

end Attn

namespace Cert.GqaIdeal.Head

open Cert.GqaIdeal Cert.GqaIdeal.Gen Attn

/-- Which block of its operand each window holds at a grid point. -/
theorem index_maps : ∀ t : Fin cfg0.N,
    win0_0.index t = ![(grid0.coords t 0).val, 2 * (grid0.coords t 1).val + 1, 0]
      ∧ win0_1.index t = ![(grid0.coords t 0).val, 2 * (grid0.coords t 1).val + 2, 0]
      ∧ win0_2.index t = ![(grid0.coords t 0).val, 0, 0] ∧ win0_3.index t = ![(grid0.coords t 0).val, 0, 0]
      ∧ win0_4.index t = ![(grid0.coords t 0).val, (grid0.coords t 1).val, 0] := by
  decide +kernel

variable (m : (ℓ : Loc nD τ sig) → Buf (Elt Ideal) ℓ) (c : Dev nD)

/-- The array the kernel leaves. -/
theorem array (Q : Fin 8 → Fin 2304 → Fin 512 → ℝ) (K : Fin 8 → Fin 256 → Fin 2304 → ℝ)
    (W : Fin 8 → Fin 2304 → Fin 256 → ℝ)
    (hq : ∀ b r j, m ((c : Thread nD τ).loc main_arg0) (ix3 b r j) = (Q b r j : EReal))
    (hk : ∀ b r j, m ((c : Thread nD τ).loc main_arg1) (ix3 b r j) = (K b r j : EReal))
    (hv : ∀ b r j, m ((c : Thread nD τ).loc main_arg2) (ix3 b r j) = (W b r j : EReal)) :
    (dats m 0 c).arrAt 4 cfg0.N = fun x : S8x2048x512.Idx => (gqaArray Q K W (x 0) (x 1) (x 2) : EReal) := by
  refine (dats m 0 c).arrAt_eq_of_covers 4 _ (by decide +kernel) fun t hf y => ?_
  blk_simp
  rw [after0_4]
  obtain ⟨e0, e1, e2, e3, e4⟩ := index_maps t
  have hb : (grid0.coords t 0).val < 8 := (grid0.coords t 0).isLt
  have hj : (grid0.coords t 1).val < 4 := (grid0.coords t 1).isLt
  have y2 : (y 2).val < 512 := (y 2).isLt
  have y1 : (y 1).val < 512 := (y 1).isLt
  refine (block_apply _ _ _ _
    (fun r j => Q ⟨(grid0.coords t 0).val, hb⟩ ⟨256 + 512 * (grid0.coords t 1).val + r, by omega⟩ j)
    (K ⟨(grid0.coords t 0).val, hb⟩) (W ⟨(grid0.coords t 0).val, hb⟩) ?_ ?_ ?_ ?_ y
    ⟨(y 2).val / 128, by omega⟩ ⟨(y 2).val % 128, by omega⟩ (by simp only []; omega)).trans ?_
  · intro r j
    rw [← hq]
    blk_ext [iblk, V, e0]
  · intro r j
    rw [← hq]
    blk_ext [iblk, V, e1]
  · intro r j
    rw [← hk]
    blk_ext [iblk, V, e2]
  · intro r j
    rw [← hv]
    blk_ext [iblk, V, e3]
  · have a0 : ((View.whole main_v0).slice (win0_4.rect t)).emb y 0 = (⟨(grid0.coords t 0).val, hb⟩ : Fin 8) :=
      Fin.ext (by blk_simp [e4])
    have a1 : ((View.whole main_v0).slice (win0_4.rect t)).emb y 1
        = (⟨512 * (grid0.coords t 1).val + (y 1).val, by omega⟩ : Fin 2048) :=
      Fin.ext (by
        blk_simp [e4]
        show (grid0.coords t 1).val * 512 + (y 1).val = 512 * (grid0.coords t 1).val + (y 1).val
        omega)
    have a2 : ((View.whole main_v0).slice (win0_4.rect t)).emb y 2 = (⟨(y 2).val, y2⟩ : Fin 512) :=
      Fin.ext (by blk_simp [e4])
    rw [a0, a1, a2]
    simp only [gqaArray, Nat.add_assoc]

end Cert.GqaIdeal.Head

end
-- ==== Proof.GqaRef.lean ====
/-
  What the grouped-query attention's reference leaves, at an index: eight heads, each over the copy of its group's keys
  and values that it reads.
-/
module

public import proofs.«01_k».proof.Proof.GqaArray
public import proofs.«01_k».proof.Proof.SoftRows
public import proofs.«01_k».proof.Proof.Gen.GqaRefIdeal.Read

@[expose] public section

set_option maxRecDepth 16384

noncomputable section

open Idealize.ShloMosaic Idealize.ShloMosaic.TcCoe Idealize.SL.Sem

namespace Attn

/-- Lane `d` of query head `h` among the columns of the queries. -/
def headCol (h : Fin 8) (d : Fin 64) : Fin 512 := ⟨64 * h + d, by omega⟩

/-- The column of the keys and values that lane `d` of query head `h` meets: the groups of four heads follow one
another, each held twice, and the heads of a group read the two copies in turn. -/
def copyCol (h : Fin 8) (d : Fin 64) : Fin 256 := ⟨64 * (2 * (h.val / 4) + h.val % 2) + d, by omega⟩

/-- The scores of head `h` of a query row. -/
def headScore (Q : Fin 512 → ℝ) (K : Fin 256 → Fin 2304 → ℝ) (h : Fin 8) (k : Fin 2304) : ℝ :=
  ∑ d, Q (headCol h d) * K (copyCol h d) k

/-- A pair's lane is a lane of one of its two heads. -/
theorem pair_head (Q : Fin 512 → ℝ) (K : Fin 256 → Fin 2304 → ℝ) (V : Fin 2304 → Fin 256 → ℝ) (p : Fin 4) (e : Fin 128)
    (h : Fin 8) (d : Fin 64) (w : 128 * p.val + e.val = 64 * h.val + d.val) :
    gqaOut Q K V p e = ∑ k, wt (headScore Q K h) k * V k (copyCol h d) := by
  have hV : kvCol p e = copyCol h d := Fin.ext (by simp only [kvCol, copyCol]; omega)
  unfold gqaOut pairRow
  simp only [hV]
  split
  · have : lower (fun d => Q (col p d)) (fun d k => K (kvCol p d) k) = headScore Q K h := by
      funext k
      refine Finset.sum_congr rfl fun x _ => ?_
      beta_reduce
      rw [show col p ⟨x, by omega⟩ = headCol h x from Fin.ext (by simp only [col, headCol]; omega),
        show kvCol p ⟨x, by omega⟩ = copyCol h x from Fin.ext (by simp only [kvCol, copyCol]; omega)]
    rw [this]
  · have : upper (fun d => Q (col p d)) (fun d k => K (kvCol p d) k) = headScore Q K h := by
      funext k
      refine Finset.sum_congr rfl fun x _ => ?_
      beta_reduce
      rw [show col p ⟨64 + x, by omega⟩ = headCol h x from Fin.ext (by simp only [col, headCol]; omega),
        show kvCol p ⟨64 + x, by omega⟩ = copyCol h x from Fin.ext (by simp only [kvCol, copyCol]; omega)]
    rw [this]

end Attn

namespace Cert.GqaRefIdeal.Result

open Cert.GqaRefIdeal Cert.GqaRefIdeal.Gen Cert.GqaRefIdeal.Read Attn

/-- The shapes of eight heads fit. -/
theorem fits : Rows.Fits 8 :=
  ⟨h_S_, bcast_S_S8x8x2048x2304, bcast_S_S8x8x2048, bcast_S8x8x2048_S8x8x2048x1_0_1_2,
    bcast_S8x8x2048x1_S8x8x2048x2304_0_1_2_3, reducesTo_S8x8x2048x2304_S8x8x2048_d3⟩

variable (x0 : Vec Ideal S8x2304x512 .bf16) (x1 : Vec Ideal S8x256x2304 .bf16) (x2 : Vec Ideal S8x2304x256 .bf16)

theorem softmax : val_main_v27 (F := Ideal) x0 x1 = Rows.soft fits (val_main_v13 (F := Ideal) x0 x1) := rfl

/-- The keys of every head. -/
theorem keys (b : Fin 8) (h : Fin 8) (d : Fin 64) (k : Fin 2304) :
    val_main_v7 (F := Ideal) x1 (ix4 b h d k) = x1 (ix3 b (copyCol h d) k) := by
  unfold val_main_v7
  pointwise [val_main_v6, val_main_v5, val_main_v4, val_main_v3]
  fin_vals h with hh <;> simp only [hh, Nat.reduceSub, Nat.reduceLT, ↓reduceDIte] <;>
    exact congrArg (fun j => x1 (ix3 b j k)) (Fin.ext (by simp only [copyCol, hh]))

/-- The values of every head. -/
theorem values (b : Fin 8) (h : Fin 8) (d : Fin 64) (k : Fin 2304) :
    val_main_v12 (F := Ideal) x2 (ix4 b k h d) = x2 (ix3 b k (copyCol h d)) := by
  unfold val_main_v12
  pointwise [val_main_v11, val_main_v10, val_main_v9, val_main_v8]
  fin_vals h with hh <;> simp only [hh, Nat.reduceSub, Nat.reduceLT, ↓reduceDIte] <;>
    exact congrArg (fun j => x2 (ix3 b k j)) (Fin.ext (by simp only [copyCol, hh]))

variable (Q : Fin 8 → Fin 2304 → Fin 512 → ℝ) (K : Fin 8 → Fin 256 → Fin 2304 → ℝ)
  (W : Fin 8 → Fin 2304 → Fin 256 → ℝ)

/-- The scores of every head. -/
theorem score (hq : ∀ b r j, x0 (ix3 b r j) = (Q b r j : EReal)) (hk : ∀ b r j, x1 (ix3 b r j) = (K b r j : EReal))
    (b : Fin 8) (h : Fin 8) (i : Fin 2048) (k : Fin 2304) :
    val_main_v13 (F := Ideal) x0 x1 (ix4 b h i k) = ((headScore (Q b ⟨256 + i, by omega⟩) (K b) h k : ℝ) : EReal) := by
  unfold val_main_v13
  pointwise [val_main_v2, val_main_v1, val_main_v0]
  simp only [keys, hq, hk, ← EReal.coe_mul, sum_real, headScore, headCol, Nat.mul_comm]

/-- The reference's array. -/
theorem result (hq : ∀ b r j, x0 (ix3 b r j) = (Q b r j : EReal)) (hk : ∀ b r j, x1 (ix3 b r j) = (K b r j : EReal))
    (hv : ∀ b r j, x2 (ix3 b r j) = (W b r j : EReal)) :
    val_main_v31 (F := Ideal) x0 x1 x2 = fun x : S8x2048x512.Idx => (gqaArray Q K W (x 0) (x 1) (x 2) : EReal) := by
  funext x
  obtain ⟨b, i, j, rfl⟩ : ∃ (b : Fin 8) (i : Fin 2048) (j : Fin 512), x = ix3 b i j :=
    ⟨x 0, x 1, x 2, by funext a; match a with | 0 => rfl | 1 => rfl | 2 => rfl⟩
  pointwise [val_main_v31, val_main_v30, val_main_v29, val_main_v28]
  simp only [softmax, values, hv, Rows.soft_apply fits _ _ _ _ _ (score x0 x1 Q K hq hk _ _ _), ← EReal.coe_mul, sum_real]
  congr 1
  unfold gqaArray
  rw [pair_head _ _ _ _ _ ⟨j.val / 64, by omega⟩ ⟨j.val % 64, by omega⟩ (by simp only []; omega)]
  exact Finset.sum_congr rfl fun k _ => mul_comm _ _

end Cert.GqaRefIdeal.Result

end
-- ==== Proof.GqaClaim.lean ====
/-
  The claims on the grouped-query attention: what its precondition says, the reference's frame, and the equality of the
  two arrays.
-/
module

public import proofs.«01_k».proof.Defs
public import proofs.«01_k».proof.Proof.GqaRef
public import proofs.«01_k».proof.Proof.Gen.GqaIdeal.Frame
public import proofs.«01_k».proof.Proof.Gen.GqaRefIdeal.Run
public import proofs.«01_k».proof.Proof.Gen.Pre_gqa_finite

@[expose] public section

set_option maxRecDepth 16384

noncomputable section

open Idealize.ShloMosaic Idealize.ShloMosaic.TcCoe Idealize.SL.Sem

namespace Cert.Pre_gqa_finite.Decoded

open Cert.Pre_gqa_finite Cert.Pre_gqa_finite.Gen Attn

variable (x0 : FVec Ideal S8x2304x512 .bf16) (x1 : FVec Ideal S8x256x2304 .bf16) (x2 : FVec Ideal S8x2304x256 .bf16)

/-- Where the precondition holds, the queries, the keys and the values are real numbers. -/
theorem decode (h : fn (F := Ideal) x0 x1 x2 = fun _ => 1#1) (b : Fin 8) (r : Fin 2304) :
    (∀ j : Fin 512, x0 (ix3 b r j) = (((x0 (ix3 b r j)).toReal : ℝ) : EReal))
      ∧ (∀ j : Fin 256, x1 (ix3 b j r) = (((x1 (ix3 b j r)).toReal : ℝ) : EReal))
      ∧ ∀ j : Fin 256, x2 (ix3 b r j) = (((x2 (ix3 b r j)).toReal : ℝ) : EReal) := by
  refine ⟨fun j => ?_, fun j => ?_, fun j => ?_⟩
  · have h' := congrFun h (ix3 b r j)
    revert h'
    pointwise [fn]
    intro h'
    simp only [IntOp.andi_eq_one] at h'
    exact finite_real _ h'.1
  · have h' := congrFun h (ix3 b r ⟨j, by omega⟩)
    revert h'
    pointwise [fn]
    intro h'
    simp only [IntOp.andi_eq_one, dif_pos j.isLt] at h'
    exact finite_real _ h'.2
  · have h' := congrFun h (ix3 b r ⟨256 + j, by omega⟩)
    revert h'
    pointwise [fn]
    intro h'
    simp only [IntOp.andi_eq_one, dif_neg (show ¬ 256 + j.val < 256 by omega), Nat.add_sub_cancel_left] at h'
    exact finite_real _ h'.2

end Cert.Pre_gqa_finite.Decoded

namespace Cert.GqaClaim

open Attn

/-- The idealized kernel and the reference leave one array. -/
theorem claim : Cert.algebraic_GqaIdeal_GqaRefIdeal_pre_gqa_finite := by
  intro m g m' g' hp ha
  have dec (c : Dev Cert.GqaIdeal.nD) := Cert.Pre_gqa_finite.Decoded.decode _ _ _ (hp c)
  have hR (c : Dev Cert.GqaIdeal.nD) := Cert.GqaRefIdeal.Result.result
    (m ((c.tc : Thread Cert.GqaIdeal.nD Cert.GqaIdeal.τ).loc Cert.GqaIdeal.main_arg0))
    (m ((c.tc : Thread Cert.GqaIdeal.nD Cert.GqaIdeal.τ).loc Cert.GqaIdeal.main_arg1))
    (m ((c.tc : Thread Cert.GqaIdeal.nD Cert.GqaIdeal.τ).loc Cert.GqaIdeal.main_arg2))
    _ _ _ (fun b r j => (dec c b r).1 j) (fun b r j => (dec c b j).2.1 r) (fun b r j => (dec c b r).2.2 j)
  have hK (c : Dev Cert.GqaIdeal.nD) := Cert.GqaIdeal.Head.array m c _ _ _
    (fun b r j => (dec c b r).1 j) (fun b r j => (dec c b j).2.1 r) (fun b r j => (dec c b r).2.2 j)
  refine ⟨fun c => (Cert.GqaIdeal.Gen.dats m 0 c).arrAt 4 Cert.GqaIdeal.cfg0.N, Cert.GqaIdeal.Value.run_blocks m g, ?_⟩
  refine (θ_run _ _ _).mono (fun r h c => ⟨(h c).1.trans ?_, (h c).2⟩) (Cert.GqaRefIdeal.Value.run m' g')
  rw [Cert.GqaRefIdeal.Read.val_main_v31_eq, (ha c).1, (ha c).2.1, (ha c).2.2]
  exact (hR c).trans (hK c).symm

/-- The reference's run keeps its arguments and ends with every counter at zero. -/
theorem reference_frame : Cert.quiescent_GqaRefIdeal := fun m g _ =>
  (θ_run Cert.GqaRefIdeal.defs _ _).mono
    (fun r h => ⟨fun c => (h c).2, Idealize.ShloMosaic.sem_eq_zero_of_no_sems (by decide) r.2⟩)
    (Cert.GqaRefIdeal.Value.run (F := Ideal) m g)

theorem reference_frame_finite : Cert.quiescent_GqaRefIdeal_pre_gqa_finite := fun m g _ => reference_frame m g trivial

end Cert.GqaClaim

end
-- ==== Proof.MixRow.lean ====
/-
  The mixer's output of one token, over the extended reals, as a function of the token's rows and of the weights: both
  the kernel's tiles and the reference's arrays are read as it.
-/
module

public import Idealize.ShloMosaic.Lib.Pointwise
public import Idealize.ShloMosaic.Lib.Pipeline.ValueKit

@[expose] public section

set_option maxRecDepth 16384

noncomputable section

open Idealize.ShloMosaic

namespace Mixer

/-- The mean of a row of 1024. -/
def mean (x : Fin 1024 → EReal) : EReal := Ideal.div (∑ k, x k) (Ideal.ofBits .f32 0x44800000#32)

/-- The layer norm of a row, without gain. -/
def norm (x : Fin 1024 → EReal) (j : Fin 1024) : EReal :=
  (x j - mean x) * Ideal.rsqrt (mean (fun k => (x k - mean x) * (x k - mean x)) + Ideal.ofBits .f32 0x3727C5AC#32)

/-- The layer norm of a row, scaled and shifted. -/
def modulate (x shift scale : Fin 1024 → EReal) (j : Fin 1024) : EReal :=
  norm x j * (1 + scale j) + shift j

/-- What one branch adds: the gate of the column times the branch's product. -/
def branch (u : Fin 1024 → EReal) (g : Fin 1024 → Fin 1024 → EReal) (o : Fin 512 → EReal)
    (w : Fin 512 → Fin 1024 → EReal) (j : Fin 1024) : EReal :=
  Ideal.logistic (∑ k, u k * g k j) * ∑ k, o k * w k j

/-- The weights of the layer that the mixer's output reads. -/
structure Weights where
  gate : Fin 3 → Fin 1024 → Fin 1024 → EReal
  branchA : Fin 512 → Fin 1024 → EReal
  branchB : Fin 512 → Fin 1024 → EReal
  branchC : Fin 512 → Fin 1024 → EReal
  out : Fin 1024 → Fin 1024 → EReal
  gain : Fin 1024 → EReal
  bias : Fin 1024 → EReal
  router : Fin 256 → Fin 1024 → EReal

/-- A token's rows: its hidden state, its eight modulation rows, its three branches' outputs. -/
structure Token where
  h : Fin 1024 → EReal
  m : Fin 8 → Fin 1024 → EReal
  oA : Fin 512 → EReal
  oB : Fin 512 → EReal
  oC : Fin 512 → EReal

/-- The layer's weights, from the arrays that hold them. -/
def weightsOf (x7 : Vec Ideal ⟨2, ![1024, 3072]⟩ .bf16) (x8 x9 x10 : Vec Ideal ⟨2, ![512, 1024]⟩ .bf16)
    (x11 : Vec Ideal ⟨2, ![1024, 1024]⟩ .bf16) (x12 x13 : Vec Ideal ⟨2, ![1, 1024]⟩ .f32)
    (x14 : Vec Ideal ⟨2, ![256, 1024]⟩ .bf16) : Weights where
  gate n k j := x7 (ix2 k ⟨1024 * n.val + j.val, by omega⟩)
  branchA k j := x8 (ix2 k j)
  branchB k j := x9 (ix2 k j)
  branchC k j := x10 (ix2 k j)
  out k j := x11 (ix2 k j)
  gain j := x12 (ix2 0 j)
  bias j := x13 (ix2 0 j)
  router e k := x14 (ix2 e k)

/-- A branch's output for a token: the context tokens lie in one array, the latent tokens in another. -/
def tokenRow (x : Vec Ideal ⟨2, ![16384, 512]⟩ .bf16) (y : Vec Ideal ⟨2, ![2048, 512]⟩ .bf16) (r : Fin 18432)
    (k : Fin 512) : EReal :=
  if r.val % 2304 < 256 then y (ix2 ⟨256 * (r.val / 2304) + r.val % 256, by omega⟩ k)
    else x (ix2 ⟨2048 * (r.val / 2304) + (r.val % 2304 - 256), by omega⟩ k)

/-- The token of a row, from the arrays: 2304 rows of each of eight images, the first 256 of them context tokens. -/
def token (x0 : Vec Ideal ⟨2, ![18432, 1024]⟩ .f32) (x1 : Vec Ideal ⟨3, ![9, 8, 1024]⟩ .f32)
    (x2 : Vec Ideal ⟨2, ![16384, 512]⟩ .bf16) (x3 : Vec Ideal ⟨2, ![2048, 512]⟩ .bf16)
    (x4 : Vec Ideal ⟨2, ![18432, 512]⟩ .bf16) (x5 : Vec Ideal ⟨2, ![16384, 512]⟩ .bf16)
    (x6 : Vec Ideal ⟨2, ![2048, 512]⟩ .bf16) (r : Fin 18432) : Token where
  h j := x0 (ix2 r j)
  m n j := if r.val % 2304 < 256 then x1 (ix3 8 n j) else x1 (ix3 ⟨r.val / 2304, by omega⟩ n j)
  oA := tokenRow x2 x3 r
  oB k := x4 (ix2 r k)
  oC := tokenRow x5 x6 r

variable (w : Weights) (t : Token)

/-- The gated sum of the branches. -/
def mixed (j : Fin 1024) : EReal :=
  branch (modulate t.h (t.m 0) (t.m 1)) (w.gate 0) t.oA w.branchA j
    + branch (modulate t.h (t.m 0) (t.m 1)) (w.gate 1) t.oB w.branchB j
    + branch (modulate t.h (t.m 0) (t.m 1)) (w.gate 2) t.oC w.branchC j

/-- The residual and the output product. -/
def residual (j : Fin 1024) : EReal :=
  Ideal.ofBits .f32 0x3FB504F3#32 * t.h j + t.m 2 j * ∑ k, mixed w t k * w.out k j

/-- The hidden state after the token mixing. -/
def hidden (j : Fin 1024) : EReal := norm (residual w t) j * w.gain j + w.bias j

/-- What the channel mixing reads. -/
def channel (j : Fin 1024) : EReal := modulate (hidden w t) (t.m 3) (t.m 4) j

/-- The router's score of an expert. -/
def score (e : Fin 256) : EReal := ∑ k, w.router e k * channel w t k

/-- What the channel mixing reads, laid out as eight rows of 128 lanes for each token. -/
def words (w : Weights) (T : Fin 18432 → Token) (p : Fin 147456) (q : Fin 128) : EReal :=
  channel w (T ⟨p.val / 8, by omega⟩) ⟨128 * (p.val % 8) + q.val, by omega⟩

end Mixer

end
-- ==== Proof.MixTile.lean ====
/-
  The mixer's output kernel on one tile of 256 tokens: what each of its three stores writes, at an index.
-/
module

public import proofs.«01_k».proof.Proof.MixRow
public import proofs.«01_k».proof.Proof.Gen.MixIdeal.Skeleton

@[expose] public section

set_option maxRecDepth 16384

noncomputable section

open Idealize.ShloMosaic

namespace Cert.MixIdeal.Tile

open Cert.MixIdeal Cert.MixIdeal.Gen Mixer

/-- A tile's rows less their means. -/
def centred (x : FVec Ideal S256x1024 .f32) : FVec Ideal S256x1024 .f32 :=
  subf x (broadcastTo S256x1024 (divf (shapeCast S256x1 (multiReduction .add [1] S256 x 0x00000000#32
    reduces_S256x1024_S256 (.inl rfl) rfl) shapeCasts_S256_S256x1) (broadcast S256x1 (Scalar.ofBits .f32 0x44800000#32)))
    broadcasts_S256x1_S256x1024)

/-- The reciprocal deviations of a tile's rows. -/
def spread (x : FVec Ideal S256x1024 .f32) : FVec Ideal S256x1 .f32 :=
  rsqrt (addf (divf (shapeCast S256x1 (multiReduction .add [1] S256 (mulf (centred x) (centred x)) 0x00000000#32
    reduces_S256x1024_S256 (.inl rfl) rfl) shapeCasts_S256_S256x1) (broadcast S256x1 (Scalar.ofBits .f32 0x44800000#32)))
    (broadcast S256x1 (Scalar.ofBits .f32 0x3727C5AC#32)))

/-- The layer norm of a tile's rows. -/
def normed (x : FVec Ideal S256x1024 .f32) : FVec Ideal S256x1024 .f32 :=
  mulf (centred x) (broadcastTo S256x1024 (spread x) broadcasts_S256x1_S256x1024)

theorem centred_apply (x : FVec Ideal S256x1024 .f32) (i : Fin 256) (j : Fin 1024) :
    centred x (ix2 i j) = x (ix2 i j) - mean (fun k => x (ix2 i k)) := by
  pointwise [centred]
  rfl

theorem normed_apply (x : FVec Ideal S256x1024 .f32) (i : Fin 256) (j : Fin 1024) :
    normed x (ix2 i j) = norm (fun k => x (ix2 i k)) j := by
  pointwise [normed, spread]
  simp only [centred_apply]
  rfl

/-- The tile that the gates' products read. -/
theorem input_apply (x0 : Vec Ideal S256x1024 .f32) (x1 : Vec Ideal S1x8x1024 .f32) (i : Fin 256) (j : Fin 1024) :
    k0_pay5 (F := Ideal) x0 x1 (ix2 i j)
      = modulate (fun k => x0 (ix2 i k)) (fun k => x1 (ix3 0 0 k)) (fun k => x1 (ix3 0 1 k)) j := by
  have e : k0_pay5 (F := Ideal) x0 x1 = truncf .bf16 (addf (mulf (normed x0) (broadcastTo S256x1024
      (addf (broadcast S1x1024 (Scalar.ofBits .f32 0x3F800000#32))
        (extractStridedSlice S1x1024 ![1, 0] (k0_pay4 (F := Ideal) x1) slices_S8x1024_o1_0_S1x1024))
      broadcasts_S1x1024_S256x1024)) (broadcastTo S256x1024
        (extractStridedSlice S1x1024 ![0, 0] (k0_pay4 (F := Ideal) x1) slices_S8x1024_o0_0_S1x1024)
      broadcasts_S1x1024_S256x1024)) bitsLt_bf16_f32 := rfl
  rw [e]
  pointwise [k0_pay4]
  simp only [normed_apply]
  rfl

/-- The output product of the gated branches. -/
theorem product_apply (u : FVec Ideal S256x1024 .bf16) (a0 a1 c0 c1 b oa oc : Vec Ideal S256x512 .bf16)
    (d n : BitVec 32) (z : BitVec 1) (g0 g1 g2 wo : Vec Ideal S1024x1024 .bf16) (wa wb wc : Vec Ideal S512x1024 .bf16)
    (ha : Scalar.select (Scalar.cmpi .eq (Scalar.select z (Scalar.addi n d) n) 0#32) a1 a0 = oa)
    (hc : Scalar.select (Scalar.cmpi .eq (Scalar.select z (Scalar.addi n d) n) 0#32) c1 c0 = oc)
    (G : Fin 3 → Fin 1024 → Fin 1024 → EReal) (h0 : ∀ k j, g0 (ix2 k j) = G 0 k j) (h1 : ∀ k j, g1 (ix2 k j) = G 1 k j)
    (h2 : ∀ k j, g2 (ix2 k j) = G 2 k j) (i : Fin 256) (j : Fin 1024) :
    k0_pay6 (F := Ideal) u a0 c0 d n z a1 c1 b g0 wa g1 wb g2 wc wo (ix2 i j)
      = ∑ k, (branch (fun k => u (ix2 i k)) (G 0) (fun k => oa (ix2 i k)) (fun k j => wa (ix2 k j)) k
          + branch (fun k => u (ix2 i k)) (G 1) (fun k => b (ix2 i k)) (fun k j => wb (ix2 k j)) k
          + branch (fun k => u (ix2 i k)) (G 2) (fun k => oc (ix2 i k)) (fun k j => wc (ix2 k j)) k)
        * wo (ix2 k j) := by
  unfold k0_pay6
  simp only [ha, hc]
  pointwise
  simp only [h0, h1, h2]
  rfl

/-- The residual stream before its norm. -/
def stream (x : Vec Ideal S256x1024 .f32) (m : FVec Ideal S8x1024 .f32) (z : FVec Ideal S256x1024 .f32) :
    FVec Ideal S256x1024 .f32 :=
  addf (mulf (broadcast S256x1024 (Scalar.ofBits .f32 0x3FB504F3#32)) x)
    (mulf (broadcastTo S256x1024 (extractStridedSlice S1x1024 ![2, 0] m slices_S8x1024_o2_0_S1x1024)
      broadcasts_S1x1024_S256x1024) z)

/-- The hidden state that the first store writes. -/
theorem hidden_apply (x : Vec Ideal S256x1024 .f32) (m : FVec Ideal S8x1024 .f32) (z : FVec Ideal S256x1024 .f32)
    (g b : Vec Ideal S1x1024 .f32) (i : Fin 256) (j : Fin 1024) :
    k0_pay7 (F := Ideal) x m z (Scalar.ofBits .f32 0x3FB504F3#32) g b (ix2 i j)
      = norm (fun k => Ideal.ofBits .f32 0x3FB504F3#32 * x (ix2 i k) + m (ix2 2 k) * z (ix2 i k)) j * g (ix2 0 j)
        + b (ix2 0 j) := by
  have e : k0_pay7 (F := Ideal) x m z (Scalar.ofBits .f32 0x3FB504F3#32) g b
      = addf (mulf (normed (stream x m z)) (broadcastTo S256x1024 g broadcasts_S1x1024_S256x1024))
        (broadcastTo S256x1024 b broadcasts_S1x1024_S256x1024) := rfl
  rw [e]
  pointwise
  simp only [normed_apply]
  have hs (k : Fin 1024) : stream x m z (ix2 i k)
      = Ideal.ofBits .f32 0x3FB504F3#32 * x (ix2 i k) + m (ix2 2 k) * z (ix2 i k) := by
    pointwise [stream]
  simp only [hs]

/-- What the channel mixing reads, as the other two stores are given it. -/
theorem channel_apply (x : Vec Ideal S256x1024 .f32) (m : FVec Ideal S8x1024 .f32) (z : FVec Ideal S256x1024 .f32)
    (g b : Vec Ideal S1x1024 .f32) (i : Fin 256) (j : Fin 1024) :
    k0_pay1 (F := Ideal) m (k0_pay8 (F := Ideal) x m z (Scalar.ofBits .f32 0x3FB504F3#32) g b)
        (k0_pay9 (F := Ideal) x m z (Scalar.ofBits .f32 0x3FB504F3#32) g b) (ix2 i j)
      = modulate (fun k => k0_pay7 (F := Ideal) x m z (Scalar.ofBits .f32 0x3FB504F3#32) g b (ix2 i k))
        (fun k => m (ix2 3 k)) (fun k => m (ix2 4 k)) j := by
  have e : k0_pay1 (F := Ideal) m (k0_pay8 (F := Ideal) x m z (Scalar.ofBits .f32 0x3FB504F3#32) g b)
        (k0_pay9 (F := Ideal) x m z (Scalar.ofBits .f32 0x3FB504F3#32) g b)
      = addf (mulf (normed (k0_pay7 (F := Ideal) x m z (Scalar.ofBits .f32 0x3FB504F3#32) g b)) (broadcastTo S256x1024
          (addf (broadcast S1x1024 (Scalar.ofBits .f32 0x3F800000#32))
            (extractStridedSlice S1x1024 ![4, 0] m slices_S8x1024_o4_0_S1x1024)) broadcasts_S1x1024_S256x1024))
        (broadcastTo S256x1024 (extractStridedSlice S1x1024 ![3, 0] m slices_S8x1024_o3_0_S1x1024)
          broadcasts_S1x1024_S256x1024) := rfl
  rw [e]
  pointwise
  simp only [normed_apply]
  rfl

/-- The words that the second store writes: a token's 1024 lanes are eight rows of 128. -/
theorem words_apply (m : FVec Ideal S8x1024 .f32) (a : FVec Ideal S256x1024 .f32) (s : FVec Ideal S256x1 .f32)
    (i : Fin 2048) (j : Fin 128) :
    k0_pay2 (F := Ideal) m a s (ix2 i j)
      = k0_pay1 (F := Ideal) m a s (ix2 ⟨i.val / 8, by omega⟩ ⟨128 * (i.val % 8) + j.val, by omega⟩) := by
  unfold k0_pay2
  pointwise
  congr 2 <;> exact Fin.ext (by simp only []; omega)

/-- The router's scores that the third store writes. -/
theorem score_apply (m : FVec Ideal S8x1024 .f32) (a : FVec Ideal S256x1024 .f32) (s : FVec Ideal S256x1 .f32)
    (r : Vec Ideal S256x1024 .bf16) (e i : Fin 256) :
    k0_pay3 (F := Ideal) m a s r (ix2 e i) = ∑ k, r (ix2 e k) * k0_pay1 (F := Ideal) m a s (ix2 i k) := by
  unfold k0_pay3
  pointwise

end Cert.MixIdeal.Tile

end
-- ==== Proof.MixBlock.lean ====
/-
  What the mixer's output kernel leaves in its three blocks, from the blocks of its operands: each row of a tile is one
  token, and a tile is all of context or all of latent tokens.
-/
module

public import proofs.«01_k».proof.Proof.MixTile
public import proofs.«01_k».proof.Proof.Gen.MixIdeal.Value

@[expose] public section

set_option maxRecDepth 16384

noncomputable section

open Idealize.ShloMosaic

namespace Cert.MixIdeal.Tile

open Cert.MixIdeal Cert.MixIdeal.Gen Mixer

/-- The token of a tile's row. -/
def tokenOf (x0 : Vec Ideal S256x1024 .f32) (x1 : Vec Ideal S1x8x1024 .f32) (oa ob oc : Vec Ideal S256x512 .bf16)
    (r : Fin 256) : Token where
  h j := x0 (ix2 r j)
  m n j := x1 (ix3 0 n j)
  oA k := oa (ix2 r k)
  oB k := ob (ix2 r k)
  oC k := oc (ix2 r k)

/-- The kernel's remainder of the grid point by nine, before its sign is set right. -/
def rest (n : ℕ) : BitVec 32 := Scalar.remsi (BitVec.ofNat 32 n) (Scalar.select (Scalar.cmpi .eq 9#32 0#32) 1#32 9#32)

/-- Whether the kernel sets the remainder's sign right. -/
def turned (n : ℕ) : BitVec 1 := Scalar.andi (Scalar.xori (Scalar.cmpi .slt (rest n) 0#32)
  (Scalar.cmpi .slt (Scalar.select (Scalar.cmpi .eq 9#32 0#32) 1#32 9#32) 0#32)) (Scalar.cmpi .ne (rest n) 0#32)

/-- Whether the kernel takes the tile for one of context tokens. -/
def isContext (n : ℕ) : BitVec 1 := Scalar.cmpi .eq (Scalar.select (turned n)
  (Scalar.addi (rest n) (Scalar.select (Scalar.cmpi .eq 9#32 0#32) 1#32 9#32)) (rest n)) 0#32

/-- It does for every ninth tile. -/
theorem isContext_eq : ∀ t : Fin 72, isContext t.val = if t.val % 9 = 0 then 1#1 else 0#1 := by decide +kernel

/-- Loading a whole block is the block. -/
theorem whole0 {e : EltTy} (x : Vec Ideal S256x1024 e) : View.ld x r0_0 = x :=
  View.ld_unit_zero (by funext a; fin_cases a <;> rfl) _ x

theorem whole2 (x : Vec Ideal S256x512 .bf16) : View.ld x r0_2 = x :=
  View.ld_unit_zero (by funext a; fin_cases a <;> rfl) _ x

theorem whole4 (x : Vec Ideal S512x1024 .bf16) : View.ld x r0_4 = x :=
  View.ld_unit_zero (by funext a; fin_cases a <;> rfl) _ x

theorem whole7 (x : Vec Ideal S1024x1024 .bf16) : View.ld x r0_7 = x :=
  View.ld_unit_zero (by funext a; fin_cases a <;> rfl) _ x

theorem whole8 (x : Vec Ideal S1x1024 .f32) : View.ld x r0_8 = x :=
  View.ld_unit_zero (by funext a; fin_cases a <;> rfl) _ x

theorem whole3 (x : Vec Ideal S1x8x1024 .f32) : View.ld x r0_1 = x :=
  View.ld_unit_zero (by funext a; fin_cases a <;> rfl) _ x

/-- The three column slices of the gates' weights. -/
theorem gate0 (x : Vec Ideal S1024x3072 .bf16) (k j : Fin 1024) :
    View.ld x r0_3 (ix2 k j) = x (ix2 k ⟨1024 * (0 : Fin 3).val + j.val, by omega⟩) := by
  pointwise

theorem gate1 (x : Vec Ideal S1024x3072 .bf16) (k j : Fin 1024) :
    View.ld x r0_5 (ix2 k j) = x (ix2 k ⟨1024 * (1 : Fin 3).val + j.val, by omega⟩) := by
  pointwise

theorem gate2 (x : Vec Ideal S1024x3072 .bf16) (k j : Fin 1024) :
    View.ld x r0_6 (ix2 k j) = x (ix2 k ⟨1024 * (2 : Fin 3).val + j.val, by omega⟩) := by
  pointwise

variable (i : grid0.Coords) (x0 : Vec Ideal S256x1024 .f32) (x1 : Vec Ideal S1x8x1024 .f32)
  (x2 x3 x4 x5 x6 : Vec Ideal S256x512 .bf16) (x7 : Vec Ideal S1024x3072 .bf16) (x8 x9 x10 : Vec Ideal S512x1024 .bf16)
  (x11 : Vec Ideal S1024x1024 .bf16) (x12 x13 : Vec Ideal S1x1024 .f32) (x14 : Vec Ideal S256x1024 .bf16)
  (oa oc : Vec Ideal S256x512 .bf16) (ha : Scalar.select (isContext (i 0).val) x3 x2 = oa)
  (hc : Scalar.select (isContext (i 0).val) x6 x5 = oc)

include ha hc

/-- The output product, at a token. -/
theorem product_block (r : Fin 256) (j : Fin 1024) :
    k0_pay11 (F := Ideal) i x0 x1 x2 x3 x4 x5 x6 x7 x8 x9 x10 x11 x12 x13 x14 (ix2 r j)
      = ∑ k, mixed (weightsOf x7 x8 x9 x10 x11 x12 x13 x14) (tokenOf x0 x1 oa x4 oc r) k * x11 (ix2 k j) := by
  unfold k0_pay11
  rw [whole0, whole2 x2, whole2 x3, whole2 x4, whole2 x5, whole2 x6, whole3, whole4 x8, whole4 x9, whole4 x10, whole7]
  refine (product_apply _ _ _ _ _ _ oa oc _ _ _ _ _ _ _ _ _ _ ha hc
    (weightsOf x7 x8 x9 x10 x11 x12 x13 x14).gate (gate0 x7) (gate1 x7) (gate2 x7) r j).trans ?_
  simp only [input_apply]
  rfl

/-- The hidden state, at a token. -/
theorem hidden_block (r : Fin 256) (j : Fin 1024) :
    k0_pay7 (F := Ideal) (View.ld x0 r0_0) (k0_pay10 i x0 x1 x2 x3 x4 x5 x6 x7 x8 x9 x10 x11 x12 x13 x14)
        (k0_pay11 i x0 x1 x2 x3 x4 x5 x6 x7 x8 x9 x10 x11 x12 x13 x14) (Scalar.ofBits .f32 0x3FB504F3#32)
        (View.ld x12 r0_8) (View.ld x13 r0_8) (ix2 r j)
      = hidden (weightsOf x7 x8 x9 x10 x11 x12 x13 x14) (tokenOf x0 x1 oa x4 oc r) j := by
  rw [hidden_apply]
  simp only [product_block i x0 x1 x2 x3 x4 x5 x6 x7 x8 x9 x10 x11 x12 x13 x14 oa oc ha hc]
  rw [whole0, whole8, whole8]
  have e (k : Fin 1024) : k0_pay10 (F := Ideal) i x0 x1 x2 x3 x4 x5 x6 x7 x8 x9 x10 x11 x12 x13 x14 (ix2 2 k) = x1 (ix3 0 2 k) := by
    unfold k0_pay10
    rw [whole3]
    pointwise [k0_pay4]
  simp only [e]
  rfl

/-- What the channel mixing reads, at a token. -/
theorem channel_block (r : Fin 256) (j : Fin 1024) :
    k0_pay1 (F := Ideal) (k0_pay10 i x0 x1 x2 x3 x4 x5 x6 x7 x8 x9 x10 x11 x12 x13 x14)
        (k0_pay12 i x0 x1 x2 x3 x4 x5 x6 x7 x8 x9 x10 x11 x12 x13 x14)
        (k0_pay13 i x0 x1 x2 x3 x4 x5 x6 x7 x8 x9 x10 x11 x12 x13 x14) (ix2 r j)
      = channel (weightsOf x7 x8 x9 x10 x11 x12 x13 x14) (tokenOf x0 x1 oa x4 oc r) j := by
  unfold k0_pay12 k0_pay13
  rw [channel_apply]
  simp only [hidden_block i x0 x1 x2 x3 x4 x5 x6 x7 x8 x9 x10 x11 x12 x13 x14 oa oc ha hc]
  have e (n : Fin 8) (k : Fin 1024) :
      k0_pay10 (F := Ideal) i x0 x1 x2 x3 x4 x5 x6 x7 x8 x9 x10 x11 x12 x13 x14 (ix2 n k) = x1 (ix3 0 n k) := by
    unfold k0_pay10
    rw [whole3]
    pointwise [k0_pay4]
  simp only [e]
  rfl

/-- The first result's block. -/
theorem block15 (r : Fin 256) (j : Fin 1024) :
    out0_15 (F := Ideal) i x0 x1 x2 x3 x4 x5 x6 x7 x8 x9 x10 x11 x12 x13 x14 (ix2 r j)
      = hidden (weightsOf x7 x8 x9 x10 x11 x12 x13 x14) (tokenOf x0 x1 oa x4 oc r) j := by
  unfold out0_15
  rw [View.canon_unit_zero (by funext a; fin_cases a <;> rfl)]
  exact hidden_block i x0 x1 x2 x3 x4 x5 x6 x7 x8 x9 x10 x11 x12 x13 x14 oa oc ha hc r j

/-- The second result's block. -/
theorem block16 (r : Fin 2048) (j : Fin 128) :
    out0_16 (F := Ideal) i x0 x1 x2 x3 x4 x5 x6 x7 x8 x9 x10 x11 x12 x13 x14 (ix2 r j)
      = channel (weightsOf x7 x8 x9 x10 x11 x12 x13 x14) (tokenOf x0 x1 oa x4 oc ⟨r.val / 8, by omega⟩)
        ⟨128 * (r.val % 8) + j.val, by omega⟩ := by
  unfold out0_16
  rw [View.canon_unit_zero (by funext a; fin_cases a <;> rfl), words_apply]
  exact channel_block i x0 x1 x2 x3 x4 x5 x6 x7 x8 x9 x10 x11 x12 x13 x14 oa oc ha hc _ _

/-- The third result's block. -/
theorem block17 (e r : Fin 256) :
    out0_17 (F := Ideal) i x0 x1 x2 x3 x4 x5 x6 x7 x8 x9 x10 x11 x12 x13 x14 (ix2 e r)
      = score (weightsOf x7 x8 x9 x10 x11 x12 x13 x14) (tokenOf x0 x1 oa x4 oc r) e := by
  unfold out0_17
  rw [View.canon_unit_zero (by funext a; fin_cases a <;> rfl), score_apply, whole0]
  simp only [channel_block i x0 x1 x2 x3 x4 x5 x6 x7 x8 x9 x10 x11 x12 x13 x14 oa oc ha hc]
  rfl

end Cert.MixIdeal.Tile

end
-- ==== Proof.MixArray.lean ====
/-
  The three results of the mixer's output kernel, from the arguments: the grid's blocks tile each array, and each block
  holds what its own point wrote.
-/
module

public import proofs.«01_k».proof.Proof.MixBlock

@[expose] public section

set_option maxRecDepth 16384

noncomputable section

open Idealize.ShloMosaic Idealize.ShloMosaic.TcCoe Idealize.SL.Sem

namespace Cert.MixIdeal.Tile

open Cert.MixIdeal Cert.MixIdeal.Gen Mixer

/-- Which block of its operand each window holds at a grid point. -/
theorem index_maps : ∀ t : Fin cfg0.N,
    win0_0.index t = ![(grid0.coords t 0).val, 0]
      ∧ win0_1.index t = ![if (grid0.coords t 0).val % 9 = 0 then 8 else (grid0.coords t 0).val / 9, 0, 0]
      ∧ win0_2.index t = ![8 * ((grid0.coords t 0).val / 9) + ((grid0.coords t 0).val % 9 - 1), 0]
      ∧ win0_3.index t = ![(grid0.coords t 0).val / 9, 0] ∧ win0_4.index t = ![(grid0.coords t 0).val, 0]
      ∧ win0_5.index t = ![8 * ((grid0.coords t 0).val / 9) + ((grid0.coords t 0).val % 9 - 1), 0]
      ∧ win0_6.index t = ![(grid0.coords t 0).val / 9, 0] := by
  decide +kernel

/-- The weights' windows hold them whole. -/
theorem weight_maps : ∀ t : Fin cfg0.N,
    win0_7.index t = ![0, 0] ∧ win0_8.index t = ![0, 0] ∧ win0_9.index t = ![0, 0] ∧ win0_10.index t = ![0, 0]
      ∧ win0_11.index t = ![0, 0] ∧ win0_12.index t = ![0, 0] ∧ win0_13.index t = ![0, 0] ∧ win0_14.index t = ![0, 0] := by
  decide +kernel

/-- The blocks of the results that each grid point writes. -/
theorem result_maps : ∀ t : Fin cfg0.N,
    win0_15.index t = ![(grid0.coords t 0).val, 0] ∧ win0_16.index t = ![(grid0.coords t 0).val, 0]
      ∧ win0_17.index t = ![0, (grid0.coords t 0).val] := by
  decide +kernel

variable (m : (ℓ : Loc nD τ sig) → Buf (Elt Ideal) ℓ) (c : Dev nD)

/-- The weights, as the arguments hold them. -/
def weights : Weights :=
  weightsOf
    (m ((c : Thread nD τ).loc main_arg7)) (m ((c : Thread nD τ).loc main_arg8)) (m ((c : Thread nD τ).loc main_arg9))
    (m ((c : Thread nD τ).loc main_arg10)) (m ((c : Thread nD τ).loc main_arg11))
    (m ((c : Thread nD τ).loc main_arg12)) (m ((c : Thread nD τ).loc main_arg13))
    (m ((c : Thread nD τ).loc main_arg14))

/-- A row's token, as the arguments hold it. -/
def tokens (r : Fin 18432) : Token :=
  token
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) r

/-- Every grid point's blocks of the weights are the weights. -/
theorem weights_block (t : Fin cfg0.N) :
    weightsOf (iblk m c 7 t) (iblk m c 8 t) (iblk m c 9 t) (iblk m c 10 t) (iblk m c 11 t)
      (iblk m c 12 t) (iblk m c 13 t) (iblk m c 14 t) = weights m c := by
  obtain ⟨e7, e8, e9, e10, e11, e12, e13, e14⟩ := weight_maps t
  unfold weights weightsOf
  congr 1
  · funext n k j
    blk_ext [iblk, V, e7]
  · funext k j
    blk_ext [iblk, V, e8]
  · funext k j
    blk_ext [iblk, V, e9]
  · funext k j
    blk_ext [iblk, V, e10]
  · funext k j
    blk_ext [iblk, V, e11]
  · funext j
    blk_ext [iblk, V, e12]
  · funext j
    blk_ext [iblk, V, e13]
  · funext k j
    blk_ext [iblk, V, e14]

/-- The blocks of context tokens and of latent tokens, whichever the kernel takes, hold a branch's outputs. -/
theorem token_select (t : Fin cfg0.N) (b0 b1 : Vec Ideal S256x512 .bf16) (x : Vec Ideal S16384x512 .bf16)
    (y : Vec Ideal S2048x512 .bf16) (i : Fin 256) (k : Fin 512) (r : Fin 18432)
    (hr : r.val = 256 * (grid0.coords t 0).val + i.val)
    (h1 : ∀ s : Fin 2048, s.val = 256 * ((grid0.coords t 0).val / 9) + i.val → b1 (ix2 i k) = y (ix2 s k))
    (h0 : ∀ s : Fin 16384, s.val = 256 * (8 * ((grid0.coords t 0).val / 9) + ((grid0.coords t 0).val % 9 - 1)) + i.val →
      b0 (ix2 i k) = x (ix2 s k)) :
    Scalar.select (isContext (grid0.coords t 0).val) b1 b0 (ix2 i k) = tokenRow x y r k := by
  have hk : (grid0.coords t 0).val < 72 := (grid0.coords t 0).isLt
  rw [isContext_eq ⟨(grid0.coords t 0).val, hk⟩]
  unfold tokenRow
  by_cases h9 : (grid0.coords t 0).val % 9 = 0
  · rw [if_pos h9, if_pos (by omega)]
    exact h1 _ (by simp only []; omega)
  · rw [if_neg h9, if_neg (by omega)]
    exact h0 _ (by simp only []; omega)

/-- A grid point's blocks hold the tokens of its 256 rows. -/
theorem tokens_block (t : Fin cfg0.N) (i : Fin 256) (r : Fin 18432) (hr : r.val = 256 * (grid0.coords t 0).val + i.val) :
    tokenOf (iblk m c 0 t) (iblk m c 1 t) (Scalar.select (isContext (grid0.coords t 0).val) (iblk m c 3 t) (iblk m c 2 t))
      (iblk m c 4 t) (Scalar.select (isContext (grid0.coords t 0).val) (iblk m c 6 t) (iblk m c 5 t)) i = tokens m c r := by
  obtain ⟨e0, e1, e2, e3, e4, e5, e6⟩ := index_maps t
  have hk : (grid0.coords t 0).val < 72 := (grid0.coords t 0).isLt
  unfold tokens token tokenOf
  congr 1
  · funext j
    blk_ext [iblk, V, e0, hr]
  · funext n j
    by_cases h9 : (grid0.coords t 0).val % 9 = 0
    · rw [if_pos (by omega)]
      rw [if_pos h9] at e1
      blk_ext [iblk, V, e1]
    · rw [if_neg (by omega)]
      rw [if_neg h9] at e1
      blk_ext [iblk, V, e1]
  · funext k
    refine token_select t _ _ _ _ i k r hr (fun s hs => ?_) fun s hs => ?_
    · blk_ext [iblk, V, e3, hs]
    · blk_ext [iblk, V, e2, hs]
  · funext k
    blk_ext [iblk, V, e4, hr]
  · funext k
    refine token_select t _ _ _ _ i k r hr (fun s hs => ?_) fun s hs => ?_
    · blk_ext [iblk, V, e6, hs]
    · blk_ext [iblk, V, e5, hs]

/-- An index of rank two is a pair. -/
theorem idx2 {n k : ℕ} (y : (⟨2, ![n, k]⟩ : Shape).Idx) : ∃ (a : Fin n) (b : Fin k), y = ix2 a b :=
  ⟨y 0, y 1, by funext a; fin_cases a <;> rfl⟩

/-- The first array the kernel leaves. -/
theorem array15 : (dats m 0 c).arrAt 15 cfg0.N = fun x : S18432x1024.Idx => hidden (weights m c) (tokens m c (x 0)) (x 1) := by
  refine (dats m 0 c).arrAt_eq_of_covers 15 _ (by decide +kernel) fun t hf y => ?_
  blk_simp
  rw [after0_15]
  obtain ⟨e15, e16, e17⟩ := result_maps t
  have hk : (grid0.coords t 0).val < 72 := (grid0.coords t 0).isLt
  obtain ⟨a, b, rfl⟩ := idx2 (n := 256) (k := 1024) y
  have a0 : ((View.whole main_v0_0).slice (win0_15.rect t)).emb (ix2 a b) 0 = (⟨256 * (grid0.coords t 0).val + a.val, by omega⟩ : Fin 18432) :=
    Fin.ext (by
      blk_simp [e15]
      show (grid0.coords t 0).val * 256 + a.val = 256 * (grid0.coords t 0).val + a.val
      omega)
  have a1 : ((View.whole main_v0_0).slice (win0_15.rect t)).emb (ix2 a b) 1 = (⟨b.val, by omega⟩ : Fin 1024) :=
    Fin.ext (by
      blk_simp [e15])
  refine (block15 (grid0.coords t) _ _ _ _ _ _ _ _ _ _ _ _ _ _ _ _ _ rfl rfl a b).trans ?_
  rw [weights_block, tokens_block m c t _ ⟨256 * (grid0.coords t 0).val + a.val, by omega⟩ rfl, a0, a1]

/-- The second array the kernel leaves: eight rows of 128 lanes for each token. -/
theorem array16 : (dats m 0 c).arrAt 16 cfg0.N = fun x : S147456x128.Idx => words (weights m c) (tokens m c) (x 0) (x 1) := by
  refine (dats m 0 c).arrAt_eq_of_covers 16 _ (by decide +kernel) fun t hf y => ?_
  blk_simp
  rw [after0_16]
  obtain ⟨e15, e16, e17⟩ := result_maps t
  have hk : (grid0.coords t 0).val < 72 := (grid0.coords t 0).isLt
  obtain ⟨a, b, rfl⟩ := idx2 (n := 2048) (k := 128) y
  have a0 : ((View.whole main_v0_1).slice (win0_16.rect t)).emb (ix2 a b) 0 = (⟨2048 * (grid0.coords t 0).val + a.val, by omega⟩ : Fin 147456) :=
    Fin.ext (by
      blk_simp [e16]
      show (grid0.coords t 0).val * 2048 + a.val = 2048 * (grid0.coords t 0).val + a.val
      omega)
  have a1 : ((View.whole main_v0_1).slice (win0_16.rect t)).emb (ix2 a b) 1 = (⟨b.val, by omega⟩ : Fin 128) :=
    Fin.ext (by
      blk_simp [e16])
  refine (block16 (grid0.coords t) _ _ _ _ _ _ _ _ _ _ _ _ _ _ _ _ _ rfl rfl a b).trans ?_
  rw [weights_block, tokens_block m c t _ ⟨256 * (grid0.coords t 0).val + a.val / 8, by omega⟩ rfl, a0, a1]
  unfold words
  congr 3
  · show 256 * (grid0.coords t 0).val + a.val / 8 = (2048 * (grid0.coords t 0).val + a.val) / 8
    omega
  · show 128 * (a.val % 8) = 128 * ((2048 * (grid0.coords t 0).val + a.val) % 8)
    omega

/-- The third array the kernel leaves. -/
theorem array17 : (dats m 0 c).arrAt 17 cfg0.N = fun x : S256x18432.Idx => score (weights m c) (tokens m c (x 1)) (x 0) := by
  refine (dats m 0 c).arrAt_eq_of_covers 17 _ (by decide +kernel) fun t hf y => ?_
  blk_simp
  rw [after0_17]
  obtain ⟨e15, e16, e17⟩ := result_maps t
  have hk : (grid0.coords t 0).val < 72 := (grid0.coords t 0).isLt
  obtain ⟨a, b, rfl⟩ := idx2 (n := 256) (k := 256) y
  have a0 : ((View.whole main_v0_2).slice (win0_17.rect t)).emb (ix2 a b) 0 = (⟨a.val, by omega⟩ : Fin 256) :=
    Fin.ext (by
      blk_simp [e17])
  have a1 : ((View.whole main_v0_2).slice (win0_17.rect t)).emb (ix2 a b) 1 = (⟨256 * (grid0.coords t 0).val + b.val, by omega⟩ : Fin 18432) :=
    Fin.ext (by
      blk_simp [e17]
      show (grid0.coords t 0).val * 256 + b.val = 256 * (grid0.coords t 0).val + b.val
      omega)
  refine (block17 (grid0.coords t) _ _ _ _ _ _ _ _ _ _ _ _ _ _ _ _ _ rfl rfl a b).trans ?_
  rw [weights_block, tokens_block m c t _ ⟨256 * (grid0.coords t 0).val + b.val, by omega⟩ rfl, a0, a1]

end Cert.MixIdeal.Tile

end
-- ==== Proof.MixRef.lean ====
/-
  The reference of the mixer's output, read at a token: each of its three results is the token's own function, as the
  kernel's blocks are.
-/
module

public import proofs.«01_k».proof.Proof.MixRow
public import proofs.«01_k».proof.Proof.Gen.MixRefIdeal.Read

@[expose] public section

set_option maxRecDepth 16384

noncomputable section

open Idealize.ShloMosaic

namespace Cert.MixRefIdeal.Result

open Cert.MixRefIdeal Cert.MixRefIdeal.Gen Cert.MixRefIdeal.Read Mixer

/-! ## The reference's own steps, each over any array -/

/-- The means of the rows. -/
def rowMean (x : FVec Ideal S18432x1024 .f32) : FVec Ideal S18432x1 .f32 :=
  Host.divf (broadcastInDim S18432x1 ![0] bcast_S18432_S18432x1_0
    (Host.reduceAdd x (val_main_cst (F := Ideal)) reducesTo_S18432x1024_S18432_d1 h_S_)) (val_main_v20 (F := Ideal))

/-- The rows less their means. -/
def rowCentred (x : FVec Ideal S18432x1024 .f32) : FVec Ideal S18432x1024 .f32 :=
  subf x (broadcastInDim S18432x1024 ![0, 1] bcast_S18432x1_S18432x1024_0_1 (rowMean x))

/-- The layer norm of the rows. -/
def rowNorm (x : FVec Ideal S18432x1024 .f32) : FVec Ideal S18432x1024 .f32 :=
  mulf (rowCentred x) (broadcastInDim S18432x1024 ![0, 1] bcast_S18432x1_S18432x1024_0_1
    (Host.rsqrt (addf (rowMean (mulf (rowCentred x) (rowCentred x))) (val_main_v31 (F := Ideal)))))

/-- The layer norm of the rows, scaled and shifted. -/
def rowModulate (x b a : FVec Ideal S18432x1024 .f32) : FVec Ideal S18432x1024 .f32 :=
  addf (mulf (rowNorm x) (addf (val_main_v36 (F := Ideal)) a)) b

/-- The logistic function of an array. -/
def logistics (x : FVec Ideal S18432x1024 .f32) : FVec Ideal S18432x1024 .f32 :=
  Host.divf (val_main_v51 (F := Ideal)) (addf (val_main_v49 (F := Ideal)) (Host.exp (Host.negf x)))

/-- The modulation rows of all tokens: one row for the context tokens, one for each image's latent tokens. -/
def params (a : FVec Ideal S1x1x1024 .f32) (b : FVec Ideal S8x1x1024 .f32) : FVec Ideal S18432x1024 .f32 :=
  shapeCast _ (concatenate S8x2304x1024 1
    [⟨S8x256x1024, broadcastInDim S8x256x1024 ![2] bcast_S1024_S8x256x1024_2 (shapeCast S1024 a shapeCasts_S1x1x1024_S1024)⟩,
      ⟨S8x2048x1024, broadcastInDim S8x2048x1024 ![0, 1, 2] bcast_S8x1x1024_S8x2048x1024_0_1_2
        (broadcastInDim S8x1x1024 ![0, 2] bcast_S8x1024_S8x1x1024_0_2 (shapeCast S8x1024 b shapeCasts_S8x1x1024_S8x1024))⟩]
    concatenates_S8x256x1024_S8x2048x1024_S8x2304x1024_d1) shapeCasts_S8x2304x1024_S18432x1024

theorem rowMean_apply (x : FVec Ideal S18432x1024 .f32) (r : Fin 18432) :
    rowMean x (ix2 r 0) = mean (fun k => x (ix2 r k)) := by
  pointwise [rowMean, val_main_cst, val_main_v20, val_main_cst_0]
  rfl

theorem rowCentred_apply (x : FVec Ideal S18432x1024 .f32) (r : Fin 18432) (j : Fin 1024) :
    rowCentred x (ix2 r j) = x (ix2 r j) - mean (fun k => x (ix2 r k)) := by
  pointwise [rowCentred]
  simp only [rowMean_apply]

theorem rowNorm_apply (x : FVec Ideal S18432x1024 .f32) (r : Fin 18432) (j : Fin 1024) :
    rowNorm x (ix2 r j) = norm (fun k => x (ix2 r k)) j := by
  pointwise [rowNorm, val_main_v31, val_main_cst_3]
  simp only [rowMean_apply, rowCentred_apply]
  pointwise
  simp only [rowCentred_apply]
  rfl

theorem rowModulate_apply (x b a : FVec Ideal S18432x1024 .f32) (r : Fin 18432) (j : Fin 1024) :
    rowModulate x b a (ix2 r j)
      = modulate (fun k => x (ix2 r k)) (fun k => b (ix2 r k)) (fun k => a (ix2 r k)) j := by
  pointwise [rowModulate, val_main_v36, val_main_cst_4]
  simp only [rowNorm_apply]
  rfl

theorem logistics_apply (x : FVec Ideal S18432x1024 .f32) (r : Fin 18432) (j : Fin 1024) :
    logistics x (ix2 r j) = Ideal.logistic (x (ix2 r j)) := by
  pointwise [logistics, val_main_v51, val_main_v49, val_main_cst_5, val_main_cst_6]
  rfl

theorem params_apply (a : FVec Ideal S1x1x1024 .f32) (b : FVec Ideal S8x1x1024 .f32) (r : Fin 18432) (j : Fin 1024) :
    params a b (ix2 r j) = if r.val % 2304 < 256 then a (ix3 0 0 j) else b (ix3 ⟨r.val / 2304, by omega⟩ 0 j) := by
  pointwise [params]
  rfl

/-- A branch's outputs for all tokens: the context tokens' before the latent tokens', image by image. -/
def joined (x : FVec Ideal S16384x512 .bf16) (y : FVec Ideal S2048x512 .bf16) : FVec Ideal S18432x512 .bf16 :=
  shapeCast _ (concatenate S8x2304x512 1 [⟨S8x256x512, shapeCast S8x256x512 y shapeCasts_S2048x512_S8x256x512⟩,
    ⟨S8x2048x512, shapeCast S8x2048x512 x shapeCasts_S16384x512_S8x2048x512⟩]
    concatenates_S8x256x512_S8x2048x512_S8x2304x512_d1) shapeCasts_S8x2304x512_S18432x512

theorem joined_apply (x : FVec Ideal S16384x512 .bf16) (y : FVec Ideal S2048x512 .bf16) (r : Fin 18432) (k : Fin 512) :
    joined x y (ix2 r k) = tokenRow x y r k := by
  pointwise [joined]
  unfold tokenRow
  by_cases h : r.val % 2304 < 256
  · rw [dif_pos h, if_pos h]
    exact congrArg y (congrArg (fun a => ix2 a k) (Fin.ext (by simp only []; omega)))
  · rw [dif_neg h, if_neg h]
    exact congrArg x (congrArg (fun a => ix2 a k) (Fin.ext (by simp only []; omega)))

/-! ## The printed values, at a token -/

variable (x0 : FVec Ideal S18432x1024 .f32) (x1 : FVec Ideal S9x8x1024 .f32) (x2 : FVec Ideal S16384x512 .bf16)
  (x3 : FVec Ideal S2048x512 .bf16) (x4 : FVec Ideal S18432x512 .bf16) (x5 : FVec Ideal S16384x512 .bf16)
  (x6 : FVec Ideal S2048x512 .bf16) (x7 : FVec Ideal S1024x3072 .bf16) (x8 x9 x10 : FVec Ideal S512x1024 .bf16)
  (x11 : FVec Ideal S1024x1024 .bf16) (x12 x13 : FVec Ideal S1x1024 .f32) (x14 : FVec Ideal S256x1024 .bf16)

theorem param0 (r : Fin 18432) (j : Fin 1024) :
    val_main_v8 (F := Ideal) x1 (ix2 r j) = (token x0 x1 x2 x3 x4 x5 x6 r).m 0 j := by
  have e : val_main_v8 (F := Ideal) x1 = params (extractStridedSlice S1x1x1024 ![8, 0, 0] x1
      slices_S9x8x1024_S1x1x1024_8_0_0) (extractStridedSlice S8x1x1024 ![0, 0, 0] x1
      slices_S9x8x1024_S8x1x1024_0_0_0) := rfl
  rw [e, params_apply]
  pointwise
  rfl

theorem param1 (r : Fin 18432) (j : Fin 1024) :
    val_main_v17 (F := Ideal) x1 (ix2 r j) = (token x0 x1 x2 x3 x4 x5 x6 r).m 1 j := by
  have e : val_main_v17 (F := Ideal) x1 = params (extractStridedSlice S1x1x1024 ![8, 1, 0] x1
      slices_S9x8x1024_S1x1x1024_8_1_0) (extractStridedSlice S8x1x1024 ![0, 1, 0] x1
      slices_S9x8x1024_S8x1x1024_0_1_0) := rfl
  rw [e, params_apply]
  pointwise
  rfl

theorem param2 (r : Fin 18432) (j : Fin 1024) :
    val_main_v97 (F := Ideal) x1 (ix2 r j) = (token x0 x1 x2 x3 x4 x5 x6 r).m 2 j := by
  have e : val_main_v97 (F := Ideal) x1 = params (extractStridedSlice S1x1x1024 ![8, 2, 0] x1
      slices_S9x8x1024_S1x1x1024_8_2_0) (extractStridedSlice S8x1x1024 ![0, 2, 0] x1
      slices_S9x8x1024_S8x1x1024_0_2_0) := rfl
  rw [e, params_apply]
  pointwise
  rfl

theorem param3 (r : Fin 18432) (j : Fin 1024) :
    val_main_v130 (F := Ideal) x1 (ix2 r j) = (token x0 x1 x2 x3 x4 x5 x6 r).m 3 j := by
  have e : val_main_v130 (F := Ideal) x1 = params (extractStridedSlice S1x1x1024 ![8, 3, 0] x1
      slices_S9x8x1024_S1x1x1024_8_3_0) (extractStridedSlice S8x1x1024 ![0, 3, 0] x1
      slices_S9x8x1024_S8x1x1024_0_3_0) := rfl
  rw [e, params_apply]
  pointwise
  rfl

theorem param4 (r : Fin 18432) (j : Fin 1024) :
    val_main_v139 (F := Ideal) x1 (ix2 r j) = (token x0 x1 x2 x3 x4 x5 x6 r).m 4 j := by
  have e : val_main_v139 (F := Ideal) x1 = params (extractStridedSlice S1x1x1024 ![8, 4, 0] x1
      slices_S9x8x1024_S1x1x1024_8_4_0) (extractStridedSlice S8x1x1024 ![0, 4, 0] x1
      slices_S9x8x1024_S8x1x1024_0_4_0) := rfl
  rw [e, params_apply]
  pointwise
  rfl

/-- What the gates' products read. -/
theorem input_ref (r : Fin 18432) (j : Fin 1024) :
    val_main_v39 (F := Ideal) x0 x1 (ix2 r j) = modulate (token x0 x1 x2 x3 x4 x5 x6 r).h ((token x0 x1 x2 x3 x4 x5 x6 r).m 0)
      ((token x0 x1 x2 x3 x4 x5 x6 r).m 1) j := by
  have e : val_main_v39 (F := Ideal) x0 x1 = rowModulate x0 (val_main_v8 (F := Ideal) x1) (val_main_v17 (F := Ideal) x1) := rfl
  rw [e, rowModulate_apply]
  simp only [param0 x0 x1 x2 x3 x4 x5 x6 r, param1 x0 x1 x2 x3 x4 x5 x6 r]
  rfl

/-- The three gates' products. -/
theorem gates_ref (r : Fin 18432) (n : Fin 3) (j : Fin 1024) (q : Fin 3072) (hq : q.val = 1024 * n.val + j.val) :
    val_main_v41 (F := Ideal) x0 x1 x7 (ix2 r q)
      = ∑ k, modulate (token x0 x1 x2 x3 x4 x5 x6 r).h ((token x0 x1 x2 x3 x4 x5 x6 r).m 0) ((token x0 x1 x2 x3 x4 x5 x6 r).m 1) k
        * (weightsOf x7 x8 x9 x10 x11 x12 x13 x14).gate n k j := by
  obtain ⟨q, h⟩ := q
  simp only [] at hq
  subst hq
  pointwise [val_main_v41, val_main_v40]
  simp only [input_ref x0 x1 x2 x3 x4 x5 x6 r]
  rfl

/-- The three gated branches. -/
theorem branchA_ref (r : Fin 18432) (j : Fin 1024) :
    val_main_v56 (F := Ideal) x0 x1 x2 x3 x7 x8 (ix2 r j)
      = branch (modulate (token x0 x1 x2 x3 x4 x5 x6 r).h ((token x0 x1 x2 x3 x4 x5 x6 r).m 0) ((token x0 x1 x2 x3 x4 x5 x6 r).m 1))
        ((weightsOf x7 x8 x9 x10 x11 x12 x13 x14).gate 0) (token x0 x1 x2 x3 x4 x5 x6 r).oA (weightsOf x7 x8 x9 x10 x11 x12 x13 x14).branchA j := by
  have e : val_main_v56 (F := Ideal) x0 x1 x2 x3 x7 x8
      = mulf (logistics (val_main_v46 (F := Ideal) x0 x1 x7)) (val_main_v55 (F := Ideal) x2 x3 x8) := rfl
  have o : val_main_v45 (F := Ideal) x2 x3 = joined x2 x3 := rfl
  rw [e]
  pointwise [val_main_v55, val_main_v54, val_main_v53]
  rw [logistics_apply]
  pointwise [val_main_v46]
  rw [gates_ref x0 x1 x2 x3 x4 x5 x6 x7 x8 x9 x10 x11 x12 x13 x14 r 0 j _ (by simp only []; omega), o]
  simp only [joined_apply]
  rfl

theorem branchB_ref (r : Fin 18432) (j : Fin 1024) :
    val_main_v67 (F := Ideal) x0 x1 x4 x7 x9 (ix2 r j)
      = branch (modulate (token x0 x1 x2 x3 x4 x5 x6 r).h ((token x0 x1 x2 x3 x4 x5 x6 r).m 0) ((token x0 x1 x2 x3 x4 x5 x6 r).m 1))
        ((weightsOf x7 x8 x9 x10 x11 x12 x13 x14).gate 1) (token x0 x1 x2 x3 x4 x5 x6 r).oB (weightsOf x7 x8 x9 x10 x11 x12 x13 x14).branchB j := by
  have e : val_main_v67 (F := Ideal) x0 x1 x4 x7 x9
      = mulf (logistics (val_main_v57 (F := Ideal) x0 x1 x7)) (val_main_v66 (F := Ideal) x4 x9) := rfl
  rw [e]
  pointwise [val_main_v66, val_main_v65, val_main_v64]
  rw [logistics_apply]
  pointwise [val_main_v57]
  rw [gates_ref x0 x1 x2 x3 x4 x5 x6 x7 x8 x9 x10 x11 x12 x13 x14 r 1 j _ (by simp only []; omega)]
  rfl

theorem branchC_ref (r : Fin 18432) (j : Fin 1024) :
    val_main_v83 (F := Ideal) x0 x1 x5 x6 x7 x10 (ix2 r j)
      = branch (modulate (token x0 x1 x2 x3 x4 x5 x6 r).h ((token x0 x1 x2 x3 x4 x5 x6 r).m 0) ((token x0 x1 x2 x3 x4 x5 x6 r).m 1))
        ((weightsOf x7 x8 x9 x10 x11 x12 x13 x14).gate 2) (token x0 x1 x2 x3 x4 x5 x6 r).oC (weightsOf x7 x8 x9 x10 x11 x12 x13 x14).branchC j := by
  have e : val_main_v83 (F := Ideal) x0 x1 x5 x6 x7 x10
      = mulf (logistics (val_main_v73 (F := Ideal) x0 x1 x7)) (val_main_v82 (F := Ideal) x5 x6 x10) := rfl
  have o : val_main_v72 (F := Ideal) x5 x6 = joined x5 x6 := rfl
  rw [e]
  pointwise [val_main_v82, val_main_v81, val_main_v80]
  rw [logistics_apply]
  pointwise [val_main_v73]
  rw [gates_ref x0 x1 x2 x3 x4 x5 x6 x7 x8 x9 x10 x11 x12 x13 x14 r 2 j _ (by simp only []; omega), o]
  simp only [joined_apply]
  rfl

/-- The residual and the output product. -/
theorem residual_ref (r : Fin 18432) (j : Fin 1024) :
    val_main_v99 (F := Ideal) x0 x1 x2 x3 x4 x5 x6 x7 x8 x9 x10 x11 (ix2 r j)
      = residual (weightsOf x7 x8 x9 x10 x11 x12 x13 x14) (token x0 x1 x2 x3 x4 x5 x6 r) j := by
  pointwise [val_main_v99, val_main_v98, val_main_v88, val_main_v87, val_main_cst_11, val_main_v86, val_main_v85,
    val_main_v84, val_main_v68]
  rw [param2 x0 x1 x2 x3 x4 x5 x6 r]
  simp only [branchA_ref x0 x1 x2 x3 x4 x5 x6 x7 x8 x9 x10 x11 x12 x13 x14 r, branchB_ref x0 x1 x2 x3 x4 x5 x6 x7 x8 x9 x10 x11 x12 x13 x14 r, branchC_ref x0 x1 x2 x3 x4 x5 x6 x7 x8 x9 x10 x11 x12 x13 x14 r]
  rfl

/-- The first result. -/
theorem hidden_ref (r : Fin 18432) (j : Fin 1024) :
    val_main_v121 (F := Ideal) x0 x1 x2 x3 x4 x5 x6 x7 x8 x9 x10 x11 x12 x13 (ix2 r j)
      = hidden (weightsOf x7 x8 x9 x10 x11 x12 x13 x14) (token x0 x1 x2 x3 x4 x5 x6 r) j := by
  have e : val_main_v117 (F := Ideal) x0 x1 x2 x3 x4 x5 x6 x7 x8 x9 x10 x11
      = rowNorm (val_main_v99 (F := Ideal) x0 x1 x2 x3 x4 x5 x6 x7 x8 x9 x10 x11) := rfl
  pointwise [val_main_v121, val_main_v120, val_main_v119, val_main_v118]
  rw [e, rowNorm_apply]
  simp only [residual_ref x0 x1 x2 x3 x4 x5 x6 x7 x8 x9 x10 x11 x12 x13 x14 r]
  rfl

/-- What the channel mixing reads. -/
theorem channel_ref (r : Fin 18432) (j : Fin 1024) :
    val_main_v161 (F := Ideal) x0 x1 x2 x3 x4 x5 x6 x7 x8 x9 x10 x11 x12 x13 (ix2 r j)
      = channel (weightsOf x7 x8 x9 x10 x11 x12 x13 x14) (token x0 x1 x2 x3 x4 x5 x6 r) j := by
  have e : val_main_v161 (F := Ideal) x0 x1 x2 x3 x4 x5 x6 x7 x8 x9 x10 x11 x12 x13
      = rowModulate (val_main_v121 (F := Ideal) x0 x1 x2 x3 x4 x5 x6 x7 x8 x9 x10 x11 x12 x13)
        (val_main_v130 (F := Ideal) x1) (val_main_v139 (F := Ideal) x1) := rfl
  rw [e, rowModulate_apply]
  simp only [hidden_ref x0 x1 x2 x3 x4 x5 x6 x7 x8 x9 x10 x11 x12 x13 x14 r, param3 x0 x1 x2 x3 x4 x5 x6 r, param4 x0 x1 x2 x3 x4 x5 x6 r]
  rfl

/-- The second result. -/
theorem words_ref (p : Fin 147456) (q : Fin 128) :
    val_main_v165 (F := Ideal) x0 x1 x2 x3 x4 x5 x6 x7 x8 x9 x10 x11 x12 x13 (ix2 p q)
      = words (weightsOf x7 x8 x9 x10 x11 x12 x13 x14) (token x0 x1 x2 x3 x4 x5 x6) p q := by
  pointwise [val_main_v165, val_main_v164]
  refine (channel_ref x0 x1 x2 x3 x4 x5 x6 x7 x8 x9 x10 x11 x12 x13 x14 _ _).trans ?_
  unfold words
  exact congrArg _ (Fin.ext (by simp only []; omega))

/-- The third result. -/
theorem score_ref (e : Fin 256) (r : Fin 18432) :
    val_main_v163 (F := Ideal) x0 x1 x2 x3 x4 x5 x6 x7 x8 x9 x10 x11 x12 x13 x14 (ix2 e r)
      = score (weightsOf x7 x8 x9 x10 x11 x12 x13 x14) (token x0 x1 x2 x3 x4 x5 x6 r) e := by
  pointwise [val_main_v163, val_main_v162]
  simp only [channel_ref x0 x1 x2 x3 x4 x5 x6 x7 x8 x9 x10 x11 x12 x13 x14 r]
  rfl

/-! ## The three results, whole -/

theorem result0 : val_main_v121 (F := Ideal) x0 x1 x2 x3 x4 x5 x6 x7 x8 x9 x10 x11 x12 x13 = fun x : S18432x1024.Idx =>
    hidden (weightsOf x7 x8 x9 x10 x11 x12 x13 x14) (token x0 x1 x2 x3 x4 x5 x6 (x 0)) (x 1) := by
  funext x
  obtain ⟨r, j, rfl⟩ : ∃ (r : Fin 18432) (j : Fin 1024), x = ix2 r j := ⟨x 0, x 1, by funext a; fin_cases a <;> rfl⟩
  exact hidden_ref x0 x1 x2 x3 x4 x5 x6 x7 x8 x9 x10 x11 x12 x13 x14 r j

theorem result1 : val_main_v165 (F := Ideal) x0 x1 x2 x3 x4 x5 x6 x7 x8 x9 x10 x11 x12 x13 = fun x : S147456x128.Idx =>
    words (weightsOf x7 x8 x9 x10 x11 x12 x13 x14) (token x0 x1 x2 x3 x4 x5 x6) (x 0) (x 1) := by
  funext x
  obtain ⟨p, q, rfl⟩ : ∃ (p : Fin 147456) (q : Fin 128), x = ix2 p q := ⟨x 0, x 1, by funext a; fin_cases a <;> rfl⟩
  exact words_ref x0 x1 x2 x3 x4 x5 x6 x7 x8 x9 x10 x11 x12 x13 x14 p q

theorem result2 : val_main_v163 (F := Ideal) x0 x1 x2 x3 x4 x5 x6 x7 x8 x9 x10 x11 x12 x13 x14 = fun x : S256x18432.Idx =>
    score (weightsOf x7 x8 x9 x10 x11 x12 x13 x14) (token x0 x1 x2 x3 x4 x5 x6 (x 1)) (x 0) := by
  funext x
  obtain ⟨e, r, rfl⟩ : ∃ (e : Fin 256) (r : Fin 18432), x = ix2 e r := ⟨x 0, x 1, by funext a; fin_cases a <;> rfl⟩
  exact score_ref x0 x1 x2 x3 x4 x5 x6 x7 x8 x9 x10 x11 x12 x13 x14 e r

end Cert.MixRefIdeal.Result

end
-- ==== Proof.MixClaim.lean ====
/-
  The claim for the mixer's output: the idealized kernel and the reference leave the same three arrays, for any
  arguments.
-/
module

public import proofs.«01_k».proof.Defs
public import proofs.«01_k».proof.Proof.MixArray
public import proofs.«01_k».proof.Proof.MixRef

@[expose] public section

set_option maxRecDepth 16384

noncomputable section

open Idealize.ShloMosaic Idealize.ShloMosaic.TcCoe Idealize.SL.Sem

namespace Cert.MixClaim

open Mixer

/-- The idealized kernel and the reference leave the same arrays. -/
theorem claim : Cert.algebraic_MixIdeal_MixRefIdeal := by
  intro m g m' g' _ ha
  have la (c : Dev Cert.MixIdeal.nD) : let V := StableHlo.launchContents m' c
      V (Proc.devRef .tc Cert.MixRefIdeal.main_arg0)
          = m ((c.tc : Thread Cert.MixIdeal.nD Cert.MixIdeal.τ).loc Cert.MixIdeal.main_arg0)
        ∧ V (Proc.devRef .tc Cert.MixRefIdeal.main_arg1)
          = m ((c.tc : Thread Cert.MixIdeal.nD Cert.MixIdeal.τ).loc Cert.MixIdeal.main_arg1)
        ∧ V (Proc.devRef .tc Cert.MixRefIdeal.main_arg2)
          = m ((c.tc : Thread Cert.MixIdeal.nD Cert.MixIdeal.τ).loc Cert.MixIdeal.main_arg2)
        ∧ V (Proc.devRef .tc Cert.MixRefIdeal.main_arg3)
          = m ((c.tc : Thread Cert.MixIdeal.nD Cert.MixIdeal.τ).loc Cert.MixIdeal.main_arg3)
        ∧ V (Proc.devRef .tc Cert.MixRefIdeal.main_arg4)
          = m ((c.tc : Thread Cert.MixIdeal.nD Cert.MixIdeal.τ).loc Cert.MixIdeal.main_arg4)
        ∧ V (Proc.devRef .tc Cert.MixRefIdeal.main_arg5)
          = m ((c.tc : Thread Cert.MixIdeal.nD Cert.MixIdeal.τ).loc Cert.MixIdeal.main_arg5)
        ∧ V (Proc.devRef .tc Cert.MixRefIdeal.main_arg6)
          = m ((c.tc : Thread Cert.MixIdeal.nD Cert.MixIdeal.τ).loc Cert.MixIdeal.main_arg6)
        ∧ V (Proc.devRef .tc Cert.MixRefIdeal.main_arg7)
          = m ((c.tc : Thread Cert.MixIdeal.nD Cert.MixIdeal.τ).loc Cert.MixIdeal.main_arg7)
        ∧ V (Proc.devRef .tc Cert.MixRefIdeal.main_arg8)
          = m ((c.tc : Thread Cert.MixIdeal.nD Cert.MixIdeal.τ).loc Cert.MixIdeal.main_arg8)
        ∧ V (Proc.devRef .tc Cert.MixRefIdeal.main_arg9)
          = m ((c.tc : Thread Cert.MixIdeal.nD Cert.MixIdeal.τ).loc Cert.MixIdeal.main_arg9)
        ∧ V (Proc.devRef .tc Cert.MixRefIdeal.main_arg10)
          = m ((c.tc : Thread Cert.MixIdeal.nD Cert.MixIdeal.τ).loc Cert.MixIdeal.main_arg10)
        ∧ V (Proc.devRef .tc Cert.MixRefIdeal.main_arg11)
          = m ((c.tc : Thread Cert.MixIdeal.nD Cert.MixIdeal.τ).loc Cert.MixIdeal.main_arg11)
        ∧ V (Proc.devRef .tc Cert.MixRefIdeal.main_arg12)
          = m ((c.tc : Thread Cert.MixIdeal.nD Cert.MixIdeal.τ).loc Cert.MixIdeal.main_arg12)
        ∧ V (Proc.devRef .tc Cert.MixRefIdeal.main_arg13)
          = m ((c.tc : Thread Cert.MixIdeal.nD Cert.MixIdeal.τ).loc Cert.MixIdeal.main_arg13)
        ∧ V (Proc.devRef .tc Cert.MixRefIdeal.main_arg14)
          = m ((c.tc : Thread Cert.MixIdeal.nD Cert.MixIdeal.τ).loc Cert.MixIdeal.main_arg14) := ha c
  refine ⟨fun c => (Cert.MixIdeal.Gen.dats m 0 c).arrAt 15 Cert.MixIdeal.cfg0.N,
    fun c => (Cert.MixIdeal.Gen.dats m 0 c).arrAt 16 Cert.MixIdeal.cfg0.N,
    fun c => (Cert.MixIdeal.Gen.dats m 0 c).arrAt 17 Cert.MixIdeal.cfg0.N, Cert.MixIdeal.Value.run_blocks m g, ?_⟩
  refine (θ_run _ _ _).mono (fun r h c => ⟨(h c).1.trans ?_, (h c).2.1.trans ?_, (h c).2.2.1.trans ?_, (h c).2.2.2⟩)
    (Cert.MixRefIdeal.Value.run m' g')
  · rw [Cert.MixRefIdeal.Read.val_main_v121_eq, (la c).1, (la c).2.1, (la c).2.2.1, (la c).2.2.2.1,
      (la c).2.2.2.2.1, (la c).2.2.2.2.2.1, (la c).2.2.2.2.2.2.1, (la c).2.2.2.2.2.2.2.1, (la c).2.2.2.2.2.2.2.2.1,
      (la c).2.2.2.2.2.2.2.2.2.1, (la c).2.2.2.2.2.2.2.2.2.2.1, (la c).2.2.2.2.2.2.2.2.2.2.2.1,
      (la c).2.2.2.2.2.2.2.2.2.2.2.2.1, (la c).2.2.2.2.2.2.2.2.2.2.2.2.2.1]
    exact (Cert.MixRefIdeal.Result.result0 _ _ _ _ _ _ _ _ _ _ _ _ _ _
      (m ((c.tc : Thread Cert.MixIdeal.nD Cert.MixIdeal.τ).loc Cert.MixIdeal.main_arg14))).trans
      (Cert.MixIdeal.Tile.array15 m c).symm
  · rw [Cert.MixRefIdeal.Read.val_main_v165_eq, (la c).1, (la c).2.1, (la c).2.2.1, (la c).2.2.2.1,
      (la c).2.2.2.2.1, (la c).2.2.2.2.2.1, (la c).2.2.2.2.2.2.1, (la c).2.2.2.2.2.2.2.1, (la c).2.2.2.2.2.2.2.2.1,
      (la c).2.2.2.2.2.2.2.2.2.1, (la c).2.2.2.2.2.2.2.2.2.2.1, (la c).2.2.2.2.2.2.2.2.2.2.2.1,
      (la c).2.2.2.2.2.2.2.2.2.2.2.2.1, (la c).2.2.2.2.2.2.2.2.2.2.2.2.2.1]
    exact (Cert.MixRefIdeal.Result.result1 _ _ _ _ _ _ _ _ _ _ _ _ _ _
      (m ((c.tc : Thread Cert.MixIdeal.nD Cert.MixIdeal.τ).loc Cert.MixIdeal.main_arg14))).trans
      (Cert.MixIdeal.Tile.array16 m c).symm
  · rw [Cert.MixRefIdeal.Read.val_main_v163_eq, (la c).1, (la c).2.1, (la c).2.2.1, (la c).2.2.2.1,
      (la c).2.2.2.2.1, (la c).2.2.2.2.2.1, (la c).2.2.2.2.2.2.1, (la c).2.2.2.2.2.2.2.1, (la c).2.2.2.2.2.2.2.2.1,
      (la c).2.2.2.2.2.2.2.2.2.1, (la c).2.2.2.2.2.2.2.2.2.2.1, (la c).2.2.2.2.2.2.2.2.2.2.2.1,
      (la c).2.2.2.2.2.2.2.2.2.2.2.2.1, (la c).2.2.2.2.2.2.2.2.2.2.2.2.2.1, (la c).2.2.2.2.2.2.2.2.2.2.2.2.2.2]
    exact (Cert.MixRefIdeal.Result.result2 _ _ _ _ _ _ _ _ _ _ _ _ _ _ _).trans
      (Cert.MixIdeal.Tile.array17 m c).symm

/-- The reference's run keeps its arguments and ends with every counter at zero. -/
theorem reference_frame : Cert.quiescent_MixRefIdeal := fun m g _ =>
  (θ_run Cert.MixRefIdeal.defs _ _).mono
    (fun r h => ⟨fun c => (h c).2.2.2, Idealize.ShloMosaic.sem_eq_zero_of_no_sems (by decide) r.2⟩)
    (Cert.MixRefIdeal.Value.run (F := Ideal) m g)

end Cert.MixClaim

end
-- ==== Proof.LatBlock.lean ====
/-
  What the last layer's mixer output leaves in its three blocks: what the kernel of the other layer leaves at a tile of
  latent tokens.
-/
module

public import proofs.«01_k».proof.Proof.MixArray
public import proofs.«01_k».proof.Proof.Gen.LatIdeal.Value

@[expose] public section

set_option maxRecDepth 16384

noncomputable section

open Idealize.ShloMosaic

namespace Cert.LatIdeal.Tile

open Cert.LatIdeal Cert.LatIdeal.Gen Mixer Cert.MixIdeal.Tile

/-- A grid point of the other layer's kernel at which it takes a tile of latent tokens. -/
def latent : Cert.MixIdeal.grid0.Coords := fun a => ⟨1, by fin_cases a; decide⟩

theorem latent_select (x y : Vec Ideal S256x512 .bf16) : Scalar.select (isContext (latent 0).val) x y = y := by
  have h : isContext (latent 0).val = 0#1 := isContext_eq ⟨1, by omega⟩
  rw [h]
  rfl

variable (x0 : Vec Ideal S256x1024 .f32) (x1 : Vec Ideal S1x8x1024 .f32)
  (x2 x3 x4 x5 x6 : Vec Ideal S256x512 .bf16) (x7 : Vec Ideal S1024x3072 .bf16) (x8 x9 x10 : Vec Ideal S512x1024 .bf16)
  (x11 : Vec Ideal S1024x1024 .bf16) (x12 x13 : Vec Ideal S1x1024 .f32) (x14 : Vec Ideal S256x1024 .bf16)

theorem same15 : out0_15 (F := Ideal) x0 x1 x2 x3 x4 x5 x6 x7 x8 x9 x10 x11 x12 x13 x14
    = Cert.MixIdeal.Gen.out0_15 (F := Ideal) latent x0 x1 x2 x3 x4 x5 x6 x7 x8 x9 x10 x11 x12 x13 x14 := rfl

theorem same16 : out0_16 (F := Ideal) x0 x1 x2 x3 x4 x5 x6 x7 x8 x9 x10 x11 x12 x13 x14
    = Cert.MixIdeal.Gen.out0_16 (F := Ideal) latent x0 x1 x2 x3 x4 x5 x6 x7 x8 x9 x10 x11 x12 x13 x14 := rfl

theorem same17 : out0_17 (F := Ideal) x0 x1 x2 x3 x4 x5 x6 x7 x8 x9 x10 x11 x12 x13 x14
    = Cert.MixIdeal.Gen.out0_17 (F := Ideal) latent x0 x1 x2 x3 x4 x5 x6 x7 x8 x9 x10 x11 x12 x13 x14 := rfl

/-- The first result's block. -/
theorem block15 (r : Fin 256) (j : Fin 1024) :
    out0_15 (F := Ideal) x0 x1 x2 x3 x4 x5 x6 x7 x8 x9 x10 x11 x12 x13 x14 (ix2 r j)
      = hidden (weightsOf x7 x8 x9 x10 x11 x12 x13 x14) (tokenOf x0 x1 x2 x4 x5 r) j :=
  (congrFun (same15 x0 x1 x2 x3 x4 x5 x6 x7 x8 x9 x10 x11 x12 x13 x14) _).trans
    (Cert.MixIdeal.Tile.block15 latent x0 x1 x2 x3 x4 x5 x6 x7 x8 x9 x10 x11 x12 x13 x14 x2 x5 (latent_select _ _)
      (latent_select _ _) r j)

/-- The second result's block. -/
theorem block16 (r : Fin 2048) (j : Fin 128) :
    out0_16 (F := Ideal) x0 x1 x2 x3 x4 x5 x6 x7 x8 x9 x10 x11 x12 x13 x14 (ix2 r j)
      = channel (weightsOf x7 x8 x9 x10 x11 x12 x13 x14) (tokenOf x0 x1 x2 x4 x5 ⟨r.val / 8, by omega⟩)
        ⟨128 * (r.val % 8) + j.val, by omega⟩ :=
  (congrFun (same16 x0 x1 x2 x3 x4 x5 x6 x7 x8 x9 x10 x11 x12 x13 x14) _).trans
    (Cert.MixIdeal.Tile.block16 latent x0 x1 x2 x3 x4 x5 x6 x7 x8 x9 x10 x11 x12 x13 x14 x2 x5 (latent_select _ _)
      (latent_select _ _) r j)

/-- The third result's block. -/
theorem block17 (e r : Fin 256) :
    out0_17 (F := Ideal) x0 x1 x2 x3 x4 x5 x6 x7 x8 x9 x10 x11 x12 x13 x14 (ix2 e r)
      = score (weightsOf x7 x8 x9 x10 x11 x12 x13 x14) (tokenOf x0 x1 x2 x4 x5 r) e :=
  (congrFun (same17 x0 x1 x2 x3 x4 x5 x6 x7 x8 x9 x10 x11 x12 x13 x14) _).trans
    (Cert.MixIdeal.Tile.block17 latent x0 x1 x2 x3 x4 x5 x6 x7 x8 x9 x10 x11 x12 x13 x14 x2 x5 (latent_select _ _)
      (latent_select _ _) e r)

end Cert.LatIdeal.Tile

end
-- ==== Proof.LatRow.lean ====
/-
  The last layer's tokens: the latent ones only, 2048 of each of eight images.
-/
module

public import proofs.«01_k».proof.Proof.MixRow

@[expose] public section

set_option maxRecDepth 16384

noncomputable section

open Idealize.ShloMosaic

namespace Mixer

/-- Where the hidden state of a latent token lies: behind the 256 context tokens of its image. -/
def latentRow (r : Fin 16384) : Fin 18432 := ⟨2304 * (r.val / 2048) + 256 + r.val % 2048, by omega⟩

/-- Which modulation a latent token has: its image's. -/
def latentImage (r : Fin 16384) : Fin 9 := ⟨r.val / 2048, by omega⟩

/-- The latent token of a row, from the arrays. -/
def latentToken (x0 : Vec Ideal ⟨2, ![18432, 1024]⟩ .f32) (x1 : Vec Ideal ⟨3, ![9, 8, 1024]⟩ .f32)
    (x2 x3 x4 : Vec Ideal ⟨2, ![16384, 512]⟩ .bf16) (r : Fin 16384) : Token where
  h j := x0 (ix2 (latentRow r) j)
  m n j := x1 (ix3 (latentImage r) n j)
  oA k := x2 (ix2 r k)
  oB k := x3 (ix2 r k)
  oC k := x4 (ix2 r k)

/-- What the channel mixing reads, laid out as eight rows of 128 lanes for each latent token. -/
def latentWords (w : Weights) (T : Fin 16384 → Token) (p : Fin 131072) (q : Fin 128) : EReal :=
  channel w (T ⟨p.val / 8, by omega⟩) ⟨128 * (p.val % 8) + q.val, by omega⟩

end Mixer

end
-- ==== Proof.LatArray.lean ====
/-
  The three results of the last layer's mixer output, from the arguments.
-/
module

public import proofs.«01_k».proof.Proof.LatBlock
public import proofs.«01_k».proof.Proof.LatRow

@[expose] public section

set_option maxRecDepth 16384

noncomputable section

open Idealize.ShloMosaic Idealize.ShloMosaic.TcCoe Idealize.SL.Sem

namespace Cert.LatIdeal.Tile

open Cert.LatIdeal Cert.LatIdeal.Gen Mixer
open Cert.MixIdeal.Tile (tokenOf idx2)

/-- Which block of its operand each window holds at a grid point: the hidden state's skips the context tokens. -/
theorem index_maps : ∀ t : Fin cfg0.N,
    win0_0.index t = ![9 * ((grid0.coords t 0).val / 8) + 1 + (grid0.coords t 0).val % 8, 0]
      ∧ win0_1.index t = ![(grid0.coords t 0).val / 8, 0, 0] ∧ win0_2.index t = ![(grid0.coords t 0).val, 0]
      ∧ win0_4.index t = ![(grid0.coords t 0).val, 0] ∧ win0_5.index t = ![(grid0.coords t 0).val, 0] := by
  decide +kernel

/-- The weights' windows hold them whole. -/
theorem weight_maps : ∀ t : Fin cfg0.N,
    win0_7.index t = ![0, 0] ∧ win0_8.index t = ![0, 0] ∧ win0_9.index t = ![0, 0] ∧ win0_10.index t = ![0, 0]
      ∧ win0_11.index t = ![0, 0] ∧ win0_12.index t = ![0, 0] ∧ win0_13.index t = ![0, 0] ∧ win0_14.index t = ![0, 0] := by
  decide +kernel

/-- The blocks of the results that each grid point writes. -/
theorem result_maps : ∀ t : Fin cfg0.N,
    win0_15.index t = ![(grid0.coords t 0).val, 0] ∧ win0_16.index t = ![(grid0.coords t 0).val, 0]
      ∧ win0_17.index t = ![0, (grid0.coords t 0).val] := by
  decide +kernel

variable (m : (ℓ : Loc nD τ sig) → Buf (Elt Ideal) ℓ) (c : Dev nD)

/-- The weights, as the arguments hold them. -/
def weights : Weights :=
  weightsOf
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11)) (m ((c : Thread nD τ).loc main_arg12))

/-- A row's token, as the arguments hold it. -/
def tokens (r : Fin 16384) : Token :=
  latentToken
    (m ((c : Thread nD τ).loc main_arg0)) (m ((c : Thread nD τ).loc main_arg1)) (m ((c : Thread nD τ).loc main_arg2))
    (m ((c : Thread nD τ).loc main_arg3)) (m ((c : Thread nD τ).loc main_arg4)) r

/-- Every grid point's blocks of the weights are the weights. -/
theorem weights_block (t : Fin cfg0.N) :
    weightsOf (iblk m c 7 t) (iblk m c 8 t) (iblk m c 9 t) (iblk m c 10 t) (iblk m c 11 t)
      (iblk m c 12 t) (iblk m c 13 t) (iblk m c 14 t) = weights m c := by
  obtain ⟨e7, e8, e9, e10, e11, e12, e13, e14⟩ := weight_maps t
  unfold weights weightsOf
  congr 1
  · funext n k j
    blk_ext [iblk, V, e7]
  · funext k j
    blk_ext [iblk, V, e8]
  · funext k j
    blk_ext [iblk, V, e9]
  · funext k j
    blk_ext [iblk, V, e10]
  · funext k j
    blk_ext [iblk, V, e11]
  · funext j
    blk_ext [iblk, V, e12]
  · funext j
    blk_ext [iblk, V, e13]
  · funext k j
    blk_ext [iblk, V, e14]

/-- A grid point's blocks hold the tokens of its 256 rows. -/
theorem tokens_block (t : Fin cfg0.N) (i : Fin 256) (r : Fin 16384) (hr : r.val = 256 * (grid0.coords t 0).val + i.val) :
    tokenOf (iblk m c 0 t) (iblk m c 1 t) (iblk m c 2 t) (iblk m c 4 t) (iblk m c 5 t) i = tokens m c r := by
  obtain ⟨e0, e1, e2, e4, e5⟩ := index_maps t
  have hk : (grid0.coords t 0).val < 64 := (grid0.coords t 0).isLt
  have hs : (latentRow r).val = 256 * (9 * ((grid0.coords t 0).val / 8) + 1 + (grid0.coords t 0).val % 8) + i.val := by
    show 2304 * (r.val / 2048) + 256 + r.val % 2048 = _
    omega
  have hb : (latentImage r).val = (grid0.coords t 0).val / 8 := by
    show r.val / 2048 = _
    omega
  unfold tokens latentToken tokenOf
  congr 1
  · funext j
    blk_ext [iblk, V, e0, hs]
  · funext n j
    blk_ext [iblk, V, e1, hb]
  · funext k
    blk_ext [iblk, V, e2, hr]
  · funext k
    blk_ext [iblk, V, e4, hr]
  · funext k
    blk_ext [iblk, V, e5, hr]

/-- The first array the kernel leaves. -/
theorem array15 : (dats m 0 c).arrAt 15 cfg0.N = fun x : S16384x1024.Idx => hidden (weights m c) (tokens m c (x 0)) (x 1) := by
  refine (dats m 0 c).arrAt_eq_of_covers 15 _ (by decide +kernel) fun t hf y => ?_
  blk_simp
  rw [after0_15]
  obtain ⟨e15, e16, e17⟩ := result_maps t
  have hk : (grid0.coords t 0).val < 64 := (grid0.coords t 0).isLt
  obtain ⟨a, b, rfl⟩ := idx2 (n := 256) (k := 1024) y
  have a0 : ((View.whole main_v0_0).slice (win0_15.rect t)).emb (ix2 a b) 0 = (⟨256 * (grid0.coords t 0).val + a.val, by omega⟩ : Fin 16384) :=
    Fin.ext (by
      blk_simp [e15]
      show (grid0.coords t 0).val * 256 + a.val = 256 * (grid0.coords t 0).val + a.val
      omega)
  have a1 : ((View.whole main_v0_0).slice (win0_15.rect t)).emb (ix2 a b) 1 = (⟨b.val, by omega⟩ : Fin 1024) :=
    Fin.ext (by
      blk_simp [e15])
  refine (block15 _ _ _ _ _ _ _ _ _ _ _ _ _ _ _ a b).trans ?_
  rw [weights_block, tokens_block m c t _ ⟨256 * (grid0.coords t 0).val + a.val, by omega⟩ rfl, a0, a1]

/-- The second array the kernel leaves: eight rows of 128 lanes for each token. -/
theorem array16 : (dats m 0 c).arrAt 16 cfg0.N = fun x : S131072x128.Idx => latentWords (weights m c) (tokens m c) (x 0) (x 1) := by
  refine (dats m 0 c).arrAt_eq_of_covers 16 _ (by decide +kernel) fun t hf y => ?_
  blk_simp
  rw [after0_16]
  obtain ⟨e15, e16, e17⟩ := result_maps t
  have hk : (grid0.coords t 0).val < 64 := (grid0.coords t 0).isLt
  obtain ⟨a, b, rfl⟩ := idx2 (n := 2048) (k := 128) y
  have a0 : ((View.whole main_v0_1).slice (win0_16.rect t)).emb (ix2 a b) 0 = (⟨2048 * (grid0.coords t 0).val + a.val, by omega⟩ : Fin 131072) :=
    Fin.ext (by
      blk_simp [e16]
      show (grid0.coords t 0).val * 2048 + a.val = 2048 * (grid0.coords t 0).val + a.val
      omega)
  have a1 : ((View.whole main_v0_1).slice (win0_16.rect t)).emb (ix2 a b) 1 = (⟨b.val, by omega⟩ : Fin 128) :=
    Fin.ext (by
      blk_simp [e16])
  refine (block16 _ _ _ _ _ _ _ _ _ _ _ _ _ _ _ a b).trans ?_
  rw [weights_block, tokens_block m c t _ ⟨256 * (grid0.coords t 0).val + a.val / 8, by omega⟩ rfl, a0, a1]
  unfold latentWords
  congr 3
  · show 256 * (grid0.coords t 0).val + a.val / 8 = (2048 * (grid0.coords t 0).val + a.val) / 8
    omega
  · show 128 * (a.val % 8) = 128 * ((2048 * (grid0.coords t 0).val + a.val) % 8)
    omega

/-- The third array the kernel leaves. -/
theorem array17 : (dats m 0 c).arrAt 17 cfg0.N = fun x : S256x16384.Idx => score (weights m c) (tokens m c (x 1)) (x 0) := by
  refine (dats m 0 c).arrAt_eq_of_covers 17 _ (by decide +kernel) fun t hf y => ?_
  blk_simp
  rw [after0_17]
  obtain ⟨e15, e16, e17⟩ := result_maps t
  have hk : (grid0.coords t 0).val < 64 := (grid0.coords t 0).isLt
  obtain ⟨a, b, rfl⟩ := idx2 (n := 256) (k := 256) y
  have a0 : ((View.whole main_v0_2).slice (win0_17.rect t)).emb (ix2 a b) 0 = (⟨a.val, by omega⟩ : Fin 256) :=
    Fin.ext (by
      blk_simp [e17])
  have a1 : ((View.whole main_v0_2).slice (win0_17.rect t)).emb (ix2 a b) 1 = (⟨256 * (grid0.coords t 0).val + b.val, by omega⟩ : Fin 16384) :=
    Fin.ext (by
      blk_simp [e17]
      show (grid0.coords t 0).val * 256 + b.val = 256 * (grid0.coords t 0).val + b.val
      omega)
  refine (block17 _ _ _ _ _ _ _ _ _ _ _ _ _ _ _ a b).trans ?_
  rw [weights_block, tokens_block m c t _ ⟨256 * (grid0.coords t 0).val + b.val, by omega⟩ rfl, a0, a1]

end Cert.LatIdeal.Tile

end
-- ==== Proof.LatRef.lean ====
/-
  The reference of the last layer's mixer output, read at a latent token.
-/
module

public import proofs.«01_k».proof.Proof.LatRow
public import proofs.«01_k».proof.Proof.Gen.LatRefIdeal.Read

@[expose] public section

set_option maxRecDepth 16384

noncomputable section

open Idealize.ShloMosaic

namespace Cert.LatRefIdeal.Result

open Cert.LatRefIdeal Cert.LatRefIdeal.Gen Cert.LatRefIdeal.Read Mixer

/-! ## The reference's own steps, each over any array -/

/-- The means of the rows. -/
def rowMean (x : FVec Ideal S16384x1024 .f32) : FVec Ideal S16384x1 .f32 :=
  Host.divf (broadcastInDim S16384x1 ![0] bcast_S16384_S16384x1_0
    (Host.reduceAdd x (val_main_cst (F := Ideal)) reducesTo_S16384x1024_S16384_d1 h_S_)) (val_main_v15 (F := Ideal))

/-- The rows less their means. -/
def rowCentred (x : FVec Ideal S16384x1024 .f32) : FVec Ideal S16384x1024 .f32 :=
  subf x (broadcastInDim S16384x1024 ![0, 1] bcast_S16384x1_S16384x1024_0_1 (rowMean x))

/-- The layer norm of the rows. -/
def rowNorm (x : FVec Ideal S16384x1024 .f32) : FVec Ideal S16384x1024 .f32 :=
  mulf (rowCentred x) (broadcastInDim S16384x1024 ![0, 1] bcast_S16384x1_S16384x1024_0_1
    (Host.rsqrt (addf (rowMean (mulf (rowCentred x) (rowCentred x))) (val_main_v26 (F := Ideal)))))

/-- The layer norm of the rows, scaled and shifted. -/
def rowModulate (x b a : FVec Ideal S16384x1024 .f32) : FVec Ideal S16384x1024 .f32 :=
  addf (mulf (rowNorm x) (addf (val_main_v31 (F := Ideal)) a)) b

/-- The logistic function of an array. -/
def logistics (x : FVec Ideal S16384x1024 .f32) : FVec Ideal S16384x1024 .f32 :=
  Host.divf (val_main_v42 (F := Ideal)) (addf (val_main_v40 (F := Ideal)) (Host.exp (Host.negf x)))

/-- A modulation row of each image, for all its latent tokens. -/
def params (b : FVec Ideal S8x1x1024 .f32) : FVec Ideal S16384x1024 .f32 :=
  shapeCast _ (broadcastInDim S8x2048x1024 ![0, 1, 2] bcast_S8x1x1024_S8x2048x1024_0_1_2
    (broadcastInDim S8x1x1024 ![0, 2] bcast_S8x1024_S8x1x1024_0_2 (shapeCast S8x1024 b shapeCasts_S8x1x1024_S8x1024)))
    shapeCasts_S8x2048x1024_S16384x1024

theorem rowMean_apply (x : FVec Ideal S16384x1024 .f32) (r : Fin 16384) :
    rowMean x (ix2 r 0) = mean (fun k => x (ix2 r k)) := by
  pointwise [rowMean, val_main_cst, val_main_v15, val_main_cst_0]
  rfl

theorem rowCentred_apply (x : FVec Ideal S16384x1024 .f32) (r : Fin 16384) (j : Fin 1024) :
    rowCentred x (ix2 r j) = x (ix2 r j) - mean (fun k => x (ix2 r k)) := by
  pointwise [rowCentred]
  simp only [rowMean_apply]

theorem rowNorm_apply (x : FVec Ideal S16384x1024 .f32) (r : Fin 16384) (j : Fin 1024) :
    rowNorm x (ix2 r j) = norm (fun k => x (ix2 r k)) j := by
  pointwise [rowNorm, val_main_v26, val_main_cst_3]
  simp only [rowMean_apply, rowCentred_apply]
  pointwise
  simp only [rowCentred_apply]
  rfl

theorem rowModulate_apply (x b a : FVec Ideal S16384x1024 .f32) (r : Fin 16384) (j : Fin 1024) :
    rowModulate x b a (ix2 r j)
      = modulate (fun k => x (ix2 r k)) (fun k => b (ix2 r k)) (fun k => a (ix2 r k)) j := by
  pointwise [rowModulate, val_main_v31, val_main_cst_4]
  simp only [rowNorm_apply]
  rfl

theorem logistics_apply (x : FVec Ideal S16384x1024 .f32) (r : Fin 16384) (j : Fin 1024) :
    logistics x (ix2 r j) = Ideal.logistic (x (ix2 r j)) := by
  pointwise [logistics, val_main_v42, val_main_v40, val_main_cst_5, val_main_cst_6]
  rfl

theorem params_apply (b : FVec Ideal S8x1x1024 .f32) (r : Fin 16384) (j : Fin 1024) :
    params b (ix2 r j) = b (ix3 ⟨r.val / 2048, by omega⟩ 0 j) := by
  pointwise [params]

/-! ## The printed values, at a latent token -/

variable (x0 : FVec Ideal S18432x1024 .f32) (x1 : FVec Ideal S9x8x1024 .f32) (x2 x3 x4 : FVec Ideal S16384x512 .bf16)
  (x5 : FVec Ideal S1024x3072 .bf16) (x6 x7 x8 : FVec Ideal S512x1024 .bf16) (x9 : FVec Ideal S1024x1024 .bf16)
  (x10 x11 : FVec Ideal S1x1024 .f32) (x12 : FVec Ideal S256x1024 .bf16)

/-- The latent tokens' hidden states. -/
theorem state_ref (r : Fin 16384) (j : Fin 1024) : val_main_v2 (F := Ideal) x0 (ix2 r j) = (latentToken x0 x1 x2 x3 x4 r).h j := by
  pointwise [val_main_v2, val_main_v1, val_main_v0]
  exact congrArg x0 (congrArg (fun a => ix2 a j) (Fin.ext (by simp only [latentRow]; omega)))

theorem param0 (r : Fin 16384) (j : Fin 1024) : val_main_v7 (F := Ideal) x1 (ix2 r j) = (latentToken x0 x1 x2 x3 x4 r).m 0 j := by
  have e : val_main_v7 (F := Ideal) x1 = params (extractStridedSlice S8x1x1024 ![0, 0, 0] x1
      slices_S9x8x1024_S8x1x1024_0_0_0) := rfl
  rw [e, params_apply]
  pointwise
  rfl

theorem param1 (r : Fin 16384) (j : Fin 1024) : val_main_v12 (F := Ideal) x1 (ix2 r j) = (latentToken x0 x1 x2 x3 x4 r).m 1 j := by
  have e : val_main_v12 (F := Ideal) x1 = params (extractStridedSlice S8x1x1024 ![0, 1, 0] x1
      slices_S9x8x1024_S8x1x1024_0_1_0) := rfl
  rw [e, params_apply]
  pointwise
  rfl

theorem param2 (r : Fin 16384) (j : Fin 1024) : val_main_v80 (F := Ideal) x1 (ix2 r j) = (latentToken x0 x1 x2 x3 x4 r).m 2 j := by
  have e : val_main_v80 (F := Ideal) x1 = params (extractStridedSlice S8x1x1024 ![0, 2, 0] x1
      slices_S9x8x1024_S8x1x1024_0_2_0) := rfl
  rw [e, params_apply]
  pointwise
  rfl

theorem param3 (r : Fin 16384) (j : Fin 1024) : val_main_v109 (F := Ideal) x1 (ix2 r j) = (latentToken x0 x1 x2 x3 x4 r).m 3 j := by
  have e : val_main_v109 (F := Ideal) x1 = params (extractStridedSlice S8x1x1024 ![0, 3, 0] x1
      slices_S9x8x1024_S8x1x1024_0_3_0) := rfl
  rw [e, params_apply]
  pointwise
  rfl

theorem param4 (r : Fin 16384) (j : Fin 1024) : val_main_v114 (F := Ideal) x1 (ix2 r j) = (latentToken x0 x1 x2 x3 x4 r).m 4 j := by
  have e : val_main_v114 (F := Ideal) x1 = params (extractStridedSlice S8x1x1024 ![0, 4, 0] x1
      slices_S9x8x1024_S8x1x1024_0_4_0) := rfl
  rw [e, params_apply]
  pointwise
  rfl

/-- What the gates' products read. -/
theorem input_ref (r : Fin 16384) (j : Fin 1024) :
    val_main_v34 (F := Ideal) x0 x1 (ix2 r j) = modulate (latentToken x0 x1 x2 x3 x4 r).h ((latentToken x0 x1 x2 x3 x4 r).m 0) ((latentToken x0 x1 x2 x3 x4 r).m 1) j := by
  have e : val_main_v34 (F := Ideal) x0 x1
      = rowModulate (val_main_v2 (F := Ideal) x0) (val_main_v7 (F := Ideal) x1) (val_main_v12 (F := Ideal) x1) := rfl
  rw [e, rowModulate_apply]
  simp only [state_ref x0 x1 x2 x3 x4 r, param0 x0 x1 x2 x3 x4 r, param1 x0 x1 x2 x3 x4 r]

/-- The three gates' products. -/
theorem gates_ref (r : Fin 16384) (n : Fin 3) (j : Fin 1024) (q : Fin 3072) (hq : q.val = 1024 * n.val + j.val) :
    val_main_v36 (F := Ideal) x0 x1 x5 (ix2 r q)
      = ∑ k, modulate (latentToken x0 x1 x2 x3 x4 r).h ((latentToken x0 x1 x2 x3 x4 r).m 0) ((latentToken x0 x1 x2 x3 x4 r).m 1) k * (weightsOf x5 x6 x7 x8 x9 x10 x11 x12).gate n k j := by
  obtain ⟨q, h⟩ := q
  simp only [] at hq
  subst hq
  pointwise [val_main_v36, val_main_v35]
  simp only [input_ref x0 x1 x2 x3 x4 r]
  rfl

/-- The three gated branches. -/
theorem branchA_ref (r : Fin 16384) (j : Fin 1024) :
    val_main_v47 (F := Ideal) x0 x1 x2 x5 x6 (ix2 r j)
      = branch (modulate (latentToken x0 x1 x2 x3 x4 r).h ((latentToken x0 x1 x2 x3 x4 r).m 0) ((latentToken x0 x1 x2 x3 x4 r).m 1))
        ((weightsOf x5 x6 x7 x8 x9 x10 x11 x12).gate 0) (latentToken x0 x1 x2 x3 x4 r).oA (weightsOf x5 x6 x7 x8 x9 x10 x11 x12).branchA j := by
  have e : val_main_v47 (F := Ideal) x0 x1 x2 x5 x6 = mulf (logistics (val_main_v37 (F := Ideal) x0 x1 x5)) (val_main_v46 (F := Ideal) x2 x6) := rfl
  rw [e]
  pointwise [val_main_v46, val_main_v45, val_main_v44]
  rw [logistics_apply]
  pointwise [val_main_v37]
  rw [gates_ref x0 x1 x2 x3 x4 x5 x6 x7 x8 x9 x10 x11 x12 r 0 j _ (by simp only []; omega)]
  rfl

theorem branchB_ref (r : Fin 16384) (j : Fin 1024) :
    val_main_v58 (F := Ideal) x0 x1 x3 x5 x7 (ix2 r j)
      = branch (modulate (latentToken x0 x1 x2 x3 x4 r).h ((latentToken x0 x1 x2 x3 x4 r).m 0) ((latentToken x0 x1 x2 x3 x4 r).m 1))
        ((weightsOf x5 x6 x7 x8 x9 x10 x11 x12).gate 1) (latentToken x0 x1 x2 x3 x4 r).oB (weightsOf x5 x6 x7 x8 x9 x10 x11 x12).branchB j := by
  have e : val_main_v58 (F := Ideal) x0 x1 x3 x5 x7 = mulf (logistics (val_main_v48 (F := Ideal) x0 x1 x5)) (val_main_v57 (F := Ideal) x3 x7) := rfl
  rw [e]
  pointwise [val_main_v57, val_main_v56, val_main_v55]
  rw [logistics_apply]
  pointwise [val_main_v48]
  rw [gates_ref x0 x1 x2 x3 x4 x5 x6 x7 x8 x9 x10 x11 x12 r 1 j _ (by simp only []; omega)]
  rfl

theorem branchC_ref (r : Fin 16384) (j : Fin 1024) :
    val_main_v70 (F := Ideal) x0 x1 x4 x5 x8 (ix2 r j)
      = branch (modulate (latentToken x0 x1 x2 x3 x4 r).h ((latentToken x0 x1 x2 x3 x4 r).m 0) ((latentToken x0 x1 x2 x3 x4 r).m 1))
        ((weightsOf x5 x6 x7 x8 x9 x10 x11 x12).gate 2) (latentToken x0 x1 x2 x3 x4 r).oC (weightsOf x5 x6 x7 x8 x9 x10 x11 x12).branchC j := by
  have e : val_main_v70 (F := Ideal) x0 x1 x4 x5 x8 = mulf (logistics (val_main_v60 (F := Ideal) x0 x1 x5)) (val_main_v69 (F := Ideal) x4 x8) := rfl
  rw [e]
  pointwise [val_main_v69, val_main_v68, val_main_v67]
  rw [logistics_apply]
  pointwise [val_main_v60]
  rw [gates_ref x0 x1 x2 x3 x4 x5 x6 x7 x8 x9 x10 x11 x12 r 2 j _ (by simp only []; omega)]
  rfl

/-- The residual and the output product. -/
theorem residual_ref (r : Fin 16384) (j : Fin 1024) :
    val_main_v82 (F := Ideal) x0 x1 x2 x3 x4 x5 x6 x7 x8 x9 (ix2 r j) = residual (weightsOf x5 x6 x7 x8 x9 x10 x11 x12) (latentToken x0 x1 x2 x3 x4 r) j := by
  pointwise [val_main_v82, val_main_v81, val_main_v75, val_main_v74, val_main_cst_11, val_main_v73, val_main_v72,
    val_main_v71, val_main_v59]
  rw [param2 x0 x1 x2 x3 x4 r, state_ref x0 x1 x2 x3 x4 r]
  simp only [branchA_ref x0 x1 x2 x3 x4 x5 x6 x7 x8 x9 x10 x11 x12 r, branchB_ref x0 x1 x2 x3 x4 x5 x6 x7 x8 x9 x10 x11 x12 r, branchC_ref x0 x1 x2 x3 x4 x5 x6 x7 x8 x9 x10 x11 x12 r]
  rfl

/-- The first result. -/
theorem hidden_ref (r : Fin 16384) (j : Fin 1024) :
    val_main_v104 (F := Ideal) x0 x1 x2 x3 x4 x5 x6 x7 x8 x9 x10 x11 (ix2 r j) = hidden (weightsOf x5 x6 x7 x8 x9 x10 x11 x12) (latentToken x0 x1 x2 x3 x4 r) j := by
  have e : val_main_v100 (F := Ideal) x0 x1 x2 x3 x4 x5 x6 x7 x8 x9
      = rowNorm (val_main_v82 (F := Ideal) x0 x1 x2 x3 x4 x5 x6 x7 x8 x9) := rfl
  pointwise [val_main_v104, val_main_v103, val_main_v102, val_main_v101]
  rw [e, rowNorm_apply]
  simp only [residual_ref x0 x1 x2 x3 x4 x5 x6 x7 x8 x9 x10 x11 x12 r]
  rfl

/-- What the channel mixing reads. -/
theorem channel_ref (r : Fin 16384) (j : Fin 1024) :
    val_main_v136 (F := Ideal) x0 x1 x2 x3 x4 x5 x6 x7 x8 x9 x10 x11 (ix2 r j) = channel (weightsOf x5 x6 x7 x8 x9 x10 x11 x12) (latentToken x0 x1 x2 x3 x4 r) j := by
  have e : val_main_v136 (F := Ideal) x0 x1 x2 x3 x4 x5 x6 x7 x8 x9 x10 x11
      = rowModulate (val_main_v104 (F := Ideal) x0 x1 x2 x3 x4 x5 x6 x7 x8 x9 x10 x11)
        (val_main_v109 (F := Ideal) x1) (val_main_v114 (F := Ideal) x1) := rfl
  rw [e, rowModulate_apply]
  simp only [hidden_ref x0 x1 x2 x3 x4 x5 x6 x7 x8 x9 x10 x11 x12 r, param3 x0 x1 x2 x3 x4 r, param4 x0 x1 x2 x3 x4 r]
  rfl

/-- The second result. -/
theorem words_ref (p : Fin 131072) (q : Fin 128) :
    val_main_v140 (F := Ideal) x0 x1 x2 x3 x4 x5 x6 x7 x8 x9 x10 x11 (ix2 p q)
      = latentWords (weightsOf x5 x6 x7 x8 x9 x10 x11 x12) (latentToken x0 x1 x2 x3 x4) p q := by
  pointwise [val_main_v140, val_main_v139]
  refine (channel_ref x0 x1 x2 x3 x4 x5 x6 x7 x8 x9 x10 x11 x12 _ _).trans ?_
  unfold latentWords
  exact congrArg _ (Fin.ext (by simp only []; omega))

/-- The third result. -/
theorem score_ref (e : Fin 256) (r : Fin 16384) :
    val_main_v138 (F := Ideal) x0 x1 x2 x3 x4 x5 x6 x7 x8 x9 x10 x11 x12 (ix2 e r) = score (weightsOf x5 x6 x7 x8 x9 x10 x11 x12) (latentToken x0 x1 x2 x3 x4 r) e := by
  pointwise [val_main_v138, val_main_v137]
  simp only [channel_ref x0 x1 x2 x3 x4 x5 x6 x7 x8 x9 x10 x11 x12 r]
  rfl

/-! ## The three results, whole -/

theorem result0 : val_main_v104 (F := Ideal) x0 x1 x2 x3 x4 x5 x6 x7 x8 x9 x10 x11 = fun x : S16384x1024.Idx =>
    hidden (weightsOf x5 x6 x7 x8 x9 x10 x11 x12) (latentToken x0 x1 x2 x3 x4 (x 0)) (x 1) := by
  funext x
  obtain ⟨r, j, rfl⟩ : ∃ (r : Fin 16384) (j : Fin 1024), x = ix2 r j := ⟨x 0, x 1, by funext a; fin_cases a <;> rfl⟩
  exact hidden_ref x0 x1 x2 x3 x4 x5 x6 x7 x8 x9 x10 x11 x12 r j

theorem result1 : val_main_v140 (F := Ideal) x0 x1 x2 x3 x4 x5 x6 x7 x8 x9 x10 x11 = fun x : S131072x128.Idx =>
    latentWords (weightsOf x5 x6 x7 x8 x9 x10 x11 x12) (latentToken x0 x1 x2 x3 x4) (x 0) (x 1) := by
  funext x
  obtain ⟨p, q, rfl⟩ : ∃ (p : Fin 131072) (q : Fin 128), x = ix2 p q := ⟨x 0, x 1, by funext a; fin_cases a <;> rfl⟩
  exact words_ref x0 x1 x2 x3 x4 x5 x6 x7 x8 x9 x10 x11 x12 p q

theorem result2 : val_main_v138 (F := Ideal) x0 x1 x2 x3 x4 x5 x6 x7 x8 x9 x10 x11 x12 = fun x : S256x16384.Idx =>
    score (weightsOf x5 x6 x7 x8 x9 x10 x11 x12) (latentToken x0 x1 x2 x3 x4 (x 1)) (x 0) := by
  funext x
  obtain ⟨e, r, rfl⟩ : ∃ (e : Fin 256) (r : Fin 16384), x = ix2 e r := ⟨x 0, x 1, by funext a; fin_cases a <;> rfl⟩
  exact score_ref x0 x1 x2 x3 x4 x5 x6 x7 x8 x9 x10 x11 x12 e r

end Cert.LatRefIdeal.Result

end
-- ==== Proof.LatClaim.lean ====
/-
  The claim for the last layer's mixer output: the idealized kernel and the reference leave the same three arrays, for
  any arguments.
-/
module

public import proofs.«01_k».proof.Defs
public import proofs.«01_k».proof.Proof.LatArray
public import proofs.«01_k».proof.Proof.LatRef

@[expose] public section

set_option maxRecDepth 16384

noncomputable section

open Idealize.ShloMosaic Idealize.ShloMosaic.TcCoe Idealize.SL.Sem

namespace Cert.LatClaim

open Mixer

/-- The idealized kernel and the reference leave the same arrays. -/
theorem claim : Cert.algebraic_LatIdeal_LatRefIdeal := by
  intro m g m' g' _ ha
  have la (c : Dev Cert.LatIdeal.nD) : let V := StableHlo.launchContents m' c
      V (Proc.devRef .tc Cert.LatRefIdeal.main_arg0)
          = m ((c.tc : Thread Cert.LatIdeal.nD Cert.LatIdeal.τ).loc Cert.LatIdeal.main_arg0)
        ∧ V (Proc.devRef .tc Cert.LatRefIdeal.main_arg1)
          = m ((c.tc : Thread Cert.LatIdeal.nD Cert.LatIdeal.τ).loc Cert.LatIdeal.main_arg1)
        ∧ V (Proc.devRef .tc Cert.LatRefIdeal.main_arg2)
          = m ((c.tc : Thread Cert.LatIdeal.nD Cert.LatIdeal.τ).loc Cert.LatIdeal.main_arg2)
        ∧ V (Proc.devRef .tc Cert.LatRefIdeal.main_arg3)
          = m ((c.tc : Thread Cert.LatIdeal.nD Cert.LatIdeal.τ).loc Cert.LatIdeal.main_arg3)
        ∧ V (Proc.devRef .tc Cert.LatRefIdeal.main_arg4)
          = m ((c.tc : Thread Cert.LatIdeal.nD Cert.LatIdeal.τ).loc Cert.LatIdeal.main_arg4)
        ∧ V (Proc.devRef .tc Cert.LatRefIdeal.main_arg5)
          = m ((c.tc : Thread Cert.LatIdeal.nD Cert.LatIdeal.τ).loc Cert.LatIdeal.main_arg5)
        ∧ V (Proc.devRef .tc Cert.LatRefIdeal.main_arg6)
          = m ((c.tc : Thread Cert.LatIdeal.nD Cert.LatIdeal.τ).loc Cert.LatIdeal.main_arg6)
        ∧ V (Proc.devRef .tc Cert.LatRefIdeal.main_arg7)
          = m ((c.tc : Thread Cert.LatIdeal.nD Cert.LatIdeal.τ).loc Cert.LatIdeal.main_arg7)
        ∧ V (Proc.devRef .tc Cert.LatRefIdeal.main_arg8)
          = m ((c.tc : Thread Cert.LatIdeal.nD Cert.LatIdeal.τ).loc Cert.LatIdeal.main_arg8)
        ∧ V (Proc.devRef .tc Cert.LatRefIdeal.main_arg9)
          = m ((c.tc : Thread Cert.LatIdeal.nD Cert.LatIdeal.τ).loc Cert.LatIdeal.main_arg9)
        ∧ V (Proc.devRef .tc Cert.LatRefIdeal.main_arg10)
          = m ((c.tc : Thread Cert.LatIdeal.nD Cert.LatIdeal.τ).loc Cert.LatIdeal.main_arg10)
        ∧ V (Proc.devRef .tc Cert.LatRefIdeal.main_arg11)
          = m ((c.tc : Thread Cert.LatIdeal.nD Cert.LatIdeal.τ).loc Cert.LatIdeal.main_arg11)
        ∧ V (Proc.devRef .tc Cert.LatRefIdeal.main_arg12)
          = m ((c.tc : Thread Cert.LatIdeal.nD Cert.LatIdeal.τ).loc Cert.LatIdeal.main_arg12) := ha c
  refine ⟨fun c => (Cert.LatIdeal.Gen.dats m 0 c).arrAt 15 Cert.LatIdeal.cfg0.N,
    fun c => (Cert.LatIdeal.Gen.dats m 0 c).arrAt 16 Cert.LatIdeal.cfg0.N,
    fun c => (Cert.LatIdeal.Gen.dats m 0 c).arrAt 17 Cert.LatIdeal.cfg0.N, Cert.LatIdeal.Value.run_blocks m g, ?_⟩
  refine (θ_run _ _ _).mono (fun r h c => ⟨(h c).1.trans ?_, (h c).2.1.trans ?_, (h c).2.2.1.trans ?_, (h c).2.2.2⟩)
    (Cert.LatRefIdeal.Value.run m' g')
  · rw [Cert.LatRefIdeal.Read.val_main_v104_eq, (la c).1, (la c).2.1, (la c).2.2.1, (la c).2.2.2.1, (la c).2.2.2.2.1, (la c).2.2.2.2.2.1, (la c).2.2.2.2.2.2.1, (la c).2.2.2.2.2.2.2.1, (la c).2.2.2.2.2.2.2.2.1, (la c).2.2.2.2.2.2.2.2.2.1, (la c).2.2.2.2.2.2.2.2.2.2.1, (la c).2.2.2.2.2.2.2.2.2.2.2.1]
    exact (Cert.LatRefIdeal.Result.result0 _ _ _ _ _ _ _ _ _ _ _ _
      (m ((c.tc : Thread Cert.LatIdeal.nD Cert.LatIdeal.τ).loc Cert.LatIdeal.main_arg12))).trans
      (Cert.LatIdeal.Tile.array15 m c).symm
  · rw [Cert.LatRefIdeal.Read.val_main_v140_eq, (la c).1, (la c).2.1, (la c).2.2.1, (la c).2.2.2.1, (la c).2.2.2.2.1, (la c).2.2.2.2.2.1, (la c).2.2.2.2.2.2.1, (la c).2.2.2.2.2.2.2.1, (la c).2.2.2.2.2.2.2.2.1, (la c).2.2.2.2.2.2.2.2.2.1, (la c).2.2.2.2.2.2.2.2.2.2.1, (la c).2.2.2.2.2.2.2.2.2.2.2.1]
    exact (Cert.LatRefIdeal.Result.result1 _ _ _ _ _ _ _ _ _ _ _ _
      (m ((c.tc : Thread Cert.LatIdeal.nD Cert.LatIdeal.τ).loc Cert.LatIdeal.main_arg12))).trans
      (Cert.LatIdeal.Tile.array16 m c).symm
  · rw [Cert.LatRefIdeal.Read.val_main_v138_eq, (la c).1, (la c).2.1, (la c).2.2.1, (la c).2.2.2.1, (la c).2.2.2.2.1, (la c).2.2.2.2.2.1, (la c).2.2.2.2.2.2.1, (la c).2.2.2.2.2.2.2.1, (la c).2.2.2.2.2.2.2.2.1, (la c).2.2.2.2.2.2.2.2.2.1, (la c).2.2.2.2.2.2.2.2.2.2.1, (la c).2.2.2.2.2.2.2.2.2.2.2.1, (la c).2.2.2.2.2.2.2.2.2.2.2.2]
    exact (Cert.LatRefIdeal.Result.result2 _ _ _ _ _ _ _ _ _ _ _ _ _ ).trans
      (Cert.LatIdeal.Tile.array17 m c).symm

/-- The reference's run keeps its arguments and ends with every counter at zero. -/
theorem reference_frame : Cert.quiescent_LatRefIdeal := fun m g _ =>
  (θ_run Cert.LatRefIdeal.defs _ _).mono
    (fun r h => ⟨fun c => (h c).2.2.2, Idealize.ShloMosaic.sem_eq_zero_of_no_sems (by decide) r.2⟩)
    (Cert.LatRefIdeal.Value.run (F := Ideal) m g)

end Cert.LatClaim

end
-- ==== Proof.InpRow.lean ====
/-
  The input projection of one token, over the extended reals, as a function of the token's rows, of the weights and of the
  rotary tables: both the kernel's tiles and the reference's arrays are read as it.
-/
module

public import proofs.«01_k».proof.Proof.MixRow

@[expose] public section

set_option maxRecDepth 16384

noncomputable section

open Idealize.ShloMosaic

namespace Inproj

/-- A modulation row of a token: one row for the context tokens, one for each image's latent tokens. -/
def modRow (x1 : Vec Ideal ⟨3, ![9, 8, 1024]⟩ .f32) (n : Fin 8) (r : Fin 18432) (j : Fin 1024) : EReal :=
  if r.val % 2304 < 256 then x1 (ix3 8 n j) else x1 (ix3 ⟨r.val / 2304, by omega⟩ n j)

/-- What the product reads of a token. -/
def input (x0 : Vec Ideal ⟨2, ![18432, 1024]⟩ .f32) (x1 : Vec Ideal ⟨3, ![9, 8, 1024]⟩ .f32) (r : Fin 18432) (j : Fin 1024) : EReal :=
  Mixer.modulate (fun k => x0 (ix2 r k)) (modRow x1 0 r) (modRow x1 1 r) j

/-- A column of the product, at a token. -/
def column (x0 : Vec Ideal ⟨2, ![18432, 1024]⟩ .f32) (x1 : Vec Ideal ⟨3, ![9, 8, 1024]⟩ .f32) (w : Vec Ideal ⟨2, ![1024, 5888]⟩ .f32)
    (r : Fin 18432) (p : Fin 5888) : EReal := ∑ k, input x0 x1 r k * w (ix2 k p)

/-- The lanes of eight heads with each quarter turned into its neighbour. -/
def turned (q : Fin 512 → EReal) (j : Fin 512) : EReal :=
  if j.val % 32 < 16 then -q ⟨(j.val + 16) % 512, by omega⟩ else q ⟨(j.val + 496) % 512, by omega⟩

/-- Rotary position embedding of a token's eight heads: context tokens are left alone. -/
def rope (q : Fin 512 → EReal) (cos sin : Vec Ideal ⟨2, ![2048, 64]⟩ .f32) (s : Fin 2304) (j : Fin 512) : EReal :=
  if h : s.val < 256 then q j
    else q j * cos (ix2 ⟨s.val - 256, by omega⟩ ⟨j.val % 64, by omega⟩)
      + turned q j * sin (ix2 ⟨s.val - 256, by omega⟩ ⟨j.val % 64, by omega⟩)

/-- The same from the neighbours sixteen lanes on and back within 128 lanes, one of which has weight zero. -/
theorem rope_lanes (q : Fin 512 → EReal) (cos sin : Vec Ideal ⟨2, ![2048, 64]⟩ .f32) (s : Fin 2304) (j : Fin 512) (b d : Fin 512)
    (hb : b.val = 128 * (j.val / 128) + (j.val + 16) % 128) (hd : d.val = 128 * (j.val / 128) + (j.val + 112) % 128) (C U D : EReal)
    (hC : C = if h : s.val < 256 then 1 else cos (ix2 ⟨s.val - 256, by omega⟩ ⟨j.val % 64, by omega⟩))
    (hU : U = if h : s.val < 256 then 0 else
      if j.val % 32 < 16 then -sin (ix2 ⟨s.val - 256, by omega⟩ ⟨j.val % 64, by omega⟩) else 0)
    (hD : D = if h : s.val < 256 then 0 else
      if j.val % 32 < 16 then 0 else sin (ix2 ⟨s.val - 256, by omega⟩ ⟨j.val % 64, by omega⟩)) :
    q j * C + q b * U + q d * D = rope q cos sin s j := by
  subst hC hU hD
  unfold rope turned
  by_cases h : s.val < 256
  · simp only [dif_pos h, mul_one, mul_zero, add_zero]
  · simp only [dif_neg h]
    by_cases hj : j.val % 32 < 16
    · simp only [if_pos hj, mul_zero, add_zero, mul_neg, neg_mul]
      rw [show q b = q ⟨(j.val + 16) % 512, by omega⟩ from congrArg q (Fin.ext (by simp only []; omega))]
    · simp only [if_neg hj, mul_zero, add_zero]
      rw [show q d = q ⟨(j.val + 496) % 512, by omega⟩ from congrArg q (Fin.ext (by simp only []; omega))]

/-! ## The five results, from the columns of the product -/

/-- 512 columns from one on. -/
def part (o : ℕ) (ho : o + 512 ≤ 5888) (q : Fin 5888 → EReal) (j : Fin 512) : EReal := q ⟨o + j.val, by omega⟩

/-- The values of the first branch, each head twice. -/
def values (q : Fin 5888 → EReal) (j : Fin 256) : EReal := q ⟨640 + (64 * (j.val / 128) + j.val % 64), by omega⟩

/-- A token's position in its image. -/
def place (r : Fin 18432) : Fin 2304 := ⟨r.val % 2304, by omega⟩

/-- The queries of the third branch, times the scale of its scores. -/
def queries (q : Fin 18432 → Fin 5888 → EReal) (cos sin : Vec Ideal ⟨2, ![2048, 64]⟩ .f32) (r : Fin 18432) (j : Fin 512) : EReal :=
  rope (part 1280 (by omega) (q r)) cos sin (place r) j * Ideal.ofBits .f32 0x3E38AA3B#32

/-- The keys of the third branch, the tokens of an image in a row. -/
def keys (q : Fin 18432 → Fin 5888 → EReal) (cos sin : Vec Ideal ⟨2, ![2048, 64]⟩ .f32) (b : Fin 8) (j : Fin 512) (s : Fin 2304) : EReal :=
  rope (part 1792 (by omega) (q ⟨2304 * b.val + s.val, by omega⟩)) cos sin s j

end Inproj

end
-- ==== Proof.InpTile.lean ====
/-
  The input projection's kernel on one tile of 256 tokens: what five of its seven stores write, at an index.
-/
module

public import proofs.«01_k».proof.Proof.InpRow
public import proofs.«01_k».proof.Proof.MixTile
public import proofs.«01_k».proof.Proof.Gen.InpIdeal.Value

@[expose] public section

set_option maxRecDepth 16384

noncomputable section

open Idealize.ShloMosaic

namespace Cert.InpIdeal.Tile

open Cert.InpIdeal Cert.InpIdeal.Gen Mixer

/-- The tile that the products read. -/
theorem input_apply (x0 : Vec Ideal S256x1024 .f32) (a b : Vec Ideal S1x1x1024 .f32) (A B : Fin 1024 → EReal)
    (ha : ∀ k, a (ix3 0 0 k) = A k) (hb : ∀ k, b (ix3 0 0 k) = B k) (i : Fin 256) (j : Fin 1024) :
    k0_pay3 (F := Ideal) x0 a b (ix2 i j) = modulate (fun k => x0 (ix2 i k)) A B j := by
  have e : k0_pay3 (F := Ideal) x0 a b = truncf .bf16 (addf (mulf (Cert.MixIdeal.Tile.normed x0) (broadcastTo S256x1024
      (addf (broadcast S1x1024 (Scalar.ofBits .f32 0x3F800000#32)) (shapeCast S1x1024 b shapeCasts_S1x1x1024_S1x1024))
      broadcasts_S1x1024_S256x1024)) (broadcastTo S256x1024 (shapeCast S1x1024 a shapeCasts_S1x1x1024_S1x1024)
      broadcasts_S1x1024_S256x1024)) bitsLt_bf16_f32 := rfl
  rw [e]
  pointwise
  simp only [Cert.MixIdeal.Tile.normed_apply, ha, hb]
  rfl

/-- 128 lanes, times the first table, and their neighbours sixteen lanes on and back, times the other two. -/
def turn (x c u d : FVec Ideal S256x128 .f32) : FVec Ideal S256x128 .f32 :=
  addf (addf (mulf x c) (mulf (dynamicRotate 1 112#32 none x rotates_S256x128_d1) u))
    (mulf (dynamicRotate 1 16#32 none x rotates_S256x128_d1) d)

/-- The same of four times 128 lanes. -/
def turns (q : FVec Ideal S256x512 .f32) (c u d : FVec Ideal S256x128 .f32) : FVec Ideal S256x512 .f32 :=
  concatenate S256x512 1
    [⟨S256x128, turn (extractStridedSlice S256x128 ![0, 0] q slices_S256x512_o0_0_S256x128) c u d⟩,
      ⟨S256x128, turn (extractStridedSlice S256x128 ![0, 128] q slices_S256x512_o0_128_S256x128) c u d⟩,
      ⟨S256x128, turn (extractStridedSlice S256x128 ![0, 256] q slices_S256x512_o0_256_S256x128) c u d⟩,
      ⟨S256x128, turn (extractStridedSlice S256x128 ![0, 384] q slices_S256x512_o0_384_S256x128) c u d⟩]
    concatenates_S256x128_S256x128_S256x128_S256x128_S256x512_d1

theorem turn_apply (x c u d : FVec Ideal S256x128 .f32) (i : Fin 256) (l : Fin 128) :
    turn x c u d (ix2 i l) = x (ix2 i l) * c (ix2 i l) + x (ix2 i ⟨(l.val + 16) % 128, by omega⟩) * u (ix2 i l)
      + x (ix2 i ⟨(l.val + 112) % 128, by omega⟩) * d (ix2 i l) := by
  pointwise [turn]
  simp only [show l.val + 128 - 112 = l.val + 16 by omega, show l.val + 128 - 16 = l.val + 112 by omega]

/-- A lane of the four, from its indices. -/
theorem lane_eq (q : FVec Ideal S256x512 .f32) (c u d : FVec Ideal S256x128 .f32) (i : Fin 256) (a a' b b' e e' : Fin 512)
    (l l' : Fin 128) (ha : a = a') (hb : b = b') (he : e = e') (hl : l = l') :
    q (ix2 i a) * c (ix2 i l) + q (ix2 i b) * u (ix2 i l) + q (ix2 i e) * d (ix2 i l)
      = q (ix2 i a') * c (ix2 i l') + q (ix2 i b') * u (ix2 i l') + q (ix2 i e') * d (ix2 i l') := by
  subst ha hb he hl
  rfl

theorem turns_apply (q : FVec Ideal S256x512 .f32) (c u d : FVec Ideal S256x128 .f32) (i : Fin 256) (j : Fin 512) :
    turns q c u d (ix2 i j) = q (ix2 i j) * c (ix2 i ⟨j.val % 128, by omega⟩)
      + q (ix2 i ⟨128 * (j.val / 128) + (j.val + 16) % 128, by omega⟩) * u (ix2 i ⟨j.val % 128, by omega⟩)
      + q (ix2 i ⟨128 * (j.val / 128) + (j.val + 112) % 128, by omega⟩) * d (ix2 i ⟨j.val % 128, by omega⟩) := by
  pointwise [turns]
  split_ifs
  all_goals
    rw [turn_apply]
    pointwise
    exact lane_eq _ _ _ _ _ _ _ _ _ _ _ _ _ (Fin.ext (by simp only [] <;> omega)) (Fin.ext (by simp only [] <;> omega))
      (Fin.ext (by simp only [] <;> omega)) (Fin.ext (by simp only [] <;> omega))

/-- The products of the tile with the weights. -/
def product (u : FVec Ideal S256x1024 .bf16) (w : Vec Ideal S1024x512 .bf16) : FVec Ideal S256x512 .f32 :=
  matmul dot_S256x1024_S1024x512_S256x512_1_0_0_1_n_n none u (shapeCast S1024x512 w shapeCasts_S1024x512_S1024x512 : FVec Ideal S1024x512 .bf16)
    (constant S256x512 .f32 0x00000000#32)

theorem product_apply (u : FVec Ideal S256x1024 .bf16) (w : Vec Ideal S1024x512 .bf16) (i : Fin 256) (j : Fin 512) :
    product u w (ix2 i j) = ∑ k, u (ix2 i k) * w (ix2 k j) := by
  pointwise [product]

theorem narrow_apply (u : FVec Ideal S256x1024 .bf16) (w : Vec Ideal S1024x256 .bf16) (i j : Fin 256) :
    k0_pay20 (F := Ideal) u w (ix2 i j) = ∑ k, u (ix2 i k) * w (ix2 k j) := by
  pointwise [k0_pay20]

/-- The blocks of the rotary tables, as loaded. -/
def loaded (x : Vec Ideal S256x128 .f32) : FVec Ideal S256x128 .f32 := shapeCast S256x128 x shapeCasts_S256x128_S256x128

theorem loaded_apply (x : Vec Ideal S256x128 .f32) (i : Fin 256) (l : Fin 128) : loaded x (ix2 i l) = x (ix2 i l) := by
  pointwise [loaded]

theorem whole0 (x : Vec Ideal S256x1024 .f32) : View.ld x r0_0 = x :=
  View.ld_unit_zero (by funext a; fin_cases a <;> rfl) _ x

theorem whole3 (x : Vec Ideal S256x128 .f32) : View.ld x r0_3 = x :=
  View.ld_unit_zero (by funext a; fin_cases a <;> rfl) _ x

theorem whole4 (x : Vec Ideal S1024x512 .bf16) : View.ld x r0_4 = x :=
  View.ld_unit_zero (by funext a; fin_cases a <;> rfl) _ x

theorem whole8 (x : Vec Ideal S1024x256 .bf16) : View.ld x r0_8 = x :=
  View.ld_unit_zero (by funext a; fin_cases a <;> rfl) _ x

/-- The two modulation rows. -/
theorem row1 (x : Vec Ideal S1x8x1024 .f32) (k : Fin 1024) : View.ld x r0_1 (ix3 0 0 k) = x (ix3 0 0 k) := by
  pointwise

theorem row2 (x : Vec Ideal S1x8x1024 .f32) (k : Fin 1024) : View.ld x r0_2 (ix3 0 0 k) = x (ix3 0 1 k) := by
  pointwise

variable (x0 : Vec Ideal S256x1024 .f32) (x1 : Vec Ideal S1x8x1024 .f32) (x2 x3 x4 : Vec Ideal S256x128 .f32)
  (x5 : Vec Ideal S1024x512 .bf16) (x6 x7 : Vec Ideal S1024x256 .bf16) (x8 x9 x10 x11 : Vec Ideal S1024x512 .bf16)
  (x12 : Vec Ideal S1x512 .f32) (x13 : Vec Ideal S1x256 .f32) (x14 : Vec Ideal S512x512 .bf16) (x15 : Vec Ideal S256x256 .bf16)

/-- What the products read of a tile's row. -/
def rowOf (r : Fin 256) (k : Fin 1024) : EReal :=
  modulate (fun k => x0 (ix2 r k)) (fun k => x1 (ix3 0 0 k)) (fun k => x1 (ix3 0 1 k)) k

theorem input_block (r : Fin 256) (k : Fin 1024) :
    k0_pay34 (F := Ideal) x0 x1 x2 x3 x4 x5 x6 x7 x8 x9 x10 x11 x12 x13 x14 x15 (ix2 r k) = rowOf x0 x1 r k := by
  unfold k0_pay34
  rw [whole0]
  exact input_apply x0 _ _ _ _ (row1 x1) (row2 x1) r k

theorem block18 (r j : Fin 256) :
    out0_18 (F := Ideal) x0 x1 x2 x3 x4 x5 x6 x7 x8 x9 x10 x11 x12 x13 x14 x15 (ix2 r j) = ∑ k, rowOf x0 x1 r k * x7 (ix2 k j) := by
  unfold out0_18
  rw [View.canon_unit_zero (by funext a; fin_cases a <;> rfl), narrow_apply, whole8]
  simp only [input_block]

theorem block19 (r : Fin 256) (j : Fin 512) :
    out0_19 (F := Ideal) x0 x1 x2 x3 x4 x5 x6 x7 x8 x9 x10 x11 x12 x13 x14 x15 (ix2 r j) = ∑ k, rowOf x0 x1 r k * x8 (ix2 k j) := by
  unfold out0_19
  rw [View.canon_unit_zero (by funext a; fin_cases a <;> rfl)]
  refine (product_apply _ _ r j).trans ?_
  rw [whole4]
  simp only [input_block]

theorem block22 (r : Fin 256) (j : Fin 512) :
    out0_22 (F := Ideal) x0 x1 x2 x3 x4 x5 x6 x7 x8 x9 x10 x11 x12 x13 x14 x15 (ix2 r j) = ∑ k, rowOf x0 x1 r k * x11 (ix2 k j) := by
  unfold out0_22
  rw [View.canon_unit_zero (by funext a; fin_cases a <;> rfl)]
  refine (product_apply _ _ r j).trans ?_
  rw [whole4]
  simp only [input_block]

/-- The turned lanes of a tile's row. -/
def turnedOf (w : Vec Ideal S1024x512 .bf16) (r : Fin 256) (j : Fin 512) : EReal :=
  (∑ k, rowOf x0 x1 r k * w (ix2 k j)) * x2 (ix2 r ⟨j.val % 128, by omega⟩)
    + (∑ k, rowOf x0 x1 r k * w (ix2 k ⟨128 * (j.val / 128) + (j.val + 16) % 128, by omega⟩)) * x3 (ix2 r ⟨j.val % 128, by omega⟩)
    + (∑ k, rowOf x0 x1 r k * w (ix2 k ⟨128 * (j.val / 128) + (j.val + 112) % 128, by omega⟩)) * x4 (ix2 r ⟨j.val % 128, by omega⟩)

theorem turns_block (w : Vec Ideal S1024x512 .bf16) (r : Fin 256) (j : Fin 512) :
    turns (product (k0_pay34 (F := Ideal) x0 x1 x2 x3 x4 x5 x6 x7 x8 x9 x10 x11 x12 x13 x14 x15) w) (loaded x2) (loaded x3) (loaded x4) (ix2 r j)
      = turnedOf x0 x1 x2 x3 x4 w r j := by
  rw [turns_apply]
  simp only [product_apply, loaded_apply, input_block]
  rfl

theorem block20 (r : Fin 256) (j : Fin 512) :
    out0_20 (F := Ideal) x0 x1 x2 x3 x4 x5 x6 x7 x8 x9 x10 x11 x12 x13 x14 x15 (ix2 r j)
      = turnedOf x0 x1 x2 x3 x4 x9 r j * Ideal.ofBits .f32 0x3E38AA3B#32 := by
  unfold out0_20 k0_pay35 k0_pay36 k0_pay37
  rw [View.canon_unit_zero (by funext a; fin_cases a <;> rfl), whole3, whole3, whole3, whole4,
    ← turns_block x0 x1 x2 x3 x4 x5 x6 x7 x8 x9 x10 x11 x12 x13 x14 x15 x9 r j]
  rfl

theorem block21 (j : Fin 512) (r : Fin 256) :
    out0_21 (F := Ideal) x0 x1 x2 x3 x4 x5 x6 x7 x8 x9 x10 x11 x12 x13 x14 x15 (ix3 0 j r) = turnedOf x0 x1 x2 x3 x4 x10 r j := by
  unfold out0_21 k0_pay35 k0_pay36 k0_pay37
  rw [View.canon_unit_zero (by funext a; fin_cases a <;> rfl), whole3, whole3, whole3, whole4,
    ← turns_block x0 x1 x2 x3 x4 x5 x6 x7 x8 x9 x10 x11 x12 x13 x14 x15 x10 r j]
  generalize k0_pay34 (F := Ideal) x0 x1 x2 x3 x4 x5 x6 x7 x8 x9 x10 x11 x12 x13 x14 x15 = u
  change shapeCast S1x512x256 (truncf .bf16 (transpose S512x256 [1, 0] (turns (product u x10) (loaded x2) (loaded x3) (loaded x4))
    transposes_S256x512_p1_0_S512x256) bitsLt_bf16_f32) shapeCasts_S512x256_S1x512x256 (ix3 0 j r) = _
  pointwise

end Cert.InpIdeal.Tile

end
-- ==== Proof.InpHost.lean ====
/-
  What the input projection's kernel is launched on: the host's tables and weights, read at an index.
-/
module

public import proofs.«01_k».proof.Proof.InpTile
public import proofs.«01_k».proof.Proof.Gen.InpIdeal.Value
public import Idealize.ShloMosaic.Lib.StableHlo.ReadAt

@[expose] public section

set_option maxRecDepth 16384

noncomputable section

open Idealize.ShloMosaic Idealize.ShloMosaic.TcCoe Idealize.SL.Sem

namespace Cert.InpIdeal.Tile

open Cert.InpIdeal Cert.InpIdeal.Gen

/-! ## The host's own steps -/

/-- A word in every lane of a head. -/
def lanes (n : BitVec 32) : IVec S64 32 := broadcastInDim S64 ![] bcast_S_S64 (constantI S_ 32 n)

/-- The lanes' numbers over sixteen. -/
def sixteenth : IVec S64 32 :=
  select (andi (cmpi .ne (signi (iotaInDim S64 32 0)) (broadcastInDim S64 ![] bcast_S_S64 (signi (constantI S_ 32 16#32))))
      (cmpi .ne (Host.remsi (iotaInDim S64 32 0) (lanes 16#32)) (lanes 0#32)))
    (subi (Host.divsi (iotaInDim S64 32 0) (lanes 16#32)) (lanes 1#32)) (Host.divsi (iotaInDim S64 32 0) (lanes 16#32))

/-- Two, as the remainder takes it. -/
def two : IVec S_ 32 := select (cmpi .eq (constantI S_ 32 2#32) (constantI S_ 32 0#32)) (constantI S_ 32 1#32) (constantI S_ 32 2#32)

/-- The remainder by two, before its sign is set right. -/
def rest : IVec S64 32 := Host.remsi sixteenth (broadcastInDim S64 ![] bcast_S_S64 two)

/-- Whether a lane lies in the first or the second of each two quarters. -/
def parity : IVec S64 32 :=
  select (andi (cmpi .ne (cmpi .slt rest (lanes 0#32)) (broadcastInDim S64 ![] bcast_S_S64 (cmpi .slt two (constantI S_ 32 0#32))))
      (cmpi .ne rest (lanes 0#32)))
    (addi rest (broadcastInDim S64 ![] bcast_S_S64 two)) rest

theorem parity_eq : ∀ j : Fin 64, parity (ix1 j) = if j.val % 32 < 16 then 0#32 else 1#32 := by decide +kernel

/-- A table of the latent tokens where the lane's parity is the word, zero elsewhere. -/
def masked (n : BitVec 32) (t : FVec Ideal S2048x64 .f32) : FVec Ideal S2048x64 .f32 :=
  select (broadcastInDim S2048x64 ![1] bcast_S64_S2048x64_1 (cmpi .eq parity (lanes n))) t
    (broadcastInDim S2048x64 ![] bcast_S_S2048x64 (constant S_ .f32 0x00000000#32))

/-- A table of all tokens of an image, the context tokens' word first, for the two heads of 128 lanes. -/
def table (b : BitVec 32) (t : FVec Ideal S2048x64 .f32) : FVec Ideal S2304x128 .f32 :=
  shapeCast S2304x128 (broadcastInDim S1x2304x2x64 ![0, 1, 2, 3] bcast_S1x2304x1x64_S1x2304x2x64_0_1_2_3
    (shapeCast S1x2304x1x64 (concatenate S2304x64 0 [⟨S256x64, broadcastInDim S256x64 ![] bcast_S_S256x64 (constant S_ .f32 b)⟩,
      ⟨S2048x64, t⟩] concatenates_S256x64_S2048x64_S2304x64_d0) shapeCasts_S2304x64_S1x2304x1x64)) shapeCasts_S1x2304x2x64_S2304x128

/-- A chain of that shape is the table of what its operands hold. -/
theorem table_of (b : BitVec 32) (x : FVec Ideal S256x64 .f32) (y t : FVec Ideal S2048x64 .f32)
    (hx : x = broadcastInDim S256x64 ![] bcast_S_S256x64 (constant S_ .f32 b)) (hy : y = t) :
    shapeCast S2304x128 (broadcastInDim S1x2304x2x64 ![0, 1, 2, 3] bcast_S1x2304x1x64_S1x2304x2x64_0_1_2_3
      (shapeCast S1x2304x1x64 (concatenate S2304x64 0 [⟨S256x64, x⟩, ⟨S2048x64, y⟩] concatenates_S256x64_S2048x64_S2304x64_d0)
        shapeCasts_S2304x64_S1x2304x1x64)) shapeCasts_S1x2304x2x64_S2304x128 = table b t := by
  subst hx hy
  rfl

theorem table_apply (b : BitVec 32) (t : FVec Ideal S2048x64 .f32) (s : Fin 2304) (l : Fin 128) :
    table b t (ix2 s l) = if h : s.val < 256 then Ideal.ofBits .f32 b else t (ix2 ⟨s.val - 256, by omega⟩ ⟨l.val % 64, by omega⟩) := by
  pointwise [table]

theorem masked0 (t : FVec Ideal S2048x64 .f32) (s : Fin 2048) (l : Fin 64) :
    masked 0#32 t (ix2 s l) = if l.val % 32 < 16 then t (ix2 s l) else 0 := by
  pointwise [masked, lanes]
  rw [parity_eq]
  by_cases h : l.val % 32 < 16
  · rw [if_pos h, if_pos h]
    rfl
  · rw [if_neg h, if_neg h]
    rfl

theorem masked1 (t : FVec Ideal S2048x64 .f32) (s : Fin 2048) (l : Fin 64) :
    masked 1#32 t (ix2 s l) = if l.val % 32 < 16 then 0 else t (ix2 s l) := by
  pointwise [masked, lanes]
  rw [parity_eq]
  by_cases h : l.val % 32 < 16
  · rw [if_pos h, if_pos h]
    rfl
  · rw [if_neg h, if_neg h]
    rfl

/-- The columns of a weight, each head twice. -/
def twice (t : FVec Ideal S1024x128 .f32) : FVec Ideal S1024x256 .bf16 :=
  truncf .bf16 (concatenate S1024x256 1
    [⟨S1024x64, extractStridedSlice S1024x64 ![0, 0] t slices_S1024x128_S1024x64_0_0⟩,
      ⟨S1024x64, extractStridedSlice S1024x64 ![0, 0] t slices_S1024x128_S1024x64_0_0⟩,
      ⟨S1024x64, extractStridedSlice S1024x64 ![0, 64] t slices_S1024x128_S1024x64_0_64⟩,
      ⟨S1024x64, extractStridedSlice S1024x64 ![0, 64] t slices_S1024x128_S1024x64_0_64⟩]
    concatenates_S1024x64_S1024x64_S1024x64_S1024x64_S1024x256_d1) bitsLt_bf16_f32

theorem twice_apply (t : FVec Ideal S1024x128 .f32) (k : Fin 1024) (j : Fin 256) :
    twice t (ix2 k j) = t (ix2 k ⟨64 * (j.val / 128) + j.val % 64, by omega⟩) := by
  pointwise [twice]
  split_ifs <;> exact congrArg t (congrArg (ix2 k) (Fin.ext (by simp only []; omega)))

variable (m : (ℓ : Loc nD τ sig) → Buf (Elt Ideal) ℓ) (c : Dev nD)

theorem host2 : V m c main_v14 = table 0x3F800000#32 (m ((c : Thread nD τ).loc main_arg5)) := by
  unfold V
  after_reads_simp
  rfl

theorem host3 : V m c main_v19 = table 0x00000000#32 (masked 0#32 (Host.negf (m ((c : Thread nD τ).loc main_arg6)))) := by
  unfold V
  after_reads_simp
  refine table_of _ _ _ _ ?_ ?_
  · after_reads_simp
  · after_reads_simp
    simp -implicitDefEqProofs only [StableHlo.TRef.toBuf, StableHlo.TRef.ofBuf, cast_cast, cast_eq, id]
    rfl

theorem host4 : V m c main_v24 = table 0x00000000#32 (masked 1#32 (m ((c : Thread nD τ).loc main_arg6))) := by
  unfold V
  after_reads_simp
  refine table_of _ _ _ _ ?_ ?_
  · after_reads_simp
  · after_reads_simp
    simp -implicitDefEqProofs only [StableHlo.TRef.toBuf, StableHlo.TRef.ofBuf, cast_cast, cast_eq, id]
    rfl

theorem host7 : V m c main_v59 = twice (extractStridedSlice S1024x128 ![0, 640] (m ((c : Thread nD τ).loc main_arg2)) slices_S1024x5888_S1024x128_0_640) := by
  unfold V
  after_reads_simp
  rfl

theorem host8 : V m c main_v60 = (truncf .bf16 (extractStridedSlice S1024x512 ![0, 768] (m ((c : Thread nD τ).loc main_arg2)) slices_S1024x5888_S1024x512_0_768) bitsLt_bf16_f32 : FVec Ideal S1024x512 .bf16) := by
  unfold V
  after_reads_simp

theorem host9 : V m c main_v61 = (truncf .bf16 (extractStridedSlice S1024x512 ![0, 1280] (m ((c : Thread nD τ).loc main_arg2)) slices_S1024x5888_S1024x512_0_1280) bitsLt_bf16_f32 : FVec Ideal S1024x512 .bf16) := by
  unfold V
  after_reads_simp

theorem host10 : V m c main_v62 = (truncf .bf16 (extractStridedSlice S1024x512 ![0, 1792] (m ((c : Thread nD τ).loc main_arg2)) slices_S1024x5888_S1024x512_0_1792) bitsLt_bf16_f32 : FVec Ideal S1024x512 .bf16) := by
  unfold V
  after_reads_simp

theorem host11 : V m c main_v63 = (truncf .bf16 (extractStridedSlice S1024x512 ![0, 2304] (m ((c : Thread nD τ).loc main_arg2)) slices_S1024x5888_S1024x512_0_2304) bitsLt_bf16_f32 : FVec Ideal S1024x512 .bf16) := by
  unfold V
  after_reads_simp

end Cert.InpIdeal.Tile

end
-- ==== Proof.InpArray.lean ====
/-
  Five of the seven results of the input projection's kernel, from the arguments: the grid's blocks tile each array, and
  each block holds what its own point wrote.
-/
module

public import proofs.«01_k».proof.Proof.InpHost

@[expose] public section

set_option maxRecDepth 16384

noncomputable section

open Idealize.ShloMosaic Idealize.ShloMosaic.TcCoe Idealize.SL.Sem

namespace Cert.InpIdeal.Tile

open Cert.InpIdeal Cert.InpIdeal.Gen Mixer Inproj

/-- Which block of its operand each window of a token's rows holds at a grid point. -/
theorem index_maps : ∀ t : Fin cfg0.N,
    win0_0.index t = ![(grid0.coords t 0).val, 0]
      ∧ win0_1.index t = ![if (grid0.coords t 0).val % 9 = 0 then 8 else (grid0.coords t 0).val / 9, 0, 0]
      ∧ win0_2.index t = ![(grid0.coords t 0).val % 9, 0] ∧ win0_3.index t = ![(grid0.coords t 0).val % 9, 0]
      ∧ win0_4.index t = ![(grid0.coords t 0).val % 9, 0] := by
  decide +kernel

/-- The weights' windows hold them whole. -/
theorem weight_maps : ∀ t : Fin cfg0.N,
    win0_7.index t = ![0, 0] ∧ win0_8.index t = ![0, 0] ∧ win0_9.index t = ![0, 0] ∧ win0_10.index t = ![0, 0]
      ∧ win0_11.index t = ![0, 0] := by
  decide +kernel

/-- The blocks of the results that each grid point writes. -/
theorem result_maps : ∀ t : Fin cfg0.N,
    win0_18.index t = ![(grid0.coords t 0).val, 0] ∧ win0_19.index t = ![(grid0.coords t 0).val, 0]
      ∧ win0_20.index t = ![(grid0.coords t 0).val, 0]
      ∧ win0_21.index t = ![(grid0.coords t 0).val / 9, 0, (grid0.coords t 0).val % 9]
      ∧ win0_22.index t = ![(grid0.coords t 0).val, 0] := by
  decide +kernel

variable (m : (ℓ : Loc nD τ sig) → Buf (Elt Ideal) ℓ) (c : Dev nD)

theorem host0 : V m c main_arg0 = m ((c : Thread nD τ).loc main_arg0) := by
  unfold V
  after_reads_simp

theorem host1 : V m c main_arg1 = m ((c : Thread nD τ).loc main_arg1) := by
  unfold V
  after_reads_simp

/-! ## The blocks of any arrays -/

theorem read0 (X : Vec Ideal S18432x1024 .f32) (t : Fin cfg0.N) (i : Fin 256) (r : Fin 18432)
    (hr : r.val = 256 * (grid0.coords t 0).val + i.val) (j : Fin 1024) :
    (win0_0.blk t).view.read (Elt Ideal) X (ix2 i j) = X (ix2 r j) := by
  obtain ⟨e0, -⟩ := index_maps t
  blk_ext [e0, hr]

theorem read1 (X : Vec Ideal S9x8x1024 .f32) (t : Fin cfg0.N) (i : Fin 256) (r : Fin 18432)
    (hr : r.val = 256 * (grid0.coords t 0).val + i.val) (n : Fin 8) (j : Fin 1024) :
    (win0_1.blk t).view.read (Elt Ideal) X (ix3 0 n j) = modRow X n r j := by
  obtain ⟨-, e1, -⟩ := index_maps t
  have hk : (grid0.coords t 0).val < 72 := (grid0.coords t 0).isLt
  unfold modRow
  by_cases h9 : (grid0.coords t 0).val % 9 = 0
  · rw [if_pos (by omega)]
    rw [if_pos h9] at e1
    blk_ext [e1]
  · rw [if_neg (by omega)]
    rw [if_neg h9] at e1
    blk_ext [e1]

theorem read2 (X : Vec Ideal S2304x128 .f32) (t : Fin cfg0.N) (i : Fin 256) (l : Fin 128) (s : Fin 2304)
    (hs : s.val = 256 * ((grid0.coords t 0).val % 9) + i.val) : (win0_2.blk t).view.read (Elt Ideal) X (ix2 i l) = X (ix2 s l) := by
  obtain ⟨-, -, e2, e3, e4⟩ := index_maps t
  blk_ext [e2, hs]

theorem read3 (X : Vec Ideal S2304x128 .f32) (t : Fin cfg0.N) (i : Fin 256) (l : Fin 128) (s : Fin 2304)
    (hs : s.val = 256 * ((grid0.coords t 0).val % 9) + i.val) : (win0_3.blk t).view.read (Elt Ideal) X (ix2 i l) = X (ix2 s l) := by
  obtain ⟨-, -, e2, e3, e4⟩ := index_maps t
  blk_ext [e3, hs]

theorem read4 (X : Vec Ideal S2304x128 .f32) (t : Fin cfg0.N) (i : Fin 256) (l : Fin 128) (s : Fin 2304)
    (hs : s.val = 256 * ((grid0.coords t 0).val % 9) + i.val) : (win0_4.blk t).view.read (Elt Ideal) X (ix2 i l) = X (ix2 s l) := by
  obtain ⟨-, -, e2, e3, e4⟩ := index_maps t
  blk_ext [e4, hs]

theorem read7 (X : Vec Ideal S1024x256 .bf16) (t : Fin cfg0.N) (k : Fin 1024) (j : Fin 256) :
    (win0_7.blk t).view.read (Elt Ideal) X (ix2 k j) = X (ix2 k j) := by
  obtain ⟨e7, e8, e9, e10, e11⟩ := weight_maps t
  blk_ext [e7]

theorem read8 (X : Vec Ideal S1024x512 .bf16) (t : Fin cfg0.N) (k : Fin 1024) (j : Fin 512) :
    (win0_8.blk t).view.read (Elt Ideal) X (ix2 k j) = X (ix2 k j) := by
  obtain ⟨e7, e8, e9, e10, e11⟩ := weight_maps t
  blk_ext [e8]

theorem read9 (X : Vec Ideal S1024x512 .bf16) (t : Fin cfg0.N) (k : Fin 1024) (j : Fin 512) :
    (win0_9.blk t).view.read (Elt Ideal) X (ix2 k j) = X (ix2 k j) := by
  obtain ⟨e7, e8, e9, e10, e11⟩ := weight_maps t
  blk_ext [e9]

theorem read10 (X : Vec Ideal S1024x512 .bf16) (t : Fin cfg0.N) (k : Fin 1024) (j : Fin 512) :
    (win0_10.blk t).view.read (Elt Ideal) X (ix2 k j) = X (ix2 k j) := by
  obtain ⟨e7, e8, e9, e10, e11⟩ := weight_maps t
  blk_ext [e10]

theorem read11 (X : Vec Ideal S1024x512 .bf16) (t : Fin cfg0.N) (k : Fin 1024) (j : Fin 512) :
    (win0_11.blk t).view.read (Elt Ideal) X (ix2 k j) = X (ix2 k j) := by
  obtain ⟨e7, e8, e9, e10, e11⟩ := weight_maps t
  blk_ext [e11]

/-! ## The blocks of the launch, from the arguments -/

/-- What the products read of a grid point's rows. -/
theorem rows_block (t : Fin cfg0.N) (i : Fin 256) (r : Fin 18432) (hr : r.val = 256 * (grid0.coords t 0).val + i.val) (k : Fin 1024) :
    rowOf (iblk m c 0 t) (iblk m c 1 t) i k
      = input (m ((c : Thread nD τ).loc main_arg0)) (m ((c : Thread nD τ).loc main_arg1)) r k := by
  have b0 (j : Fin 1024) : iblk m c 0 t (ix2 i j) = m ((c : Thread nD τ).loc main_arg0) (ix2 r j) :=
    (read0 (V m c main_arg0) t i r hr j).trans (congrFun (host0 m c) _)
  have b1 (n : Fin 8) (j : Fin 1024) : iblk m c 1 t (ix3 0 n j) = modRow (m ((c : Thread nD τ).loc main_arg1)) n r j :=
    (read1 (V m c main_arg1) t i r hr n j).trans (by rw [host1])
  unfold rowOf input
  simp only [b0, b1]

/-- The block of the values' weights. -/
theorem block7 (t : Fin cfg0.N) (k : Fin 1024) (j : Fin 256) : iblk m c 7 t (ix2 k j)
    = m ((c : Thread nD τ).loc main_arg2) (ix2 k ⟨640 + (64 * (j.val / 128) + j.val % 64), by omega⟩) := by
  refine (read7 (V m c main_v59) t k j).trans ?_
  rw [host7, twice_apply]
  pointwise

/-- The blocks of the other weights. -/
theorem block8 (t : Fin cfg0.N) (k : Fin 1024) (j : Fin 512) : iblk m c 8 t (ix2 k j)
    = m ((c : Thread nD τ).loc main_arg2) (ix2 k ⟨768 + j.val, by omega⟩) := by
  refine (read8 (V m c main_v60) t k j).trans ?_
  rw [host8]
  pointwise

theorem block9 (t : Fin cfg0.N) (k : Fin 1024) (j : Fin 512) : iblk m c 9 t (ix2 k j)
    = m ((c : Thread nD τ).loc main_arg2) (ix2 k ⟨1280 + j.val, by omega⟩) := by
  refine (read9 (V m c main_v61) t k j).trans ?_
  rw [host9]
  pointwise

theorem block10 (t : Fin cfg0.N) (k : Fin 1024) (j : Fin 512) : iblk m c 10 t (ix2 k j)
    = m ((c : Thread nD τ).loc main_arg2) (ix2 k ⟨1792 + j.val, by omega⟩) := by
  refine (read10 (V m c main_v62) t k j).trans ?_
  rw [host10]
  pointwise

theorem block11 (t : Fin cfg0.N) (k : Fin 1024) (j : Fin 512) : iblk m c 11 t (ix2 k j)
    = m ((c : Thread nD τ).loc main_arg2) (ix2 k ⟨2304 + j.val, by omega⟩) := by
  refine (read11 (V m c main_v63) t k j).trans ?_
  rw [host11]
  pointwise

/-- A column of the product, as the arguments hold it. -/
def columns (r : Fin 18432) (p : Fin 5888) : EReal :=
  column (m ((c : Thread nD τ).loc main_arg0)) (m ((c : Thread nD τ).loc main_arg1)) (m ((c : Thread nD τ).loc main_arg2)) r p

/-- The turned lanes of a grid point's rows. -/
theorem turned_block (w : Vec Ideal S1024x512 .bf16) (o : ℕ) (ho : o + 512 ≤ 5888)
    (hw : ∀ k (j : Fin 512), w (ix2 k j) = m ((c : Thread nD τ).loc main_arg2) (ix2 k ⟨o + j.val, by omega⟩))
    (t : Fin cfg0.N) (i : Fin 256) (r : Fin 18432) (hr : r.val = 256 * (grid0.coords t 0).val + i.val) (s : Fin 2304)
    (hs : s.val = 256 * ((grid0.coords t 0).val % 9) + i.val) (j : Fin 512) :
    turnedOf (iblk m c 0 t) (iblk m c 1 t) (iblk m c 2 t) (iblk m c 3 t) (iblk m c 4 t) w i j
      = rope (part o ho (columns m c r)) (m ((c : Thread nD τ).loc main_arg5))
        (m ((c : Thread nD τ).loc main_arg6)) s j := by
  have p (j : Fin 512) : ∑ k, rowOf (iblk m c 0 t) (iblk m c 1 t) i k * w (ix2 k j) = columns m c r ⟨o + j.val, by omega⟩ :=
    Finset.sum_congr rfl fun k _ => congrArg₂ (· * ·) (rows_block m c t i r hr k) (hw k j)
  unfold turnedOf
  rw [p, p, p]
  refine rope_lanes (part o ho (columns m c r)) _ _ s j _ _ rfl rfl _ _ _ ?_ ?_ ?_
  · refine (read2 (V m c main_v14) t i _ s hs).trans ?_
    rw [host2, table_apply, Ideal.ofBits_one_f32]
    simp only [show j.val % 128 % 64 = j.val % 64 by omega]
  · refine (read3 (V m c main_v19) t i _ s hs).trans ?_
    rw [host3, table_apply, Ideal.ofBits_zero_f32]
    simp only [masked0, show j.val % 128 % 64 = j.val % 64 by omega, show j.val % 64 % 32 = j.val % 32 by omega]
    rfl
  · refine (read4 (V m c main_v24) t i _ s hs).trans ?_
    rw [host4, table_apply, Ideal.ofBits_zero_f32]
    simp only [masked1, show j.val % 128 % 64 = j.val % 64 by omega, show j.val % 64 % 32 = j.val % 32 by omega]

/-- An index of rank two is a pair. -/
theorem idx2 {n k : ℕ} (y : (⟨2, ![n, k]⟩ : Shape).Idx) : ∃ (a : Fin n) (b : Fin k), y = ix2 a b :=
  ⟨y 0, y 1, by funext a; fin_cases a <;> rfl⟩

/-- An index of rank three whose first coordinate can only be zero is a pair. -/
theorem idx3 {n k : ℕ} (y : (⟨3, ![1, n, k]⟩ : Shape).Idx) : ∃ (a : Fin n) (b : Fin k), y = ix3 0 a b :=
  ⟨y 1, y 2, by
    funext a
    fin_cases a
    · exact Subsingleton.elim (α := Fin 1) _ _
    · rfl
    · rfl⟩

/-! ## The five arrays that the kernel leaves -/

/-- The values of the first branch. -/
theorem array18 : (dats m 0 c).arrAt 18 cfg0.N = fun x : S18432x256.Idx => values (columns m c (x 0)) (x 1) := by
  refine (dats m 0 c).arrAt_eq_of_covers 18 _ (by decide +kernel) fun t hf y => ?_
  blk_simp
  rw [after0_18]
  obtain ⟨e18, e19, e20, e21, e22⟩ := result_maps t
  have hk : (grid0.coords t 0).val < 72 := (grid0.coords t 0).isLt
  obtain ⟨a, b, rfl⟩ := idx2 (n := 256) (k := 256) y
  have a0 : ((View.whole main_v72_2).slice (win0_18.rect t)).emb (ix2 a b) 0 = (⟨256 * (grid0.coords t 0).val + a.val, by omega⟩ : Fin 18432) :=
    Fin.ext (by
      blk_simp [e18]
      show (grid0.coords t 0).val * 256 + a.val = 256 * (grid0.coords t 0).val + a.val
      omega)
  have a1 : ((View.whole main_v72_2).slice (win0_18.rect t)).emb (ix2 a b) 1 = (⟨b.val, by omega⟩ : Fin 256) :=
    Fin.ext (by
      blk_simp [e18])
  refine (block18 _ _ _ _ _ _ _ _ _ _ _ _ _ _ _ _ a b).trans ?_
  rw [a0, a1]
  exact Finset.sum_congr rfl fun k _ => congrArg₂ (· * ·)
    (rows_block m c t a ⟨256 * (grid0.coords t 0).val + a.val, by omega⟩ rfl k) (block7 m c t k b)

/-- The features of the second branch. -/
theorem array19 : (dats m 0 c).arrAt 19 cfg0.N = fun x : S18432x512.Idx => part 768 (by omega) (columns m c (x 0)) (x 1) := by
  refine (dats m 0 c).arrAt_eq_of_covers 19 _ (by decide +kernel) fun t hf y => ?_
  blk_simp
  rw [after0_19]
  obtain ⟨e18, e19, e20, e21, e22⟩ := result_maps t
  have hk : (grid0.coords t 0).val < 72 := (grid0.coords t 0).isLt
  obtain ⟨a, b, rfl⟩ := idx2 (n := 256) (k := 512) y
  have a0 : ((View.whole main_v72_3).slice (win0_19.rect t)).emb (ix2 a b) 0 = (⟨256 * (grid0.coords t 0).val + a.val, by omega⟩ : Fin 18432) :=
    Fin.ext (by
      blk_simp [e19]
      show (grid0.coords t 0).val * 256 + a.val = 256 * (grid0.coords t 0).val + a.val
      omega)
  have a1 : ((View.whole main_v72_3).slice (win0_19.rect t)).emb (ix2 a b) 1 = (⟨b.val, by omega⟩ : Fin 512) :=
    Fin.ext (by
      blk_simp [e19])
  refine (block19 _ _ _ _ _ _ _ _ _ _ _ _ _ _ _ _ a b).trans ?_
  rw [a0, a1]
  exact Finset.sum_congr rfl fun k _ => congrArg₂ (· * ·)
    (rows_block m c t a ⟨256 * (grid0.coords t 0).val + a.val, by omega⟩ rfl k) (block8 m c t k b)

/-- The values of the third branch. -/
theorem array22 : (dats m 0 c).arrAt 22 cfg0.N = fun x : S18432x512.Idx => part 2304 (by omega) (columns m c (x 0)) (x 1) := by
  refine (dats m 0 c).arrAt_eq_of_covers 22 _ (by decide +kernel) fun t hf y => ?_
  blk_simp
  rw [after0_22]
  obtain ⟨e18, e19, e20, e21, e22⟩ := result_maps t
  have hk : (grid0.coords t 0).val < 72 := (grid0.coords t 0).isLt
  obtain ⟨a, b, rfl⟩ := idx2 (n := 256) (k := 512) y
  have a0 : ((View.whole main_v72_6).slice (win0_22.rect t)).emb (ix2 a b) 0 = (⟨256 * (grid0.coords t 0).val + a.val, by omega⟩ : Fin 18432) :=
    Fin.ext (by
      blk_simp [e22]
      show (grid0.coords t 0).val * 256 + a.val = 256 * (grid0.coords t 0).val + a.val
      omega)
  have a1 : ((View.whole main_v72_6).slice (win0_22.rect t)).emb (ix2 a b) 1 = (⟨b.val, by omega⟩ : Fin 512) :=
    Fin.ext (by
      blk_simp [e22])
  refine (block22 _ _ _ _ _ _ _ _ _ _ _ _ _ _ _ _ a b).trans ?_
  rw [a0, a1]
  exact Finset.sum_congr rfl fun k _ => congrArg₂ (· * ·)
    (rows_block m c t a ⟨256 * (grid0.coords t 0).val + a.val, by omega⟩ rfl k) (block11 m c t k b)

/-- The queries of the third branch. -/
theorem array20 : (dats m 0 c).arrAt 20 cfg0.N = fun x : S18432x512.Idx =>
    queries (columns m c) (m ((c : Thread nD τ).loc main_arg5)) (m ((c : Thread nD τ).loc main_arg6)) (x 0) (x 1) := by
  refine (dats m 0 c).arrAt_eq_of_covers 20 _ (by decide +kernel) fun t hf y => ?_
  blk_simp
  rw [after0_20]
  obtain ⟨e18, e19, e20, e21, e22⟩ := result_maps t
  have hk : (grid0.coords t 0).val < 72 := (grid0.coords t 0).isLt
  obtain ⟨a, b, rfl⟩ := idx2 (n := 256) (k := 512) y
  have a0 : ((View.whole main_v72_4).slice (win0_20.rect t)).emb (ix2 a b) 0 = (⟨256 * (grid0.coords t 0).val + a.val, by omega⟩ : Fin 18432) :=
    Fin.ext (by
      blk_simp [e20]
      show (grid0.coords t 0).val * 256 + a.val = 256 * (grid0.coords t 0).val + a.val
      omega)
  have a1 : ((View.whole main_v72_4).slice (win0_20.rect t)).emb (ix2 a b) 1 = (⟨b.val, by omega⟩ : Fin 512) :=
    Fin.ext (by
      blk_simp [e20])
  refine (block20 _ _ _ _ _ _ _ _ _ _ _ _ _ _ _ _ a b).trans ?_
  rw [a0, a1]
  rw [turned_block m c _ 1280 (by omega) (fun k j => block9 m c t k j) t a ⟨256 * (grid0.coords t 0).val + a.val, by omega⟩ rfl
    (place ⟨256 * (grid0.coords t 0).val + a.val, by omega⟩) (by unfold place; simp only []; omega)]
  rfl

/-- The keys of the third branch. -/
theorem array21 : (dats m 0 c).arrAt 21 cfg0.N = fun x : S8x512x2304.Idx =>
    keys (columns m c) (m ((c : Thread nD τ).loc main_arg5)) (m ((c : Thread nD τ).loc main_arg6)) (x 0) (x 1) (x 2) := by
  refine (dats m 0 c).arrAt_eq_of_covers 21 _ (by decide +kernel) fun t hf y => ?_
  blk_simp
  rw [after0_21]
  obtain ⟨e18, e19, e20, e21, e22⟩ := result_maps t
  have hk : (grid0.coords t 0).val < 72 := (grid0.coords t 0).isLt
  obtain ⟨a, b, rfl⟩ := idx3 (n := 512) (k := 256) y
  have a0 : ((View.whole main_v72_5).slice (win0_21.rect t)).emb (ix3 0 a b) 0 = (⟨(grid0.coords t 0).val / 9, by omega⟩ : Fin 8) :=
    Fin.ext (by
      blk_simp [e21]
      rfl)
  have a1 : ((View.whole main_v72_5).slice (win0_21.rect t)).emb (ix3 0 a b) 1 = (⟨a.val, by omega⟩ : Fin 512) :=
    Fin.ext (by
      blk_simp [e21])
  have a2 : ((View.whole main_v72_5).slice (win0_21.rect t)).emb (ix3 0 a b) 2
      = (⟨256 * ((grid0.coords t 0).val % 9) + b.val, by omega⟩ : Fin 2304) :=
    Fin.ext (by
      blk_simp [e21]
      show (grid0.coords t 0).val % 9 * 256 + b.val = 256 * ((grid0.coords t 0).val % 9) + b.val
      omega)
  refine (block21 _ _ _ _ _ _ _ _ _ _ _ _ _ _ _ _ a b).trans ?_
  rw [a0, a1, a2, turned_block m c _ 1792 (by omega) (fun k j => block10 m c t k j) t b
    ⟨2304 * ((grid0.coords t 0).val / 9) + (256 * ((grid0.coords t 0).val % 9) + b.val), by omega⟩ (by simp only []; omega)
    ⟨256 * ((grid0.coords t 0).val % 9) + b.val, by omega⟩ rfl]
  rfl

end Cert.InpIdeal.Tile

end
-- ==== Proof.InpRef.lean ====
/-
  The reference of the input projection, read at a token: each of its five results is the token's own function, as the
  kernel's blocks are.
-/
module

public import proofs.«01_k».proof.Proof.InpRow
public import proofs.«01_k».proof.Proof.MixRef
public import proofs.«01_k».proof.Proof.Gen.InpRefIdeal.Read

@[expose] public section

set_option maxRecDepth 16384

noncomputable section

open Idealize.ShloMosaic

namespace Cert.InpRefIdeal.Result

open Cert.InpRefIdeal Cert.InpRefIdeal.Gen Cert.InpRefIdeal.Read Mixer Inproj

/-! ## The rotary embedding, over any array -/

/-- The latent tokens' lanes by image, head and lane. -/
def latent (x : FVec Ideal S8x2304x512 .f32) : FVec Ideal S8x2048x8x64 .f32 :=
  shapeCast S8x2048x8x64 (extractStridedSlice S8x2048x512 ![0, 256, 0] x slices_S8x2304x512_S8x2048x512_0_256_0)
    shapeCasts_S8x2048x512_S8x2048x8x64

/-- Each quarter of a head turned into its neighbour. -/
def swapped (y : FVec Ideal S8x2048x8x64 .f32) : FVec Ideal S8x2048x8x64 .f32 :=
  (concatenate S8x2048x8x64 3
    [⟨S8x2048x8x16, (Host.negf (extractStridedSlice S8x2048x8x16 ![0, 0, 0, 16] y slices_S8x2048x8x64_S8x2048x8x16_0_0_0_16) : FVec Ideal S8x2048x8x16 .f32)⟩,
      ⟨S8x2048x8x16, (extractStridedSlice S8x2048x8x16 ![0, 0, 0, 0] y slices_S8x2048x8x64_S8x2048x8x16_0_0_0_0 : FVec Ideal S8x2048x8x16 .f32)⟩,
      ⟨S8x2048x8x16, (Host.negf (extractStridedSlice S8x2048x8x16 ![0, 0, 0, 48] y slices_S8x2048x8x64_S8x2048x8x16_0_0_0_48) : FVec Ideal S8x2048x8x16 .f32)⟩,
      ⟨S8x2048x8x16, (extractStridedSlice S8x2048x8x16 ![0, 0, 0, 32] y slices_S8x2048x8x64_S8x2048x8x16_0_0_0_32 : FVec Ideal S8x2048x8x16 .f32)⟩]
    concatenates_S8x2048x8x16_S8x2048x8x16_S8x2048x8x16_S8x2048x8x16_S8x2048x8x64_d3 : FVec Ideal S8x2048x8x64 .f32)

/-- A table for every image and head. -/
def spreadTable (t : FVec Ideal S2048x64 .f32) : FVec Ideal S8x2048x8x64 .f32 :=
  broadcastInDim S8x2048x8x64 ![0, 1, 2, 3] bcast_S1x2048x1x64_S8x2048x8x64_0_1_2_3
    (broadcastInDim S1x2048x1x64 ![1, 3] bcast_S2048x64_S1x2048x1x64_1_3 t)

/-- The rotated latent tokens. -/
def rotated (y : FVec Ideal S8x2048x8x64 .f32) (cos sin : FVec Ideal S2048x64 .f32) : FVec Ideal S8x2048x8x64 .f32 :=
  addf (mulf y (spreadTable cos)) (mulf (swapped y) (spreadTable sin))

/-- The rotary embedding of all tokens. -/
def roped (q : FVec Ideal S18432x512 .f32) (cos sin : FVec Ideal S2048x64 .f32) : FVec Ideal S8x2304x512 .f32 :=
  concatenate S8x2304x512 1
    [⟨S8x256x512, extractStridedSlice S8x256x512 ![0, 0, 0] (shapeCast S8x2304x512 q shapeCasts_S18432x512_S8x2304x512)
        slices_S8x2304x512_S8x256x512_0_0_0⟩,
      ⟨S8x2048x512, shapeCast S8x2048x512 (rotated (latent (shapeCast S8x2304x512 q shapeCasts_S18432x512_S8x2304x512)) cos sin)
        shapeCasts_S8x2048x8x64_S8x2048x512⟩]
    concatenates_S8x256x512_S8x2048x512_S8x2304x512_d1

/-- A sum of two products, from its parts. -/
theorem sum_eq {a a' y y' c s : EReal} (ha : a = a') (hy : y = y') : a * c + y * s = a' * c + y' * s := by
  rw [ha, hy]

/-- A value of an array, at an equal place. -/
theorem at_eq (q : FVec Ideal S18432x512 .f32) {a a' : Fin 18432} {b b' : Fin 512} (ha : a.val = a'.val) (hb : b.val = b'.val) :
    q (ix2 a b) = q (ix2 a' b') := by
  rw [Fin.ext ha, Fin.ext hb]

theorem roped_apply (q : FVec Ideal S18432x512 .f32) (cos sin : FVec Ideal S2048x64 .f32) (b : Fin 8) (s : Fin 2304) (j : Fin 512) :
    roped q cos sin (ix3 b s j) = rope (fun j => q (ix2 ⟨2304 * b.val + s.val, by omega⟩ j)) cos sin s j := by
  pointwise [roped, rotated, latent, swapped, spreadTable]
  unfold rope turned
  by_cases h : s.val < 256
  · refine (dif_pos h).trans (Eq.trans ?_ (dif_pos h).symm)
    exact at_eq q (by simp only []; omega) rfl
  · refine (dif_neg h).trans (Eq.trans ?_ (dif_neg h).symm)
    refine sum_eq (at_eq q (by simp only []; omega) rfl) ?_
    by_cases hj : j.val % 32 < 16
    · refine Eq.trans ?_ (if_pos hj).symm
      split_ifs <;> first
        | omega
        | exact congrArg Neg.neg (at_eq q (by dsimp only; omega) (by dsimp only; omega))
    · refine Eq.trans ?_ (if_neg hj).symm
      split_ifs <;> first
        | omega
        | exact at_eq q (by dsimp only; omega) (by dsimp only; omega)

/-! ## The printed values, at a token -/

variable (x0 : FVec Ideal S18432x1024 .f32) (x1 : FVec Ideal S9x8x1024 .f32) (x2 : FVec Ideal S1024x5888 .f32)
  (x5 x6 : FVec Ideal S2048x64 .f32)

/-- What the product reads. -/
theorem input_ref (r : Fin 18432) (j : Fin 1024) : val_main_v39 (F := Ideal) x0 x1 (ix2 r j) = input x0 x1 r j := by
  have e : val_main_v39 (F := Ideal) x0 x1 = Cert.MixRefIdeal.Result.rowModulate x0
      (Cert.MixRefIdeal.Read.val_main_v8 (F := Ideal) x1) (Cert.MixRefIdeal.Read.val_main_v17 (F := Ideal) x1) := rfl
  have p0 : Cert.MixRefIdeal.Read.val_main_v8 (F := Ideal) x1 = Cert.MixRefIdeal.Result.params
      (extractStridedSlice S1x1x1024 ![8, 0, 0] x1 slices_S9x8x1024_S1x1x1024_8_0_0)
      (extractStridedSlice S8x1x1024 ![0, 0, 0] x1 slices_S9x8x1024_S8x1x1024_0_0_0) := rfl
  have p1 : Cert.MixRefIdeal.Read.val_main_v17 (F := Ideal) x1 = Cert.MixRefIdeal.Result.params
      (extractStridedSlice S1x1x1024 ![8, 1, 0] x1 slices_S9x8x1024_S1x1x1024_8_1_0)
      (extractStridedSlice S8x1x1024 ![0, 1, 0] x1 slices_S9x8x1024_S8x1x1024_0_1_0) := rfl
  rw [e, Cert.MixRefIdeal.Result.rowModulate_apply, p0, p1]
  simp only [Cert.MixRefIdeal.Result.params_apply]
  pointwise
  rfl

/-- The product. -/
theorem product_ref (r : Fin 18432) (p : Fin 5888) : val_main_v40 (F := Ideal) x0 x1 x2 (ix2 r p) = column x0 x1 x2 r p := by
  pointwise [val_main_v40]
  simp only [input_ref x0 x1]
  rfl

theorem roped12 : val_main_v71 (F := Ideal) x0 x1 x2 x5 x6 = roped (val_main_v45 (F := Ideal) x0 x1 x2) x5 x6 := rfl

theorem roped13 : val_main_v94 (F := Ideal) x0 x1 x2 x5 x6 = roped (val_main_v46 (F := Ideal) x0 x1 x2) x5 x6 := rfl

/-! ## The five results, whole -/

theorem result0 : val_main_v96 (F := Ideal) x0 x1 x2 = fun x : S18432x256.Idx => values (column x0 x1 x2 (x 0)) (x 1) := by
  funext x
  obtain ⟨r, j, rfl⟩ : ∃ (r : Fin 18432) (j : Fin 256), x = ix2 r j := ⟨x 0, x 1, by funext a; fin_cases a <;> rfl⟩
  pointwise [val_main_v96, val_main_v51, val_main_v50, val_main_v49, val_main_v43]
  simp only [product_ref]
  unfold values
  split_ifs <;> exact congrArg (column x0 x1 x2 r) (Fin.ext (by simp only []; omega))

theorem result1 : val_main_v97 (F := Ideal) x0 x1 x2
    = fun x : S18432x512.Idx => part 768 (by omega) (column x0 x1 x2 (x 0)) (x 1) := by
  funext x
  obtain ⟨r, j, rfl⟩ : ∃ (r : Fin 18432) (j : Fin 512), x = ix2 r j := ⟨x 0, x 1, by funext a; fin_cases a <;> rfl⟩
  pointwise [val_main_v97, val_main_v44]
  exact product_ref x0 x1 x2 _ _

theorem result4 : val_main_v100 (F := Ideal) x0 x1 x2
    = fun x : S18432x512.Idx => part 2304 (by omega) (column x0 x1 x2 (x 0)) (x 1) := by
  funext x
  obtain ⟨r, j, rfl⟩ : ∃ (r : Fin 18432) (j : Fin 512), x = ix2 r j := ⟨x 0, x 1, by funext a; fin_cases a <;> rfl⟩
  pointwise [val_main_v100, val_main_v47]
  exact product_ref x0 x1 x2 _ _

theorem result2 : val_main_v98 (F := Ideal) x0 x1 x2 x5 x6
    = fun x : S18432x512.Idx => queries (column x0 x1 x2) x5 x6 (x 0) (x 1) := by
  funext x
  obtain ⟨r, j, rfl⟩ : ∃ (r : Fin 18432) (j : Fin 512), x = ix2 r j := ⟨x 0, x 1, by funext a; fin_cases a <;> rfl⟩
  pointwise [val_main_v98, val_main_v74, val_main_v73, val_main_v72, val_main_cst_5]
  rw [roped12, roped_apply]
  pointwise [val_main_v45]
  simp only [product_ref]
  unfold queries place part
  simp only [show 2304 * (r.val / 2304) + r.val % 2304 = r.val by omega]

theorem result3 : val_main_v99 (F := Ideal) x0 x1 x2 x5 x6
    = fun x : S8x512x2304.Idx => keys (column x0 x1 x2) x5 x6 (x 0) (x 1) (x 2) := by
  funext x
  obtain ⟨b, j, s, rfl⟩ : ∃ (b : Fin 8) (j : Fin 512) (s : Fin 2304), x = ix3 b j s :=
    ⟨x 0, x 1, x 2, by funext a; fin_cases a <;> rfl⟩
  pointwise [val_main_v99, val_main_v95]
  rw [roped13, roped_apply]
  pointwise [val_main_v46]
  simp only [product_ref]
  rfl

end Cert.InpRefIdeal.Result

end
-- ==== Proof.InpClaim.lean ====
/-
  The claim for the input projection: the idealized kernel and the reference leave the same five arrays, for any
  arguments.
-/
module

public import proofs.«01_k».proof.Defs
public import proofs.«01_k».proof.Proof.InpArray
public import proofs.«01_k».proof.Proof.InpRef

@[expose] public section

set_option maxRecDepth 16384

noncomputable section

open Idealize.ShloMosaic Idealize.ShloMosaic.TcCoe Idealize.SL.Sem

namespace Cert.InpClaim

open Inproj

/-- The idealized kernel and the reference leave the same arrays. -/
theorem claim : Cert.algebraic_InpIdeal_InpRefIdeal := by
  intro m g m' g' _ ha
  refine ⟨fun c => (Cert.InpIdeal.Gen.dats m 0 c).arrAt 18 Cert.InpIdeal.cfg0.N,
    fun c => (Cert.InpIdeal.Gen.dats m 0 c).arrAt 19 Cert.InpIdeal.cfg0.N,
    fun c => (Cert.InpIdeal.Gen.dats m 0 c).arrAt 20 Cert.InpIdeal.cfg0.N,
    fun c => (Cert.InpIdeal.Gen.dats m 0 c).arrAt 21 Cert.InpIdeal.cfg0.N,
    fun c => (Cert.InpIdeal.Gen.dats m 0 c).arrAt 22 Cert.InpIdeal.cfg0.N,
    (θ_run _ _ _).mono (fun r h c => (h c).2.2) (Cert.InpIdeal.Value.run_blocks m g), ?_⟩
  refine (θ_run _ _ _).mono (fun r h c => ⟨(h c).1.trans ?_, (h c).2.1.trans ?_, (h c).2.2.1.trans ?_,
    (h c).2.2.2.1.trans ?_, (h c).2.2.2.2.1.trans ?_, (h c).2.2.2.2.2⟩) (Cert.InpRefIdeal.Value.run m' g')
  · rw [Cert.InpRefIdeal.Read.val_main_v96_eq, (ha c).1, (ha c).2.1, (ha c).2.2.1]
    exact (Cert.InpRefIdeal.Result.result0 _ _ _).trans (Cert.InpIdeal.Tile.array18 m c).symm
  · refine (Cert.InpRefIdeal.Read.val_main_v97_eq _ _ _).trans ?_
    rw [(ha c).1, (ha c).2.1, (ha c).2.2.1]
    exact (Cert.InpRefIdeal.Result.result1 _ _ _).trans (Cert.InpIdeal.Tile.array19 m c).symm
  · rw [Cert.InpRefIdeal.Read.val_main_v98_eq, (ha c).1, (ha c).2.1, (ha c).2.2.1,
      (ha c).2.2.2.2.2.1, (ha c).2.2.2.2.2.2]
    exact (Cert.InpRefIdeal.Result.result2 _ _ _ _ _).trans (Cert.InpIdeal.Tile.array20 m c).symm
  · rw [Cert.InpRefIdeal.Read.val_main_v99_eq, (ha c).1, (ha c).2.1, (ha c).2.2.1,
      (ha c).2.2.2.2.2.1, (ha c).2.2.2.2.2.2]
    exact (Cert.InpRefIdeal.Result.result3 _ _ _ _ _).trans (Cert.InpIdeal.Tile.array21 m c).symm
  · refine (Cert.InpRefIdeal.Read.val_main_v100_eq _ _ _).trans ?_
    rw [(ha c).1, (ha c).2.1, (ha c).2.2.1]
    exact (Cert.InpRefIdeal.Result.result4 _ _ _).trans (Cert.InpIdeal.Tile.array22 m c).symm

/-- The reference's run keeps its arguments and ends with every counter at zero. -/
theorem reference_frame : Cert.quiescent_InpRefIdeal := fun m g _ =>
  (θ_run Cert.InpRefIdeal.defs _ _).mono
    (fun r h => ⟨fun c => (h c).2.2.2.2.2, Idealize.ShloMosaic.sem_eq_zero_of_no_sems (by decide) r.2⟩)
    (Cert.InpRefIdeal.Value.run (F := Ideal) m g)

end Cert.InpClaim

end
-- ==== Proof.FinRow.lean ====
/-
  The channel mixing's output of one latent token, over the extended reals, from the token's rows and the weights: the
  shared expert, the eight routed experts' outputs and the last norm.
-/
module

public import proofs.«01_k».proof.Proof.MixRow

@[expose] public section

set_option maxRecDepth 16384

noncomputable section

open Idealize.ShloMosaic

namespace Mixer

/-- Lane `j` of an expert's output of a token, which four rows of 128 words hold: a word holds a lane of an even
    block of 128 in its low half and the lane of the next block in its high half. -/
def lane (w : Fin 4 → Fin 128 → BitVec 32) (j : Fin 1024) : EReal :=
  Ideal.ofBits .bf16 ((w ⟨j.val / 256, by omega⟩ ⟨j.val % 128, by omega⟩).extractLsb' (j.val / 128 % 2 * 16) 16)

/-- The shared expert's output for the row that it reads. -/
def shared (u : Fin 1024 → EReal) (sg su : Fin 1024 → Fin 256 → EReal) (sd : Fin 256 → Fin 1024 → EReal)
    (j : Fin 1024) : EReal :=
  ∑ f, (∑ k, u k * sg k f) * Ideal.logistic (∑ k, u k * sg k f) * (∑ k, u k * su k f) * sd f j

/-- The residual stream after the channel mixing. -/
def combined (h : Fin 1024 → EReal) (m : Fin 8 → Fin 1024 → EReal) (y : Fin 8 → Fin 1024 → EReal) (q : Fin 8 → EReal)
    (sg su : Fin 1024 → Fin 256 → EReal) (sd : Fin 256 → Fin 1024 → EReal) (j : Fin 1024) : EReal :=
  Ideal.ofBits .f32 0x3FB504F3#32 * h j + m 5 j * (shared (modulate h (m 3) (m 4)) sg su sd j + ∑ k, q k * y k j)

/-- The layer's output of a latent token, from the arrays. -/
def final (x0 : Vec Ideal ⟨2, ![16384, 1024]⟩ .f32) (x1 : Vec Ideal ⟨3, ![9, 8, 1024]⟩ .f32)
    (x2 : Vec Ideal ⟨3, ![8, 65792, 128]⟩ .i32) (x3 : Vec Ideal ⟨2, ![16384, 8]⟩ .f32)
    (x4 x5 : Vec Ideal ⟨2, ![1024, 256]⟩ .f32) (x6 : Vec Ideal ⟨2, ![256, 1024]⟩ .f32)
    (x7 x8 : Vec Ideal ⟨1, ![1024]⟩ .f32) (r : Fin 16384) (j : Fin 1024) : EReal :=
  norm (combined (fun k => x0 (ix2 r k)) (fun n k => x1 (ix3 ⟨r.val / 2048, by omega⟩ n k))
      (fun n => lane fun a l => x2 (ix3 n ⟨4 * r.val + a.val, by omega⟩ l)) (fun n => x3 (ix2 r n))
      (fun k f => x4 (ix2 k f)) (fun k f => x5 (ix2 k f)) fun f k => x6 (ix2 f k)) j * x7 (ix1 j) + x8 (ix1 j)

end Mixer

end
-- ==== Proof.FinTile.lean ====
/-
  The channel mixing's kernel of the last layer on one tile of 256 tokens, as one term of the blocks that it reads, and
  that term at an index.
-/
module

public import proofs.«01_k».proof.Proof.FinRow
public import proofs.«01_k».proof.Proof.MixTile
public import proofs.«01_k».proof.Proof.Gen.FinIdeal.Skeleton

@[expose] public section

set_option maxRecDepth 16384

noncomputable section

open Idealize.ShloMosaic

namespace Cert.FinIdeal.Tile

open Cert.FinIdeal Cert.FinIdeal.Gen Mixer
open Cert.MixIdeal.Tile (normed normed_apply)

/-- The weighted sum of the eight experts' lanes of one block of 128, in one half of their words. -/
def gather (q : Vec Ideal S256x8 .f32) (w : Fin 8 → Vec Ideal S256x128 .i32) (p : ℕ) (hp : p < 2) :
    FVec Ideal S256x128 .f32 :=
  addf (addf (addf (addf (addf (addf (addf
    (mulf (k0_pay6 q) (unpackElementwise p (w 0) hp)) (mulf (k0_pay7 q) (unpackElementwise p (w 1) hp)))
    (mulf (k0_pay8 q) (unpackElementwise p (w 2) hp))) (mulf (k0_pay9 q) (unpackElementwise p (w 3) hp)))
    (mulf (k0_pay10 q) (unpackElementwise p (w 4) hp))) (mulf (k0_pay11 q) (unpackElementwise p (w 5) hp)))
    (mulf (k0_pay12 q) (unpackElementwise p (w 6) hp))) (mulf (k0_pay13 q) (unpackElementwise p (w 7) hp))

/-- Eight blocks of 128 lanes side by side. -/
def glue (a b c d e f g h : FVec Ideal S256x128 .f32) : FVec Ideal S256x1024 .f32 :=
  concatenate S256x1024 1
    [⟨S256x128, a⟩, ⟨S256x128, b⟩, ⟨S256x128, c⟩, ⟨S256x128, d⟩, ⟨S256x128, e⟩, ⟨S256x128, f⟩, ⟨S256x128, g⟩, ⟨S256x128, h⟩]
    concatenates_S256x128_S256x128_S256x128_S256x128_S256x128_S256x128_S256x128_S256x128_S256x1024_d1

/-- The routed experts' weighted sum. -/
def routed (q : Vec Ideal S256x8 .f32) (w : Fin 8 → Fin 4 → Vec Ideal S256x128 .i32) : FVec Ideal S256x1024 .f32 :=
  glue (gather q (fun k => w k 0) 0 (by decide)) (gather q (fun k => w k 0) 1 (by decide))
    (gather q (fun k => w k 1) 0 (by decide)) (gather q (fun k => w k 1) 1 (by decide))
    (gather q (fun k => w k 2) 0 (by decide)) (gather q (fun k => w k 2) 1 (by decide))
    (gather q (fun k => w k 3) 0 (by decide)) (gather q (fun k => w k 3) 1 (by decide))

/-- The residual stream before its norm. -/
def stream (x : Vec Ideal S256x1024 .f32) (m : FVec Ideal S8x1024 .f32) (z : FVec Ideal S256x1024 .f32) :
    FVec Ideal S256x1024 .f32 :=
  addf (mulf (broadcast S256x1024 (Scalar.ofBits .f32 0x3FB504F3#32)) x)
    (mulf (broadcastTo S256x1024 (extractStridedSlice S1x1024 ![5, 0] m slices_S8x1024_o5_0_S1x1024)
      broadcasts_S1x1024_S256x1024) z)

/-- The last norm, with its gain and bias. -/
def finish (v : FVec Ideal S256x1024 .f32) (x7 x8 : Vec Ideal S1x1024 .f32) : FVec Ideal S256x1024 .f32 :=
  addf (mulf (normed v) (broadcastTo S256x1024 x7 broadcasts_S1x1024_S256x1024))
    (broadcastTo S256x1024 x8 broadcasts_S1x1024_S256x1024)

theorem finish_eq (v : FVec Ideal S256x1024 .f32) (x7 x8 : Vec Ideal S1x1024 .f32) :
    k0_pay1 (F := Ideal) v (multiReduction .add [1] S256 v 0x00000000#32 reduces_S256x1024_S256 (.inl rfl) rfl) x7 x8
      = finish v x7 x8 := by
  unfold k0_pay1
  simp only [shapeCast_self]
  rfl

/-- What the kernel stores, from its blocks and from the words that it loads. -/
def whole (x0 : Vec Ideal S256x1024 .f32) (x1 : Vec Ideal S1x8x1024 .f32) (w : Fin 8 → Fin 4 → Vec Ideal S256x128 .i32)
    (x3 : Vec Ideal S256x8 .f32) (x4 x5 : Vec Ideal S1024x256 .bf16) (x6 : Vec Ideal S256x1024 .bf16)
    (x7 x8 : Vec Ideal S1x1024 .f32) : FVec Ideal S256x1024 .f32 :=
  finish (stream x0 (k0_pay2 (F := Ideal) x1)
    (addf (k0_pay5 (F := Ideal) (k0_pay3 (F := Ideal) x0 x1 x4 x5) x6) (routed x3 w))) x7 x8

theorem gather_apply (q : Vec Ideal S256x8 .f32) (w : Fin 8 → Fin 4 → Vec Ideal S256x128 .i32) (a : Fin 4) (p : ℕ)
    (hp : p < 2) (i : Fin 256) (l : Fin 128) (j : Fin 1024) (hj : j.val = 256 * a.val + 128 * p + l.val) :
    gather q (fun k => w k a) p hp (ix2 i l) = ∑ k, q (ix2 i k) * lane (fun a l => w k a (ix2 i l)) j := by
  have ha : (⟨j.val / 256, by omega⟩ : Fin 4) = a := Fin.ext (by simp only []; omega)
  have hl : (⟨j.val % 128, by omega⟩ : Fin 128) = l := Fin.ext (by simp only []; omega)
  have hh : j.val / 128 % 2 = p := by omega
  unfold lane
  rw [ha, hl, hh, Fin.sum_univ_eight]
  pointwise [gather, k0_pay6, k0_pay7, k0_pay8, k0_pay9, k0_pay10, k0_pay11, k0_pay12, k0_pay13]

theorem routed_apply (q : Vec Ideal S256x8 .f32) (w : Fin 8 → Fin 4 → Vec Ideal S256x128 .i32) (i : Fin 256)
    (j : Fin 1024) : routed q w (ix2 i j) = ∑ k, q (ix2 i k) * lane (fun a l => w k a (ix2 i l)) j := by
  pointwise [routed, glue]
  split_ifs
  all_goals
    refine gather_apply q w _ _ _ i _ j ?_
    simp only []
    omega

/-- What the shared expert's products read. -/
def input (x0 : Vec Ideal S256x1024 .f32) (x1 : Vec Ideal S1x8x1024 .f32) : FVec Ideal S256x1024 .bf16 :=
  truncf .bf16 (addf (mulf (normed x0) (broadcastTo S256x1024
      (addf (broadcast S1x1024 (Scalar.ofBits .f32 0x3F800000#32))
        (extractStridedSlice S1x1024 ![4, 0] (k0_pay2 (F := Ideal) x1) slices_S8x1024_o4_0_S1x1024))
      broadcasts_S1x1024_S256x1024)) (broadcastTo S256x1024
        (extractStridedSlice S1x1024 ![3, 0] (k0_pay2 (F := Ideal) x1) slices_S8x1024_o3_0_S1x1024)
      broadcasts_S1x1024_S256x1024)) bitsLt_bf16_f32

theorem input_apply (x0 : Vec Ideal S256x1024 .f32) (x1 : Vec Ideal S1x8x1024 .f32) (i : Fin 256) (j : Fin 1024) :
    input x0 x1 (ix2 i j)
      = modulate (fun k => x0 (ix2 i k)) (fun k => x1 (ix3 0 3 k)) (fun k => x1 (ix3 0 4 k)) j := by
  pointwise [input, k0_pay2]
  simp only [normed_apply]
  rfl

/-- One of the shared expert's products. -/
def product (u : FVec Ideal S256x1024 .bf16) (g : FVec Ideal S1024x256 .bf16) : FVec Ideal S256x256 .f32 :=
  matmul dot_S256x1024_S1024x256_S256x256_1_0_0_1_n_n none u g (constant S256x256 .f32 0x00000000#32)

theorem shared_apply (x0 : Vec Ideal S256x1024 .f32) (x1 : Vec Ideal S1x8x1024 .f32) (x4 x5 : Vec Ideal S1024x256 .bf16)
    (x6 : Vec Ideal S256x1024 .bf16) (i : Fin 256) (j : Fin 1024) :
    k0_pay5 (F := Ideal) (k0_pay3 (F := Ideal) x0 x1 x4 x5) x6 (ix2 i j)
      = shared (modulate (fun k => x0 (ix2 i k)) (fun k => x1 (ix3 0 3 k)) (fun k => x1 (ix3 0 4 k)))
        (fun k f => x4 (ix2 k f)) (fun k f => x5 (ix2 k f)) (fun f k => x6 (ix2 f k)) j := by
  have e : k0_pay3 (F := Ideal) x0 x1 x4 x5
      = truncf .bf16 (mulf (mulf (product (input x0 x1) x4) (logistic (product (input x0 x1) x4)))
        (product (input x0 x1) x5)) bitsLt_bf16_f32 := by
    unfold k0_pay3
    simp only [shapeCast_self]
    rfl
  rw [e]
  pointwise [k0_pay5, product]
  simp only [input_apply]
  rfl

/-- The stored tile at an index. -/
theorem whole_apply (x0 : Vec Ideal S256x1024 .f32) (x1 : Vec Ideal S1x8x1024 .f32)
    (w : Fin 8 → Fin 4 → Vec Ideal S256x128 .i32) (x3 : Vec Ideal S256x8 .f32) (x4 x5 : Vec Ideal S1024x256 .bf16)
    (x6 : Vec Ideal S256x1024 .bf16) (x7 x8 : Vec Ideal S1x1024 .f32) (i : Fin 256) (j : Fin 1024) :
    whole x0 x1 w x3 x4 x5 x6 x7 x8 (ix2 i j)
      = norm (combined (fun k => x0 (ix2 i k)) (fun n k => x1 (ix3 0 n k))
          (fun k => lane fun a l => w k a (ix2 i l)) (fun k => x3 (ix2 i k))
          (fun k f => x4 (ix2 k f)) (fun k f => x5 (ix2 k f)) fun f k => x6 (ix2 f k)) j * x7 (ix2 0 j) + x8 (ix2 0 j) := by
  pointwise [whole, finish]
  simp only [normed_apply]
  have hs (k : Fin 1024) : stream x0 (k0_pay2 (F := Ideal) x1)
      (addf (k0_pay5 (F := Ideal) (k0_pay3 (F := Ideal) x0 x1 x4 x5) x6) (routed x3 w)) (ix2 i k)
      = combined (fun k => x0 (ix2 i k)) (fun n k => x1 (ix3 0 n k))
          (fun k => lane fun a l => w k a (ix2 i l)) (fun k => x3 (ix2 i k))
          (fun k f => x4 (ix2 k f)) (fun k f => x5 (ix2 k f)) (fun f k => x6 (ix2 f k)) k := by
    pointwise [stream, k0_pay2]
    rw [shared_apply, routed_apply]
    rfl
  simp only [hs]

end Cert.FinIdeal.Tile

end
-- ==== Proof.FinBlock.lean ====
/-
  What the last layer's channel mixing kernel leaves in its block of the result, from the blocks of its operands.
-/
module

public import proofs.«01_k».proof.Proof.FinTile
public import proofs.«01_k».proof.Proof.Gen.FinIdeal.Value
public import Idealize.ShloMosaic.Lib.WholeRead

@[expose] public section

set_option maxRecDepth 16384

noncomputable section

open Idealize.ShloMosaic

namespace Cert.FinIdeal.Tile

open Cert.FinIdeal Cert.FinIdeal.Gen Mixer
/-- Every fourth row from the row `a` of an expert's rows of words. -/
def slab (x : Vec Ideal S8x1024x128 .i32) (k : Fin 8) (a : Fin 4) : Vec Ideal S256x128 .i32 := fun y =>
  x (ix3 k ⟨4 * (y 0).val + a.val, by have : (y 0).val < 256 := (y 0).isLt; omega⟩ (y 1))

theorem part_fits (k : Fin 8) : ∀ a, (![k.val, 0, 0] : Fin 3 → ℕ) a + S1x1024x128.size a ≤ S8x1024x128.size a := by
  revert k; decide +kernel

theorem rows_fit (a : Fin 4) : ∀ b, S256x128.size b = 0
    ∨ (![a.val, 0] : Fin 2 → ℕ) b + (![4, 1] : Fin 2 → ℕ) b * (S256x128.size b - 1) < S1024x128.size b := by
  revert a; decide +kernel

/-- One of the kernel's loads of words. -/
def load (arg3 : Memref sig .tc .vmem S8x1024x128 .i32) (harg3 : arg3.IsWhole) (x : Vec Ideal S8x1024x128 .i32) (k : Fin 8)
    (a : Fin 4) : Vec Ideal S256x128 .i32 :=
  View.readAt (Elt Ideal) ((arg3.view.slice (Rect.unit (s := S8x1024x128) ![k.val, 0, 0] S1x1024x128.size (part_fits k))).reshape
    S1024x128 squeezes_S1x1024x128_S1024x128.numel_eq) (⟨![a.val, 0], S256x128.size, ![4, 1], rows_fit a⟩ : LoadRect S1024x128)
    (harg3.unread x)

/-- Where a load's element lies among an expert's rows. -/
theorem rows_idx (a : Fin 4) (i : Fin 256) (l : Fin 128) :
    (⟨![a.val, 0], S256x128.size, ![4, 1], rows_fit a⟩ : LoadRect S1024x128).idx (ix2 i l)
      = ix2 ⟨4 * i.val + a.val, by omega⟩ l := by
  funext b
  match b with
  | 0 => exact Fin.ext (Nat.add_comm _ _)
  | 1 => exact Fin.ext (by show 0 + 1 * l.val = l.val; omega)

theorem flat_apply (z : Vec Ideal S1x1024x128 .i32) (h : S1x1024x128.ShapeCasts S1024x128) (r : Fin 1024) (l : Fin 128) :
    shapeCast S1024x128 z h (ix2 r l) = z (ix3 0 r l) := by
  pointwise

theorem part_apply (x : Vec Ideal S8x1024x128 .i32) (k : Fin 8) (h : S1x1024x128.ShapeCasts S1024x128) (r : Fin 1024)
    (l : Fin 128) :
    shapeCast S1024x128 (View.ld x (Rect.unit (s := S8x1024x128) ![k.val, 0, 0] S1x1024x128.size (part_fits k))) h (ix2 r l)
      = x (ix3 k r l) := by
  refine (flat_apply _ h r l).trans (congrArg x (funext fun b => ?_))
  match b with
  | 0 => exact Fin.ext (by show k.val + 1 * 0 = k.val; omega)
  | 1 => exact Fin.ext (by show 0 + 1 * r.val = r.val; omega)
  | 2 => exact Fin.ext (by show 0 + 1 * l.val = l.val; omega)

theorem load_eq (arg3 : Memref sig .tc .vmem S8x1024x128 .i32) (harg3 : arg3.IsWhole) (x : Vec Ideal S8x1024x128 .i32) :
    load arg3 harg3 x = slab x := by
  funext k a y
  obtain ⟨i, l, rfl⟩ : ∃ (i : Fin 256) (l : Fin 128), y = ix2 i l := ⟨y 0, y 1, by funext b; fin_cases b <;> rfl⟩
  refine (harg3.readAt_slice_reshape_unread x _ _ _ _).trans ?_
  refine (congrArg (fun z => x (Rect.emb _ (Shape.reshapeEquiv _ z))) (rows_idx a i l)).trans ?_
  exact part_apply x k squeezes_S1x1024x128_S1024x128.numel_eq _ l

/-- What the kernel leaves in its block of the result. -/
theorem block_term (c : Dev nD) (i : grid0.Coords) (arg1 : Memref sig .tc .vmem S256x1024 .f32) (harg1 : arg1.IsWhole) (arg2 : Memref sig .tc .vmem S1x8x1024 .f32) (harg2 : arg2.IsWhole) (arg3 : Memref sig .tc .vmem S8x1024x128 .i32) (harg3 : arg3.IsWhole) (arg4 : Memref sig .tc .vmem S256x8 .f32) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S256x1024 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S256x1024 .f32) (harg10 : arg10.IsWhole)
    (x0 : Vec Ideal S256x1024 .f32) (x1 : Vec Ideal S1x8x1024 .f32) (x2 : Vec Ideal S8x1024x128 .i32) (x3 : Vec Ideal S256x8 .f32) (x4 : Vec Ideal S1024x256 .bf16) (x5 : Vec Ideal S1024x256 .bf16) (x6 : Vec Ideal S256x1024 .bf16) (x7 : Vec Ideal S1x1024 .f32) (x8 : Vec Ideal S1x1024 .f32) :
    out0_A_9 c i arg1 harg1 arg2 harg2 arg3 harg3 arg4 harg4 arg5 harg5 arg6 harg6 arg7 harg7 arg8 harg8 arg9 harg9 arg10 harg10 x0 x1 x2 x3 x4 x5 x6 x7 x8
      = whole x0 x1 (slab x2) x3 x4 x5 x6 x7 x8 := by
  rw [← load_eq arg3 harg3]
  unfold out0_A_9
  funext y
  rw [View.read_writes_eq_canon _ _ _ (fun y => cover0_A_9 _ _ _ _ _ _ _ _ _ _ _ _ _ _ _ _ _ _ _ _ _ _ _ _ _ _ _ _ _ _ _ y)]
  unfold kernelRun0_A
  dsimp only
  sl_unfold_words
  simp only [View.readAt_eq_ld, harg1.read_unread, harg2.read_unread, harg4.read_unread, harg5.read_unread,
    harg6.read_unread, harg7.read_unread, harg8.read_unread, harg9.read_unread]
  rw [View.canon_unit_zero (by funext a; fin_cases a <;> rfl)]
  rw [View.ld_unit_zero (by funext a; fin_cases a <;> rfl) _ x0, View.ld_unit_zero (by funext a; fin_cases a <;> rfl) _ x1,
    View.ld_unit_zero (by funext a; fin_cases a <;> rfl) _ x3, View.ld_unit_zero (by funext a; fin_cases a <;> rfl) _ x4,
    View.ld_unit_zero (by funext a; fin_cases a <;> rfl) _ x5, View.ld_unit_zero (by funext a; fin_cases a <;> rfl) _ x6,
    View.ld_unit_zero (by funext a; fin_cases a <;> rfl) _ x7, View.ld_unit_zero (by funext a; fin_cases a <;> rfl) _ x8]
  unfold k0_pay85
  rw [finish_eq]
  unfold whole k0_pay84 k0_pay4
  rw [shapeCast_self]
  refine congrFun (congrArg (fun v => finish v x7 x8) (congrArg (stream x0 _) (congrArg (addf _) ?_))) y
  refine Eq.trans (b := glue _ _ _ _ _ _ _ _) rfl ?_
  unfold routed
  congr 1

end Cert.FinIdeal.Tile

end
-- ==== Proof.FinArray.lean ====
/-
  The last layer's channel mixing kernel over its grid: the array that it leaves, from the arrays it is given.
-/
module

public import proofs.«01_k».proof.Proof.FinBlock

@[expose] public section

set_option maxRecDepth 16384

noncomputable section

open Idealize.ShloMosaic Idealize.ShloMosaic.TcCoe

namespace Cert.FinIdeal.Tile

open Cert.FinIdeal Cert.FinIdeal.Gen Mixer

/-- Which block of its operand each window holds at a grid point. -/
theorem index_maps : ∀ t : Fin cfg0.N,
    win0_0.index t = ![(grid0.coords t 0).val, 0] ∧ win0_1.index t = ![(grid0.coords t 0).val / 8, 0, 0]
      ∧ win0_2.index t = ![0, (grid0.coords t 0).val, 0] ∧ win0_3.index t = ![(grid0.coords t 0).val, 0]
      ∧ win0_9.index t = ![(grid0.coords t 0).val, 0] := by
  decide +kernel

/-- The weights' windows hold them whole. -/
theorem weight_maps : ∀ t : Fin cfg0.N,
    win0_4.index t = ![0, 0] ∧ win0_5.index t = ![0, 0] ∧ win0_6.index t = ![0, 0] ∧ win0_7.index t = ![0, 0]
      ∧ win0_8.index t = ![0, 0] := by
  decide +kernel

variable (m : (ℓ : Loc nD τ sig) → Buf (Elt Ideal) ℓ) (c : Dev nD)

/-! ## The weights as the kernel is given them -/

theorem entry_gate (k : Fin 1024) (f : Fin 256) :
    V m c main_v0 (ix2 k f) = m ((c : Thread nD τ).loc main_arg4) (ix2 k f) := by
  entry_read
  pointwise

theorem entry_up (k : Fin 1024) (f : Fin 256) :
    V m c main_v1 (ix2 k f) = m ((c : Thread nD τ).loc main_arg5) (ix2 k f) := by
  entry_read
  pointwise

theorem entry_down (f : Fin 256) (k : Fin 1024) :
    V m c main_v2 (ix2 f k) = m ((c : Thread nD τ).loc main_arg6) (ix2 f k) := by
  entry_read
  pointwise

theorem entry_gain (k : Fin 1024) : V m c main_v3 (ix2 0 k) = m ((c : Thread nD τ).loc main_arg7) (ix1 k) := by
  entry_read
  pointwise

theorem entry_bias (k : Fin 1024) : V m c main_v4 (ix2 0 k) = m ((c : Thread nD τ).loc main_arg8) (ix1 k) := by
  entry_read
  pointwise

/-! ## The blocks of a grid point -/

/-- A grid point's block of words holds 1024 rows of every expert's. -/
theorem words_block (t : Fin cfg0.N) (k : Fin 8) (p : Fin 1024) (l : Fin 128) (q : Fin 65792)
    (hq : q.val = 1024 * (grid0.coords t 0).val + p.val) :
    X0_2 m c t (ix3 k p l) = m ((c : Thread nD τ).loc main_arg2) (ix3 k q l) := by
  obtain ⟨e0, e1, e2, e3, e9⟩ := index_maps t
  unfold X0_2
  unfold Pipeline.Window.fill
  rw [dif_pos (moved0_2 t _)]
  blk_ext [iblk, V, e2, hq]

/-- The array the kernel leaves. -/
theorem array9 : (dats m 0 c).arrAt 9 cfg0.N = fun x : S16384x1024.Idx =>
    final (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (x 0) (x 1) := by
  refine (dats m 0 c).arrAt_eq_of_covers 9 _ (by decide +kernel) fun t hf y => ?_
  blk_simp
  rw [after0_9]
  simp only [outsAt0]
  obtain ⟨e0, e1, e2, e3, e9⟩ := index_maps t
  obtain ⟨e4, e5, e6, e7, e8⟩ := weight_maps t
  have hk : (grid0.coords t 0).val < 64 := (grid0.coords t 0).isLt
  obtain ⟨a, b, rfl⟩ : ∃ (a : Fin 256) (b : Fin 1024), y = ix2 a b := ⟨y 0, y 1, by funext d; fin_cases d <;> rfl⟩
  have a0 : ((View.whole main_v5).slice (win0_9.rect t)).emb (ix2 a b) 0 = (⟨256 * (grid0.coords t 0).val + a.val, by omega⟩ : Fin 16384) :=
    Fin.ext (by
      blk_simp [e9]
      show (grid0.coords t 0).val * 256 + a.val = 256 * (grid0.coords t 0).val + a.val
      omega)
  have a1 : ((View.whole main_v5).slice (win0_9.rect t)).emb (ix2 a b) 1 = (⟨b.val, by omega⟩ : Fin 1024) :=
    Fin.ext (by
      blk_simp [e9])
  rw [a0, a1, block_term]
  refine (whole_apply _ _ _ _ _ _ _ _ _ a b).trans ?_
  have g0 (j : Fin 1024) : iblk m c 0 t (ix2 a j)
      = m ((c : Thread nD τ).loc main_arg0) (ix2 ⟨256 * (grid0.coords t 0).val + a.val, by omega⟩ j) := by
    blk_ext [iblk, V, e0]
  have g1 (n : Fin 8) (j : Fin 1024) : iblk m c 1 t (ix3 0 n j)
      = m ((c : Thread nD τ).loc main_arg1) (ix3 ⟨(256 * (grid0.coords t 0).val + a.val) / 2048, by omega⟩ n j) := by
    have hb : (256 * (grid0.coords t 0).val + a.val) / 2048 = (grid0.coords t 0).val / 8 := by omega
    simp only [hb]
    blk_ext [iblk, V, e1]
  have g2 (n : Fin 8) (p : Fin 4) (l : Fin 128) : slab (X0_2 m c t) n p (ix2 a l)
      = m ((c : Thread nD τ).loc main_arg2) (ix3 n ⟨4 * (256 * (grid0.coords t 0).val + a.val) + p.val, by omega⟩ l) :=
    words_block m c t n _ l _ (by simp only []; show _ = _ + (4 * a.val + p.val); omega)
  have g3 (n : Fin 8) : iblk m c 3 t (ix2 a n)
      = m ((c : Thread nD τ).loc main_arg3) (ix2 ⟨256 * (grid0.coords t 0).val + a.val, by omega⟩ n) := by
    blk_ext [iblk, V, e3]
  have g4 (k : Fin 1024) (f : Fin 256) : iblk m c 4 t (ix2 k f) = m ((c : Thread nD τ).loc main_arg4) (ix2 k f) := by
    rw [← entry_gate m c]
    blk_ext [iblk, e4]
  have g5 (k : Fin 1024) (f : Fin 256) : iblk m c 5 t (ix2 k f) = m ((c : Thread nD τ).loc main_arg5) (ix2 k f) := by
    rw [← entry_up m c]
    blk_ext [iblk, e5]
  have g6 (f : Fin 256) (k : Fin 1024) : iblk m c 6 t (ix2 f k) = m ((c : Thread nD τ).loc main_arg6) (ix2 f k) := by
    rw [← entry_down m c]
    blk_ext [iblk, e6]
  have g7 (k : Fin 1024) : iblk m c 7 t (ix2 0 k) = m ((c : Thread nD τ).loc main_arg7) (ix1 k) := by
    rw [← entry_gain m c]
    blk_ext [iblk, e7]
  have g8 (k : Fin 1024) : iblk m c 8 t (ix2 0 k) = m ((c : Thread nD τ).loc main_arg8) (ix1 k) := by
    rw [← entry_bias m c]
    blk_ext [iblk, e8]
  simp only [g0, g1, g2, g3, g4, g5, g6, g7, g8]
  rfl

end Cert.FinIdeal.Tile

end
-- ==== Proof.FinRef.lean ====
/-
  The reference of the last layer's channel mixing, read at a latent token.
-/
module

public import proofs.«01_k».proof.Proof.FinRow
public import proofs.«01_k».proof.Proof.LatRef
public import proofs.«01_k».proof.Proof.Gen.FinRefIdeal.Read
public import Idealize.ShloMosaic.Lib.BitcastConvert

@[expose] public section

set_option maxRecDepth 16384

noncomputable section

open Idealize.ShloMosaic

namespace Cert.FinRefIdeal.Result

open Cert.FinRefIdeal Cert.FinRefIdeal.Gen Cert.FinRefIdeal.Read Mixer
open Cert.LatRefIdeal.Result (rowNorm rowNorm_apply rowModulate rowModulate_apply params params_apply)

variable (x0 : FVec Ideal S16384x1024 .f32) (x1 : FVec Ideal S9x8x1024 .f32) (x2 : Vec Ideal S8x65792x128 .i32)
  (x3 : FVec Ideal S16384x8 .f32) (x4 x5 : FVec Ideal S1024x256 .f32) (x6 : FVec Ideal S256x1024 .f32)
  (x7 x8 : FVec Ideal S1024 .f32)

/-- The modulation row `n` of a token's image. -/
def row (n : Fin 8) (r : Fin 16384) (j : Fin 1024) : EReal := x1 (ix3 ⟨r.val / 2048, by omega⟩ n j)

theorem param3 (r : Fin 16384) (j : Fin 1024) : val_main_v30 (F := Ideal) x1 (ix2 r j) = row x1 3 r j := by
  have e : val_main_v30 (F := Ideal) x1 = params (extractStridedSlice S8x1x1024 ![0, 3, 0] x1
      slices_S9x8x1024_S8x1x1024_0_3_0) := rfl
  rw [e, params_apply]
  pointwise
  rfl

theorem param4 (r : Fin 16384) (j : Fin 1024) : val_main_v22 (F := Ideal) x1 (ix2 r j) = row x1 4 r j := by
  have e : val_main_v22 (F := Ideal) x1 = params (extractStridedSlice S8x1x1024 ![0, 4, 0] x1
      slices_S9x8x1024_S8x1x1024_0_4_0) := rfl
  rw [e, params_apply]
  pointwise
  rfl

theorem param5 (r : Fin 16384) (j : Fin 1024) : val_main_v54 (F := Ideal) x1 (ix2 r j) = row x1 5 r j := by
  have e : val_main_v54 (F := Ideal) x1 = params (extractStridedSlice S8x1x1024 ![0, 5, 0] x1
      slices_S9x8x1024_S8x1x1024_0_5_0) := rfl
  rw [e, params_apply]
  pointwise
  rfl

/-- What the shared expert's products read. -/
theorem input_ref (r : Fin 16384) (j : Fin 1024) :
    val_main_v31 (F := Ideal) x0 x1 (ix2 r j) = modulate (fun k => x0 (ix2 r k)) (row x1 3 r) (row x1 4 r) j := by
  have e : val_main_v31 (F := Ideal) x0 x1
      = rowModulate x0 (val_main_v30 (F := Ideal) x1) (val_main_v22 (F := Ideal) x1) := rfl
  rw [e, rowModulate_apply]
  simp only [param3, param4]

/-- The logistic function of an array. -/
theorem logistic_ref (r : Fin 16384) (f : Fin 256) :
    val_main_call0_v5 (F := Ideal) x0 x1 x4 (ix2 r f) = Ideal.logistic (val_main_v32 (F := Ideal) x0 x1 x4 (ix2 r f)) := by
  pointwise [val_main_call0_v5, val_main_call0_v4, val_main_call0_cst_0, val_main_call0_v3, val_main_call0_v2,
    val_main_call0_cst, val_main_call0_v1, val_main_call0_v0]
  rfl

theorem shared_ref (r : Fin 16384) (j : Fin 1024) :
    val_main_v36 (F := Ideal) x0 x1 x4 x5 x6 (ix2 r j)
      = shared (modulate (fun k => x0 (ix2 r k)) (row x1 3 r) (row x1 4 r)) (fun k f => x4 (ix2 k f))
        (fun k f => x5 (ix2 k f)) (fun f k => x6 (ix2 f k)) j := by
  pointwise [val_main_v36, val_main_v35, val_main_v33]
  simp only [logistic_ref]
  pointwise [val_main_v32, val_main_v34]
  simp only [input_ref]
  rfl

/-- A lane of an expert's output of a token. -/
theorem lane_ref (k : Fin 8) (r : Fin 16384) (j : Fin 1024) :
    val_main_v42 (F := Ideal) x2 (ix3 k r j) = lane (fun a l => x2 (ix3 k ⟨4 * r.val + a.val, by omega⟩ l)) j := by
  pointwise [val_main_v42, val_main_v41, val_main_v40, val_main_v39, val_main_v38, val_main_v37]
  unfold lane
  refine congrArg (Ideal.ofBits .bf16) (congrArg (BitVec.extractLsb' _ 16) (congrArg x2 (funext fun b => Fin.ext ?_)))
  rw [Shape.SplitsWords.drop_apply_val]
  match b with
  | 0 => rfl
  | 1 => show r.val * 4 + j.val / 256 = 4 * r.val + j.val / 256; omega
  | 2 => rfl

theorem sum_ref (z : FVec Ideal S8x16384x1024 .f32) (r : Fin 16384) (j : Fin 1024) :
    Host.reduceAdd z (val_main_cst_5 (F := Ideal)) reducesTo_S8x16384x1024_S16384x1024_d0 h_S_ (ix2 r j)
      = ∑ k, z (ix3 k r j) := by
  pointwise [val_main_cst_5]

theorem weight_ref (k : Fin 8) (r : Fin 16384) (j : Fin 1024) :
    val_main_v45 (F := Ideal) x3 (ix3 k r j) = x3 (ix2 r k) := by
  pointwise [val_main_v45, val_main_v44, val_main_v43]

theorem routed_ref (r : Fin 16384) (j : Fin 1024) :
    val_main_v47 (F := Ideal) x2 x3 (ix2 r j)
      = ∑ k, x3 (ix2 r k) * lane (fun a l => x2 (ix3 k ⟨4 * r.val + a.val, by omega⟩ l)) j := by
  refine (sum_ref _ r j).trans (Finset.sum_congr rfl fun k _ => ?_)
  pointwise [val_main_v46]
  rw [weight_ref, lane_ref]

/-- The residual stream. -/
theorem stream_ref (r : Fin 16384) (j : Fin 1024) :
    val_main_v57 (F := Ideal) x0 x1 x2 x3 x4 x5 x6 (ix2 r j)
      = combined (fun k => x0 (ix2 r k)) (fun n k => row x1 n r k)
        (fun n => lane fun a l => x2 (ix3 n ⟨4 * r.val + a.val, by omega⟩ l)) (fun n => x3 (ix2 r n))
        (fun k f => x4 (ix2 k f)) (fun k f => x5 (ix2 k f)) (fun f k => x6 (ix2 f k)) j := by
  pointwise [val_main_v57, val_main_v56, val_main_v55, val_main_v49, val_main_v48, val_main_cst_6]
  simp only [param5, shared_ref, routed_ref]
  rfl

/-- The result. -/
theorem final_ref (r : Fin 16384) (j : Fin 1024) :
    val_main_v81 (F := Ideal) x0 x1 x2 x3 x4 x5 x6 x7 x8 (ix2 r j) = final x0 x1 x2 x3 x4 x5 x6 x7 x8 r j := by
  have e : val_main_v75 (F := Ideal) x0 x1 x2 x3 x4 x5 x6 = rowNorm (val_main_v57 (F := Ideal) x0 x1 x2 x3 x4 x5 x6) := rfl
  pointwise [val_main_v81, val_main_v80, val_main_v79, val_main_v78, val_main_v77, val_main_v76]
  rw [e, rowNorm_apply]
  simp only [stream_ref]
  rfl

theorem result : val_main_v81 (F := Ideal) x0 x1 x2 x3 x4 x5 x6 x7 x8 = fun x : S16384x1024.Idx =>
    final x0 x1 x2 x3 x4 x5 x6 x7 x8 (x 0) (x 1) := by
  funext x
  obtain ⟨r, j, rfl⟩ : ∃ (r : Fin 16384) (j : Fin 1024), x = ix2 r j := ⟨x 0, x 1, by funext a; fin_cases a <;> rfl⟩
  exact final_ref x0 x1 x2 x3 x4 x5 x6 x7 x8 r j

end Cert.FinRefIdeal.Result

end
-- ==== Proof.FinClaim.lean ====
/-
  The claim for the last layer's channel mixing: the idealized kernel and the reference leave the same array, for any
  arguments.
-/
module

public import proofs.«01_k».proof.Defs
public import proofs.«01_k».proof.Proof.FinArray
public import proofs.«01_k».proof.Proof.FinRef

@[expose] public section

set_option maxRecDepth 16384

noncomputable section

open Idealize.ShloMosaic Idealize.ShloMosaic.TcCoe Idealize.SL.Sem

namespace Cert.FinClaim

/-- The idealized kernel and the reference leave the same array. -/
theorem claim : Cert.algebraic_FinIdeal_FinRefIdeal := by
  intro m g m' g' _ ha
  refine ⟨fun c => (Cert.FinIdeal.Gen.dats m 0 c).arrAt 9 Cert.FinIdeal.cfg0.N,
    Cert.FinIdeal.Value.run_blocks m g, ?_⟩
  refine (θ_run _ _ _).mono (fun r h c => ⟨(h c).1.trans ?_, (h c).2⟩) (Cert.FinRefIdeal.Value.run m' g')
  refine (Cert.FinRefIdeal.Read.val_main_v81_eq _ _).trans ?_
  rw [(ha c).1, (ha c).2.1, (ha c).2.2.1, (ha c).2.2.2.1, (ha c).2.2.2.2.1, (ha c).2.2.2.2.2.1, (ha c).2.2.2.2.2.2.1,
    (ha c).2.2.2.2.2.2.2.1, (ha c).2.2.2.2.2.2.2.2]
  exact (Cert.FinRefIdeal.Result.result _ _ _ _ _ _ _ _ _).trans (Cert.FinIdeal.Tile.array9 m c).symm

/-- The reference's run keeps its arguments and ends with every counter at zero. -/
theorem reference_frame : Cert.quiescent_FinRefIdeal := fun m g _ =>
  (θ_run Cert.FinRefIdeal.defs _ _).mono
    (fun r h => ⟨fun c => (h c).2, Idealize.ShloMosaic.sem_eq_zero_of_no_sems (by decide) r.2⟩)
    (Cert.FinRefIdeal.Value.run (F := Ideal) m g)

end Cert.FinClaim

end
-- ==== Proof.lean ====
/- The assembly of the certificate: the facts that the programs state come from the generated modules, the frames
   from them as well, and what the calls compute from `Cert.DiffClaim`, `Cert.GqaClaim`, `Cert.MixClaim`,
   `Cert.LatClaim`, `Cert.InpClaim` and `Cert.FinClaim`. -/
module

public import proofs.«01_k».proof.Defs
public import proofs.«01_k».proof.Proof.Gen.Diff
public import proofs.«01_k».proof.Proof.Gen.Diff.Frame
public import proofs.«01_k».proof.Proof.Gen.DiffIdeal
public import proofs.«01_k».proof.Proof.Gen.DiffIdeal.Frame
public import proofs.«01_k».proof.Proof.Gen.DiffIdeal.Value
public import proofs.«01_k».proof.Proof.Gen.DiffRefIdeal
public import proofs.«01_k».proof.Proof.Gen.DiffRefIdeal.Run
public import proofs.«01_k».proof.Proof.Gen.DiffRefIdeal.Read
public import proofs.«01_k».proof.Proof.Gen.Pre_diff_finite
public import proofs.«01_k».proof.Proof.Gen.Gqa
public import proofs.«01_k».proof.Proof.Gen.Gqa.Frame
public import proofs.«01_k».proof.Proof.Gen.GqaIdeal
public import proofs.«01_k».proof.Proof.Gen.GqaIdeal.Frame
public import proofs.«01_k».proof.Proof.Gen.GqaIdeal.Value
public import proofs.«01_k».proof.Proof.Gen.GqaRefIdeal
public import proofs.«01_k».proof.Proof.Gen.GqaRefIdeal.Run
public import proofs.«01_k».proof.Proof.Gen.GqaRefIdeal.Read
public import proofs.«01_k».proof.Proof.Gen.Pre_gqa_finite
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixIdeal.Value
public import proofs.«01_k».proof.Proof.Gen.MixRefIdeal
public import proofs.«01_k».proof.Proof.Gen.MixRefIdeal.Run
public import proofs.«01_k».proof.Proof.Gen.MixRefIdeal.Read
public import proofs.«01_k».proof.Proof.Gen.Lat
public import proofs.«01_k».proof.Proof.Gen.Lat.Frame
public import proofs.«01_k».proof.Proof.Gen.LatIdeal
public import proofs.«01_k».proof.Proof.Gen.LatIdeal.Frame
public import proofs.«01_k».proof.Proof.Gen.LatIdeal.Value
public import proofs.«01_k».proof.Proof.Gen.LatRefIdeal
public import proofs.«01_k».proof.Proof.Gen.LatRefIdeal.Run
public import proofs.«01_k».proof.Proof.Gen.LatRefIdeal.Read
public import proofs.«01_k».proof.Proof.Gen.Inp
public import proofs.«01_k».proof.Proof.Gen.Inp.Frame
public import proofs.«01_k».proof.Proof.Gen.InpIdeal
public import proofs.«01_k».proof.Proof.Gen.InpIdeal.Frame
public import proofs.«01_k».proof.Proof.Gen.InpIdeal.Value
public import proofs.«01_k».proof.Proof.Gen.InpRefIdeal
public import proofs.«01_k».proof.Proof.Gen.InpRefIdeal.Run
public import proofs.«01_k».proof.Proof.Gen.InpRefIdeal.Read
public import proofs.«01_k».proof.Proof.Gen.Fin
public import proofs.«01_k».proof.Proof.Gen.Fin.Frame
public import proofs.«01_k».proof.Proof.Gen.FinIdeal
public import proofs.«01_k».proof.Proof.Gen.FinIdeal.Frame
public import proofs.«01_k».proof.Proof.Gen.FinIdeal.Value
public import proofs.«01_k».proof.Proof.Gen.FinRefIdeal
public import proofs.«01_k».proof.Proof.Gen.FinRefIdeal.Run
public import proofs.«01_k».proof.Proof.Gen.FinRefIdeal.Read
public import proofs.«01_k».proof.Proof.DiffClaim
public import proofs.«01_k».proof.Proof.GqaClaim
public import proofs.«01_k».proof.Proof.MixClaim
public import proofs.«01_k».proof.Proof.LatClaim
public import proofs.«01_k».proof.Proof.InpClaim
public import proofs.«01_k».proof.Proof.FinClaim
public import Idealize.ShloMosaic.Adequacy
public import Idealize.ShloMosaic.Init

@[expose] public section

noncomputable section

namespace Cert.Proof

open Idealize.ShloMosaic Idealize.SL.Sem

/-- The whole claim, part by part. -/
theorem claim : Cert.Claim :=
  ⟨Cert.Diff.Gen.facts, Cert.DiffIdeal.Gen.facts, Cert.DiffRefIdeal.Gen.facts, Cert.Gqa.Gen.facts,
    Cert.GqaIdeal.Gen.facts, Cert.GqaRefIdeal.Gen.facts,
    Cert.Mix.Gen.facts, Cert.MixIdeal.Gen.facts, Cert.MixRefIdeal.Gen.facts,
    Cert.Lat.Gen.facts, Cert.LatIdeal.Gen.facts, Cert.LatRefIdeal.Gen.facts,
    Cert.Inp.Gen.facts, Cert.InpIdeal.Gen.facts, Cert.InpRefIdeal.Gen.facts,
    Cert.Fin.Gen.facts, Cert.FinIdeal.Gen.facts, Cert.FinRefIdeal.Gen.facts, Cert.Pre_diff_finite.Gen.facts, Cert.Pre_gqa_finite.Gen.facts,
    fun m ρ _ => Cert.Diff.Gen.frame m ρ, fun m ρ _ => Cert.DiffIdeal.Gen.frame m ρ,
    fun m ρ _ => Cert.DiffIdeal.Gen.frame m ρ, Cert.DiffClaim.reference_frame,
    Cert.DiffClaim.reference_frame_finite, fun m ρ _ => Cert.Gqa.Gen.frame m ρ, fun m ρ _ => Cert.GqaIdeal.Gen.frame m ρ,
    fun m ρ _ => Cert.GqaIdeal.Gen.frame m ρ, Cert.GqaClaim.reference_frame, Cert.GqaClaim.reference_frame_finite,
    fun m ρ _ => Cert.Mix.Gen.frame m ρ, fun m ρ _ => Cert.MixIdeal.Gen.frame m ρ, Cert.MixClaim.reference_frame,
    fun m ρ _ => Cert.Lat.Gen.frame m ρ, fun m ρ _ => Cert.LatIdeal.Gen.frame m ρ, Cert.LatClaim.reference_frame,
    fun m ρ _ => Cert.Inp.Gen.frame m ρ, fun m ρ _ => Cert.InpIdeal.Gen.frame m ρ, Cert.InpClaim.reference_frame,
    fun m ρ _ => Cert.Fin.Gen.frame m ρ, fun m ρ _ => Cert.FinIdeal.Gen.frame m ρ, Cert.FinClaim.reference_frame,
    trivial, Cert.DiffClaim.claim, trivial, Cert.GqaClaim.claim, trivial, Cert.MixClaim.claim, trivial, Cert.LatClaim.claim, trivial, Cert.InpClaim.claim,
    trivial, Cert.FinClaim.claim⟩

end Cert.Proof

end
